-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192 : Shape := ⟨1, ![8192]⟩
abbrev S1024x4003 : Shape := ⟨2, ![1024, 4003]⟩
abbrev S1024x256 : Shape := ⟨2, ![1024, 256]⟩
abbrev S256x16000 : Shape := ⟨2, ![256, 16000]⟩
abbrev S1024x64 : Shape := ⟨2, ![1024, 64]⟩
abbrev S64x40000 : Shape := ⟨2, ![64, 40000]⟩
abbrev S1024x16 : Shape := ⟨2, ![1024, 16]⟩
abbrev S16x40000 : Shape := ⟨2, ![16, 40000]⟩
abbrev S_ : Shape := ⟨0, ![]⟩
abbrev S1024x4096 : Shape := ⟨2, ![1024, 4096]⟩
abbrev S256x16384 : Shape := ⟨2, ![256, 16384]⟩
abbrev S64x40960 : Shape := ⟨2, ![64, 40960]⟩
abbrev S16x40960 : Shape := ⟨2, ![16, 40960]⟩
abbrev S32x256 : Shape := ⟨2, ![32, 256]⟩
abbrev S32x1x256 : Shape := ⟨3, ![32, 1, 256]⟩
abbrev S8192x512 : Shape := ⟨2, ![8192, 512]⟩
abbrev S32x8x256 : Shape := ⟨3, ![32, 8, 256]⟩
abbrev S256x1024 : Shape := ⟨2, ![256, 1024]⟩
abbrev S1x1x256 : Shape := ⟨3, ![1, 1, 256]⟩
abbrev S256x512 : Shape := ⟨2, ![256, 512]⟩
abbrev S1x8x256 : Shape := ⟨3, ![1, 8, 256]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S256x16 : Shape := ⟨2, ![256, 16]⟩
abbrev S1x128 : Shape := ⟨2, ![1, 128]⟩
abbrev S256x2048 : Shape := ⟨2, ![256, 2048]⟩
abbrev S64x2048 : Shape := ⟨2, ![64, 2048]⟩
abbrev S16x2048 : Shape := ⟨2, ![16, 2048]⟩
abbrev S3x8192x128 : Shape := ⟨3, ![3, 8192, 128]⟩
abbrev S1x2048 : Shape := ⟨2, ![1, 2048]⟩
abbrev S1x256 : Shape := ⟨2, ![1, 256]⟩
abbrev S256x128 : Shape := ⟨2, ![256, 128]⟩
abbrev S1x256x128 : Shape := ⟨3, ![1, 256, 128]⟩
abbrev S128 : Shape := ⟨1, ![128]⟩
abbrev S2x128 : Shape := ⟨2, ![2, 128]⟩
abbrev S1 : Shape := ⟨1, ![1]⟩
abbrev S1x1 : Shape := ⟨2, ![1, 1]⟩

abbrev nBuf : Space → Nat
  | .hbm => 35
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x4003, .f32⟩
  | .hbm, ⟨3, _⟩ => ⟨S1024x256, .f32⟩
  | .hbm, ⟨4, _⟩ => ⟨S256x16000, .f32⟩
  | .hbm, ⟨5, _⟩ => ⟨S1024x64, .f32⟩
  | .hbm, ⟨6, _⟩ => ⟨S64x40000, .f32⟩
  | .hbm, ⟨7, _⟩ => ⟨S1024x16, .f32⟩
  | .hbm, ⟨8, _⟩ => ⟨S16x40000, .f32⟩
  | .hbm, ⟨9, _⟩ => ⟨S_, .i32⟩
  | .hbm, ⟨10, _⟩ => ⟨S_, .f32⟩
  | .hbm, ⟨11, _⟩ => ⟨S1024x4096, .f32⟩
  | .hbm, ⟨12, _⟩ => ⟨S1024x4096, .bf16⟩
  | .hbm, ⟨13, _⟩ => ⟨S1024x256, .bf16⟩
  | .hbm, ⟨14, _⟩ => ⟨S1024x64, .bf16⟩
  | .hbm, ⟨15, _⟩ => ⟨S1024x16, .bf16⟩
  | .hbm, ⟨16, _⟩ => ⟨S_, .i32⟩
  | .hbm, ⟨17, _⟩ => ⟨S_, .f32⟩
  | .hbm, ⟨18, _⟩ => ⟨S256x16384, .f32⟩
  | .hbm, ⟨19, _⟩ => ⟨S256x16384, .bf16⟩
  | .hbm, ⟨20, _⟩ => ⟨S_, .i32⟩
  | .hbm, ⟨21, _⟩ => ⟨S_, .f32⟩
  | .hbm, ⟨22, _⟩ => ⟨S64x40960, .f32⟩
  | .hbm, ⟨23, _⟩ => ⟨S64x40960, .bf16⟩
  | .hbm, ⟨24, _⟩ => ⟨S_, .i32⟩
  | .hbm, ⟨25, _⟩ => ⟨S_, .f32⟩
  | .hbm, ⟨26, _⟩ => ⟨S16x40960, .f32⟩
  | .hbm, ⟨27, _⟩ => ⟨S16x40960, .bf16⟩
  | .hbm, ⟨28, _⟩ => ⟨S32x256, .i32⟩
  | .hbm, ⟨29, _⟩ => ⟨S32x1x256, .i32⟩
  | .hbm, ⟨30, _⟩ => ⟨S8192x512, .bf16⟩
  | .hbm, ⟨31, _⟩ => ⟨S32x8x256, .f32⟩
  | .hbm, ⟨32, _⟩ => ⟨S1x128, .f32⟩
  | .hbm, ⟨33, _⟩ => ⟨S1x1, .f32⟩
  | .hbm, ⟨34, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1024x256, .bf16⟩
  | .local _ .vmem, ⟨4, _⟩ => ⟨S1024x64, .bf16⟩
  | .local _ .vmem, ⟨5, _⟩ => ⟨S1024x16, .bf16⟩
  | .local _ .vmem, ⟨6, _⟩ => ⟨S1x1x256, .i32⟩
  | .local _ .vmem, ⟨7, _⟩ => ⟨S1x1x256, .i32⟩
  | .local _ .vmem, ⟨8, _⟩ => ⟨S256x512, .bf16⟩
  | .local _ .vmem, ⟨9, _⟩ => ⟨S256x512, .bf16⟩
  | .local _ .vmem, ⟨10, _⟩ => ⟨S1x8x256, .f32⟩
  | .local _ .vmem, ⟨11, _⟩ => ⟨S1x8x256, .f32⟩
  | .local _ .vmem, ⟨12, _⟩ => ⟨S32x256, .i32⟩
  | .local _ .vmem, ⟨13, _⟩ => ⟨S32x8x256, .f32⟩
  | .local _ .vmem, ⟨14, _⟩ => ⟨S8192x512, .bf16⟩
  | .local _ .vmem, ⟨15, _⟩ => ⟨S256x2048, .bf16⟩
  | .local _ .vmem, ⟨16, _⟩ => ⟨S256x2048, .bf16⟩
  | .local _ .vmem, ⟨17, _⟩ => ⟨S64x2048, .bf16⟩
  | .local _ .vmem, ⟨18, _⟩ => ⟨S64x2048, .bf16⟩
  | .local _ .vmem, ⟨19, _⟩ => ⟨S16x2048, .bf16⟩
  | .local _ .vmem, ⟨20, _⟩ => ⟨S16x2048, .bf16⟩
  | .local _ .vmem, ⟨21, _⟩ => ⟨S1x128, .f32⟩
  | .local _ .vmem, ⟨22, _⟩ => ⟨S3x8192x128, .f32⟩
  | .local _ .vmem, ⟨23, _⟩ => ⟨S3x8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![3, 20], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_cond2 (i : grid1.Coords) : BitVec 1 :=
  let arg1 : BitVec 32 := BitVec.ofNat 32 (i 1).val
  let c8_i32 : BitVec 32 := 8#32
  let v15 : BitVec 1 := Scalar.cmpi .slt arg1 c8_i32
  let v16 : BitVec 32 := Scalar.extui v15
  let c0_i32_5 : BitVec 32 := 0#32
  let v17 : BitVec 1 := Scalar.cmpi .ne v16 c0_i32_5
  v17

@[reducible] def k1_t1_loop : Scf.Loop 32 :=
  let c0_i32_7 : BitVec 32 := 0#32
  let c32_i32 : BitVec 32 := 32#32
  let v21 : BitVec 32 := Scalar.addi c0_i32_7 c32_i32
  let c1_i32_8 : BitVec 32 := 1#32
  ⟨c0_i32_7, v21, c1_i32_8⟩
def k1_off1 (k1_t1 : Fin k1_t1_loop.trips) : Fin 2 → Nat :=
  let c0_i32_7 : BitVec 32 := 0#32
  let c1_i32_8 : BitVec 32 := 1#32
  let arg11 : BitVec 32 := Scf.iv c0_i32_7 c1_i32_8 k1_t1
  let c256_i32 : BitVec 32 := 256#32
  let v22 : BitVec 32 := Scalar.muli arg11 c256_i32
  let v23 : Index := Scalar.indexCast v22
  let c0_10 : Index := 0#32
  ![v23.toNat, 0]
def k1_off2 (k1_t1 : Fin k1_t1_loop.trips) : Fin 2 → Nat :=
  let c0_i32_7 : BitVec 32 := 0#32
  let c1_i32_8 : BitVec 32 := 1#32
  let arg11 : BitVec 32 := Scf.iv c0_i32_7 c1_i32_8 k1_t1
  let v27 : Index := Scalar.indexCast arg11
  let c0_11 : Index := 0#32
  ![v27.toNat, 0]
def k1_off3 (k1_t1 : Fin k1_t1_loop.trips) : Fin 3 → Nat :=
  let c0_16 : Index := 0#32
  let c0_i32_7 : BitVec 32 := 0#32
  let c1_i32_8 : BitVec 32 := 1#32
  let arg11 : BitVec 32 := Scf.iv c0_i32_7 c1_i32_8 k1_t1
  let c256_i32_14 : BitVec 32 := 256#32
  let v107 : BitVec 32 := Scalar.muli arg11 c256_i32_14
  let v109 : Index := Scalar.indexCast v107
  let c0_17 : Index := 0#32
  ![0, v109.toNat, 0]
def k1_cond3 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_cond4 (i : grid1.Coords) : BitVec 1 :=
  let arg1 : BitVec 32 := BitVec.ofNat 32 (i 1).val
  let c20_i32 : BitVec 32 := 20#32
  let v15 : BitVec 1 := Scalar.cmpi .slt arg1 c20_i32
  let v16 : BitVec 32 := Scalar.extui v15
  let c0_i32_5 : BitVec 32 := 0#32
  let v17 : BitVec 1 := Scalar.cmpi .ne v16 c0_i32_5
  v17

@[reducible] def k1_t2_loop : Scf.Loop 32 :=
  let c0_i32_7 : BitVec 32 := 0#32
  let c32_i32 : BitVec 32 := 32#32
  let v21 : BitVec 32 := Scalar.addi c0_i32_7 c32_i32
  let c1_i32_8 : BitVec 32 := 1#32
  ⟨c0_i32_7, v21, c1_i32_8⟩
def k1_off4 (k1_t2 : Fin k1_t2_loop.trips) : Fin 2 → Nat :=
  let c0_i32_7 : BitVec 32 := 0#32
  let c1_i32_8 : BitVec 32 := 1#32
  let arg11 : BitVec 32 := Scf.iv c0_i32_7 c1_i32_8 k1_t2
  let c256_i32 : BitVec 32 := 256#32
  let v22 : BitVec 32 := Scalar.muli arg11 c256_i32
  let v23 : Index := Scalar.indexCast v22
  let c256 : Index := 256#32
  ![v23.toNat, 256]
def k1_off5 (k1_t2 : Fin k1_t2_loop.trips) : Fin 2 → Nat :=
  let c0_i32_7 : BitVec 32 := 0#32
  let c1_i32_8 : BitVec 32 := 1#32
  let arg11 : BitVec 32 := Scf.iv c0_i32_7 c1_i32_8 k1_t2
  let v27 : Index := Scalar.indexCast arg11
  let c0_10 : Index := 0#32
  ![v27.toNat, 0]
def k1_off6 (k1_t2 : Fin k1_t2_loop.trips) : Fin 3 → Nat :=
  let c1 : Index := 1#32
  let c0_i32_7 : BitVec 32 := 0#32
  let c1_i32_8 : BitVec 32 := 1#32
  let arg11 : BitVec 32 := Scf.iv c0_i32_7 c1_i32_8 k1_t2
  let c256_i32_13 : BitVec 32 := 256#32
  let v107 : BitVec 32 := Scalar.muli arg11 c256_i32_13
  let v109 : Index := Scalar.indexCast v107
  let c0_15 : Index := 0#32
  ![1, v109.toNat, 0]
def k1_cond5 (i : grid1.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k1_cond6 (i : grid1.Coords) : BitVec 1 :=
  let arg1 : BitVec 32 := BitVec.ofNat 32 (i 1).val
  let c20_i32 : BitVec 32 := 20#32
  let v15 : BitVec 1 := Scalar.cmpi .slt arg1 c20_i32
  let v16 : BitVec 32 := Scalar.extui v15
  let c0_i32_5 : BitVec 32 := 0#32
  let v17 : BitVec 1 := Scalar.cmpi .ne v16 c0_i32_5
  v17

@[reducible] def k1_t3_loop : Scf.Loop 32 :=
  let c0_i32_7 : BitVec 32 := 0#32
  let c32_i32 : BitVec 32 := 32#32
  let v21 : BitVec 32 := Scalar.addi c0_i32_7 c32_i32
  let c1_i32_8 : BitVec 32 := 1#32
  ⟨c0_i32_7, v21, c1_i32_8⟩
def k1_off7 (k1_t3 : Fin k1_t3_loop.trips) : Fin 2 → Nat :=
  let c0_i32_7 : BitVec 32 := 0#32
  let c1_i32_8 : BitVec 32 := 1#32
  let arg11 : BitVec 32 := Scf.iv c0_i32_7 c1_i32_8 k1_t3
  let c256_i32 : BitVec 32 := 256#32
  let v22 : BitVec 32 := Scalar.muli arg11 c256_i32
  let v23 : Index := Scalar.indexCast v22
  let c384 : Index := 384#32
  ![v23.toNat, 384]
def k1_off8 (k1_t3 : Fin k1_t3_loop.trips) : Fin 2 → Nat :=
  let c0_i32_7 : BitVec 32 := 0#32
  let c1_i32_8 : BitVec 32 := 1#32
  let arg11 : BitVec 32 := Scf.iv c0_i32_7 c1_i32_8 k1_t3
  let v27 : Index := Scalar.indexCast arg11
  let c0_10 : Index := 0#32
  ![v27.toNat, 0]
def k1_off9 (k1_t3 : Fin k1_t3_loop.trips) : Fin 3 → Nat :=
  let c2 : Index := 2#32
  let c0_i32_7 : BitVec 32 := 0#32
  let c1_i32_8 : BitVec 32 := 1#32
  let arg11 : BitVec 32 := Scf.iv c0_i32_7 c1_i32_8 k1_t3
  let c256_i32_13 : BitVec 32 := 256#32
  let v107 : BitVec 32 := Scalar.muli arg11 c256_i32_13
  let v109 : Index := Scalar.indexCast v107
  let c0_15 : Index := 0#32
  ![2, v109.toNat, 0]
def k1_cond7 (i : grid1.Coords) : BitVec 1 :=
  let arg0 : BitVec 32 := BitVec.ofNat 32 (i 0).val
  let c2_i32_3 : BitVec 32 := 2#32
  let v10 : BitVec 1 := Scalar.cmpi .eq arg0 c2_i32_3
  let arg1 : BitVec 32 := BitVec.ofNat 32 (i 1).val
  let c19_i32 : BitVec 32 := 19#32
  let v11 : BitVec 1 := Scalar.cmpi .eq arg1 c19_i32
  let v12 : BitVec 1 := Scalar.andi v10 v11
  let v13 : BitVec 32 := Scalar.extui v12
  let c0_i32_4 : BitVec 32 := 0#32
  let v14 : BitVec 1 := Scalar.cmpi .ne v13 c0_i32_4
  v14

@[reducible] def k1_t4_loop : Scf.Loop 32 :=
  let c0_i32_5 : BitVec 32 := 0#32
  let c32_i32 : BitVec 32 := 32#32
  let v16 : BitVec 32 := Scalar.addi c0_i32_5 c32_i32
  let c1_i32_6 : BitVec 32 := 1#32
  ⟨c0_i32_5, v16, c1_i32_6⟩
def k1_off10 (k1_t4 : Fin k1_t4_loop.trips) : Fin 2 → Nat :=
  let c0_i32_5 : BitVec 32 := 0#32
  let c1_i32_6 : BitVec 32 := 1#32
  let arg11 : BitVec 32 := Scf.iv c0_i32_5 c1_i32_6 k1_t4
  let v27 : Index := Scalar.indexCast arg11
  let c0_11 : Index := 0#32
  ![v27.toNat, 0]
def k1_off11 (k1_t4 : Fin k1_t4_loop.trips) : Fin 3 → Nat :=
  let c0_i32_5 : BitVec 32 := 0#32
  let c1_i32_6 : BitVec 32 := 1#32
  let arg11 : BitVec 32 := Scf.iv c0_i32_5 c1_i32_6 k1_t4
  let v31 : Index := Scalar.indexCast arg11
  let c0_12 : Index := 0#32
  let c0_13 : Index := 0#32
  ![v31.toNat, 0, 0]
def k1_off12 (k1_t4 : Fin k1_t4_loop.trips) : Fin 3 → Nat :=
  let c0_i32_5 : BitVec 32 := 0#32
  let c1_i32_6 : BitVec 32 := 1#32
  let arg11 : BitVec 32 := Scf.iv c0_i32_5 c1_i32_6 k1_t4
  let v34 : Index := Scalar.indexCast arg11
  let c1 : Index := 1#32
  let c0_14 : Index := 0#32
  ![v34.toNat, 1, 0]
def k1_off13 (k1_t4 : Fin k1_t4_loop.trips) : Fin 3 → Nat :=
  let c0_15 : Index := 0#32
  let c0_i32_5 : BitVec 32 := 0#32
  let c1_i32_6 : BitVec 32 := 1#32
  let arg11 : BitVec 32 := Scf.iv c0_i32_5 c1_i32_6 k1_t4
  let c256_i32 : BitVec 32 := 256#32
  let v30 : BitVec 32 := Scalar.muli arg11 c256_i32
  let v38 : Index := Scalar.indexCast v30
  let c0_16 : Index := 0#32
  ![0, v38.toNat, 0]
def k1_off14 (k1_t4 : Fin k1_t4_loop.trips) : Fin 3 → Nat :=
  let c0_i32_5 : BitVec 32 := 0#32
  let c1_i32_6 : BitVec 32 := 1#32
  let arg11 : BitVec 32 := Scf.iv c0_i32_5 c1_i32_6 k1_t4
  let v48 : Index := Scalar.indexCast arg11
  let c2 : Index := 2#32
  let c0_22 : Index := 0#32
  ![v48.toNat, 2, 0]
def k1_off15 (k1_t4 : Fin k1_t4_loop.trips) : Fin 3 → Nat :=
  let c1_23 : Index := 1#32
  let c0_i32_5 : BitVec 32 := 0#32
  let c1_i32_6 : BitVec 32 := 1#32
  let arg11 : BitVec 32 := Scf.iv c0_i32_5 c1_i32_6 k1_t4
  let c256_i32 : BitVec 32 := 256#32
  let v30 : BitVec 32 := Scalar.muli arg11 c256_i32
  let v61 : Index := Scalar.indexCast v30
  let c0_24 : Index := 0#32
  ![1, v61.toNat, 0]
def k1_off16 (k1_t4 : Fin k1_t4_loop.trips) : Fin 3 → Nat :=
  let c0_i32_5 : BitVec 32 := 0#32
  let c1_i32_6 : BitVec 32 := 1#32
  let arg11 : BitVec 32 := Scf.iv c0_i32_5 c1_i32_6 k1_t4
  let v71 : Index := Scalar.indexCast arg11
  let c3 : Index := 3#32
  let c0_30 : Index := 0#32
  ![v71.toNat, 3, 0]
def k1_off17 (k1_t4 : Fin k1_t4_loop.trips) : Fin 3 → Nat :=
  let c2_32 : Index := 2#32
  let c0_i32_5 : BitVec 32 := 0#32
  let c1_i32_6 : BitVec 32 := 1#32
  let arg11 : BitVec 32 := Scf.iv c0_i32_5 c1_i32_6 k1_t4
  let c256_i32 : BitVec 32 := 256#32
  let v30 : BitVec 32 := Scalar.muli arg11 c256_i32
  let v84 : Index := Scalar.indexCast v30
  let c0_33 : Index := 0#32
  ![2, v84.toNat, 0]
def k1_off18 (k1_t4 : Fin k1_t4_loop.trips) : Fin 3 → Nat :=
  let c0_i32_5 : BitVec 32 := 0#32
  let c1_i32_6 : BitVec 32 := 1#32
  let arg11 : BitVec 32 := Scf.iv c0_i32_5 c1_i32_6 k1_t4
  let v94 : Index := Scalar.indexCast arg11
  let c4 : Index := 4#32
  let c0_39 : Index := 0#32
  ![v94.toNat, 4, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c0_i32_0 : BitVec 32 := 0#32
  let v2 : BitVec 32 := Scalar.select v0 v1 c0_i32_0
  let c0_i32_1 : BitVec 32 := 0#32
  let c0_i32_2 : BitVec 32 := 0#32
  ![c0_i32_1.toNat, v2.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x256 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S32x8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S16x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]
-- ==== ReferenceIdeal.lean ====
abbrev S8192x1024 : Shape := ⟨2, ![8192, 1024]⟩
abbrev S8192 : Shape := ⟨1, ![8192]⟩
abbrev S1024x4003 : Shape := ⟨2, ![1024, 4003]⟩
abbrev S1024x256 : Shape := ⟨2, ![1024, 256]⟩
abbrev S256x16000 : Shape := ⟨2, ![256, 16000]⟩
abbrev S1024x64 : Shape := ⟨2, ![1024, 64]⟩
abbrev S64x40000 : Shape := ⟨2, ![64, 40000]⟩
abbrev S1024x16 : Shape := ⟨2, ![1024, 16]⟩
abbrev S16x40000 : Shape := ⟨2, ![16, 40000]⟩
abbrev S8192x4003 : Shape := ⟨2, ![8192, 4003]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x256 : Shape := ⟨2, ![8192, 256]⟩
abbrev S8192x16000 : Shape := ⟨2, ![8192, 16000]⟩
abbrev S8192x64 : Shape := ⟨2, ![8192, 64]⟩
abbrev S8192x40000 : Shape := ⟨2, ![8192, 40000]⟩
abbrev S8192x16 : Shape := ⟨2, ![8192, 16]⟩

abbrev nBuf : Space → Nat
  | .hbm => 275
  | .vmem => 0
  | .smem => 0
  | _ => 0

abbrev hbmTy0_0 (i : Nat) : BufTy := match i % 128 with
  | 0 => ⟨S8192x1024, .f32⟩
  | 1 => ⟨S8192, .i32⟩
  | 2 => ⟨S1024x4003, .f32⟩
  | 3 => ⟨S1024x256, .f32⟩
  | 4 => ⟨S256x16000, .f32⟩
  | 5 => ⟨S1024x64, .f32⟩
  | 6 => ⟨S64x40000, .f32⟩
  | 7 => ⟨S1024x16, .f32⟩
  | 8 => ⟨S16x40000, .f32⟩
  | 9 => ⟨S8192x4003, .f32⟩
  | 10 => ⟨S_, .f32⟩
  | 11 => ⟨S8192, .f32⟩
  | 12 => ⟨S8192x1, .f32⟩
  | 13 => ⟨S8192x1, .f32⟩
  | 14 => ⟨S_, .f32⟩
  | 15 => ⟨S8192x1, .f32⟩
  | 16 => ⟨S8192x1, .i1⟩
  | 17 => ⟨S_, .f32⟩
  | 18 => ⟨S_, .f32⟩
  | 19 => ⟨S8192x1, .f32⟩
  | 20 => ⟨S8192x1, .f32⟩
  | 21 => ⟨S8192x4003, .f32⟩
  | 22 => ⟨S8192x4003, .f32⟩
  | 23 => ⟨S8192x4003, .f32⟩
  | 24 => ⟨S_, .f32⟩
  | 25 => ⟨S8192, .f32⟩
  | 26 => ⟨S8192x1, .f32⟩
  | 27 => ⟨S8192x1, .f32⟩
  | 28 => ⟨S8192x1, .f32⟩
  | 29 => ⟨S8192x4003, .f32⟩
  | 30 => ⟨S8192x4003, .f32⟩
  | 31 => ⟨S_, .i32⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192x1, .i32⟩
  | 40 => ⟨S_, .i32⟩
  | 41 => ⟨S8192x1, .i32⟩
  | 42 => ⟨S8192x1, .i1⟩
  | 43 => ⟨S_, .i32⟩
  | 44 => ⟨S8192x1, .i32⟩
  | 45 => ⟨S8192x1, .i32⟩
  | 46 => ⟨S8192x1, .i32⟩
  | 47 => ⟨S8192x1x1, .i32⟩
  | 48 => ⟨S1, .i32⟩
  | 49 => ⟨S_, .i32⟩
  | 50 => ⟨S8192x1x1, .i32⟩
  | 51 => ⟨S8192x1x1, .i1⟩
  | 52 => ⟨S1x1x1, .i32⟩
  | 53 => ⟨S8192x1x1, .i32⟩
  | 54 => ⟨S8192x1x1, .i1⟩
  | 55 => ⟨S8192x1x1, .i1⟩
  | 56 => ⟨S_, .i1⟩
  | 57 => ⟨S8192x1, .i1⟩
  | 58 => ⟨S8192x1, .f32⟩
  | 59 => ⟨S_, .f32⟩
  | 60 => ⟨S8192x1, .f32⟩
  | 61 => ⟨S8192x1, .f32⟩
  | 62 => ⟨S8192, .f32⟩
  | 63 => ⟨S8192x256, .f32⟩
  | 64 => ⟨S8192x16000, .f32⟩
  | 65 => ⟨S_, .f32⟩
  | 66 => ⟨S8192, .f32⟩
  | 67 => ⟨S8192x1, .f32⟩
  | 68 => ⟨S8192x1, .f32⟩
  | 69 => ⟨S_, .f32⟩
  | 70 => ⟨S8192x1, .f32⟩
  | 71 => ⟨S8192x1, .i1⟩
  | 72 => ⟨S_, .f32⟩
  | 73 => ⟨S_, .f32⟩
  | 74 => ⟨S8192x1, .f32⟩
  | 75 => ⟨S8192x1, .f32⟩
  | 76 => ⟨S8192x16000, .f32⟩
  | 77 => ⟨S8192x16000, .f32⟩
  | 78 => ⟨S8192x16000, .f32⟩
  | 79 => ⟨S_, .f32⟩
  | 80 => ⟨S8192, .f32⟩
  | 81 => ⟨S8192x1, .f32⟩
  | 82 => ⟨S8192x1, .f32⟩
  | 83 => ⟨S8192x1, .f32⟩
  | 84 => ⟨S8192x16000, .f32⟩
  | 85 => ⟨S8192x16000, .f32⟩
  | 86 => ⟨S_, .i32⟩
  | 87 => ⟨S8192, .i32⟩
  | 88 => ⟨S8192, .i32⟩
  | 89 => ⟨S_, .i32⟩
  | 90 => ⟨S_, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192x1, .f32⟩
  | 98 => ⟨S8192, .f32⟩
  | 99 => ⟨S8192x1, .i32⟩
  | 100 => ⟨S_, .i32⟩
  | 101 => ⟨S8192x1, .i32⟩
  | 102 => ⟨S8192x1, .i1⟩
  | 103 => ⟨S_, .i32⟩
  | 104 => ⟨S8192x1, .i32⟩
  | 105 => ⟨S8192x1, .i32⟩
  | 106 => ⟨S8192x1, .i32⟩
  | 107 => ⟨S8192x1x1, .i32⟩
  | 108 => ⟨S1, .i32⟩
  | 109 => ⟨S_, .i32⟩
  | 110 => ⟨S8192x1x1, .i32⟩
  | 111 => ⟨S8192x1x1, .i1⟩
  | 112 => ⟨S1x1x1, .i32⟩
  | 113 => ⟨S8192x1x1, .i32⟩
  | 114 => ⟨S8192x1x1, .i1⟩
  | 115 => ⟨S8192x1x1, .i1⟩
  | 116 => ⟨S_, .i1⟩
  | 117 => ⟨S8192x1, .i1⟩
  | 118 => ⟨S8192x1, .f32⟩
  | 119 => ⟨S_, .f32⟩
  | 120 => ⟨S8192x1, .f32⟩
  | 121 => ⟨S8192x1, .f32⟩
  | 122 => ⟨S8192, .f32⟩
  | 123 => ⟨S8192, .f32⟩
  | 124 => ⟨S_, .i32⟩
  | 125 => ⟨S8192, .i32⟩
  | 126 => ⟨S8192, .i1⟩
  | 127 => ⟨S_, .i32⟩
  | _ => ⟨S8192x1024, .f32⟩

abbrev hbmTy0_1 (i : Nat) : BufTy := match i % 128 with
  | 0 => ⟨S8192, .i32⟩
  | 1 => ⟨S8192, .i1⟩
  | 2 => ⟨S8192, .i1⟩
  | 3 => ⟨S8192, .f32⟩
  | 4 => ⟨S8192x64, .f32⟩
  | 5 => ⟨S8192x40000, .f32⟩
  | 6 => ⟨S_, .f32⟩
  | 7 => ⟨S8192, .f32⟩
  | 8 => ⟨S8192x1, .f32⟩
  | 9 => ⟨S8192x1, .f32⟩
  | 10 => ⟨S_, .f32⟩
  | 11 => ⟨S8192x1, .f32⟩
  | 12 => ⟨S8192x1, .i1⟩
  | 13 => ⟨S_, .f32⟩
  | 14 => ⟨S_, .f32⟩
  | 15 => ⟨S8192x1, .f32⟩
  | 16 => ⟨S8192x1, .f32⟩
  | 17 => ⟨S8192x40000, .f32⟩
  | 18 => ⟨S8192x40000, .f32⟩
  | 19 => ⟨S8192x40000, .f32⟩
  | 20 => ⟨S_, .f32⟩
  | 21 => ⟨S8192, .f32⟩
  | 22 => ⟨S8192x1, .f32⟩
  | 23 => ⟨S8192x1, .f32⟩
  | 24 => ⟨S8192x1, .f32⟩
  | 25 => ⟨S8192x40000, .f32⟩
  | 26 => ⟨S8192x40000, .f32⟩
  | 27 => ⟨S_, .i32⟩
  | 28 => ⟨S8192, .i32⟩
  | 29 => ⟨S8192, .i32⟩
  | 30 => ⟨S_, .i32⟩
  | 31 => ⟨S_, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192x1, .f32⟩
  | 39 => ⟨S8192, .f32⟩
  | 40 => ⟨S8192x1, .i32⟩
  | 41 => ⟨S_, .i32⟩
  | 42 => ⟨S8192x1, .i32⟩
  | 43 => ⟨S8192x1, .i1⟩
  | 44 => ⟨S_, .i32⟩
  | 45 => ⟨S8192x1, .i32⟩
  | 46 => ⟨S8192x1, .i32⟩
  | 47 => ⟨S8192x1, .i32⟩
  | 48 => ⟨S8192x1x1, .i32⟩
  | 49 => ⟨S1, .i32⟩
  | 50 => ⟨S_, .i32⟩
  | 51 => ⟨S8192x1x1, .i32⟩
  | 52 => ⟨S8192x1x1, .i1⟩
  | 53 => ⟨S1x1x1, .i32⟩
  | 54 => ⟨S8192x1x1, .i32⟩
  | 55 => ⟨S8192x1x1, .i1⟩
  | 56 => ⟨S8192x1x1, .i1⟩
  | 57 => ⟨S_, .i1⟩
  | 58 => ⟨S8192x1, .i1⟩
  | 59 => ⟨S8192x1, .f32⟩
  | 60 => ⟨S_, .f32⟩
  | 61 => ⟨S8192x1, .f32⟩
  | 62 => ⟨S8192x1, .f32⟩
  | 63 => ⟨S8192, .f32⟩
  | 64 => ⟨S8192, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i1⟩
  | 71 => ⟨S8192, .i1⟩
  | 72 => ⟨S8192, .f32⟩
  | 73 => ⟨S8192x16, .f32⟩
  | 74 => ⟨S8192x40000, .f32⟩
  | 75 => ⟨S_, .f32⟩
  | 76 => ⟨S8192, .f32⟩
  | 77 => ⟨S8192x1, .f32⟩
  | 78 => ⟨S8192x1, .f32⟩
  | 79 => ⟨S_, .f32⟩
  | 80 => ⟨S8192x1, .f32⟩
  | 81 => ⟨S8192x1, .i1⟩
  | 82 => ⟨S_, .f32⟩
  | 83 => ⟨S_, .f32⟩
  | 84 => ⟨S8192x1, .f32⟩
  | 85 => ⟨S8192x1, .f32⟩
  | 86 => ⟨S8192x40000, .f32⟩
  | 87 => ⟨S8192x40000, .f32⟩
  | 88 => ⟨S8192x40000, .f32⟩
  | 89 => ⟨S_, .f32⟩
  | 90 => ⟨S8192, .f32⟩
  | 91 => ⟨S8192x1, .f32⟩
  | 92 => ⟨S8192x1, .f32⟩
  | 93 => ⟨S8192x1, .f32⟩
  | 94 => ⟨S8192x40000, .f32⟩
  | 95 => ⟨S8192x40000, .f32⟩
  | 96 => ⟨S_, .i32⟩
  | 97 => ⟨S8192, .i32⟩
  | 98 => ⟨S8192, .i32⟩
  | 99 => ⟨S_, .i32⟩
  | 100 => ⟨S_, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192x1, .f32⟩
  | 108 => ⟨S8192, .f32⟩
  | 109 => ⟨S8192x1, .i32⟩
  | 110 => ⟨S_, .i32⟩
  | 111 => ⟨S8192x1, .i32⟩
  | 112 => ⟨S8192x1, .i1⟩
  | 113 => ⟨S_, .i32⟩
  | 114 => ⟨S8192x1, .i32⟩
  | 115 => ⟨S8192x1, .i32⟩
  | 116 => ⟨S8192x1, .i32⟩
  | 117 => ⟨S8192x1x1, .i32⟩
  | 118 => ⟨S1, .i32⟩
  | 119 => ⟨S_, .i32⟩
  | 120 => ⟨S8192x1x1, .i32⟩
  | 121 => ⟨S8192x1x1, .i1⟩
  | 122 => ⟨S1x1x1, .i32⟩
  | 123 => ⟨S8192x1x1, .i32⟩
  | 124 => ⟨S8192x1x1, .i1⟩
  | 125 => ⟨S8192x1x1, .i1⟩
  | 126 => ⟨S_, .i1⟩
  | 127 => ⟨S8192x1, .i1⟩
  | _ => ⟨S8192x1024, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192, .f32⟩
  | 5 => ⟨S8192, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i1⟩
  | 12 => ⟨S8192, .i1⟩
  | 13 => ⟨S8192, .f32⟩
  | 14 => ⟨S_, .f32⟩
  | 15 => ⟨S_, .f32⟩
  | 16 => ⟨S_, .f32⟩
  | 17 => ⟨S_, .f32⟩
  | 18 => ⟨S_, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v16 : Ref sig .tc := ⟨.hbm, 38, rfl⟩
abbrev main_v17 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_5 : Ref sig .tc := ⟨.hbm, 69, rfl⟩
abbrev main_v25 : Ref sig .tc := ⟨.hbm, 70, rfl⟩
abbrev main_v26 : Ref sig .tc := ⟨.hbm, 71, rfl⟩
abbrev main_cst_6 : Ref sig .tc := ⟨.hbm, 72, rfl⟩
abbrev main_call3_v0 : Ref sig .tc := ⟨.hbm, 73, rfl⟩
abbrev main_call3_v1 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_7 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_8 : Ref sig .tc := ⟨.hbm, 86, rfl⟩
abbrev main_v37 : Ref sig .tc := ⟨.hbm, 87, rfl⟩
abbrev main_v38 : Ref sig .tc := ⟨.hbm, 88, rfl⟩
abbrev main_c_9 : Ref sig .tc := ⟨.hbm, 89, rfl⟩
abbrev main_c_10 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_c_1 : Ref sig .tc := ⟨.hbm, 108, rfl⟩
abbrev main_call5_c_2 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_c_3 : Ref sig .tc := ⟨.hbm, 116, rfl⟩
abbrev main_call5_v12 : Ref sig .tc := ⟨.hbm, 117, rfl⟩
abbrev main_call5_v13 : Ref sig .tc := ⟨.hbm, 118, rfl⟩
abbrev main_call5_cst : Ref sig .tc := ⟨.hbm, 119, rfl⟩
abbrev main_call5_v14 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_c_11 : Ref sig .tc := ⟨.hbm, 124, rfl⟩
abbrev main_v46 : Ref sig .tc := ⟨.hbm, 125, rfl⟩
abbrev main_v47 : Ref sig .tc := ⟨.hbm, 126, rfl⟩
abbrev main_c_12 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_13 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_cst_14 : Ref sig .tc := ⟨.hbm, 138, rfl⟩
abbrev main_v57 : Ref sig .tc := ⟨.hbm, 139, rfl⟩
abbrev main_v58 : Ref sig .tc := ⟨.hbm, 140, rfl⟩
abbrev main_cst_15 : Ref sig .tc := ⟨.hbm, 141, rfl⟩
abbrev main_call7_v0 : Ref sig .tc := ⟨.hbm, 142, rfl⟩
abbrev main_call7_v1 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_cst_16 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_c_17 : Ref sig .tc := ⟨.hbm, 155, rfl⟩
abbrev main_v69 : Ref sig .tc := ⟨.hbm, 156, rfl⟩
abbrev main_v70 : Ref sig .tc := ⟨.hbm, 157, rfl⟩
abbrev main_c_18 : Ref sig .tc := ⟨.hbm, 158, rfl⟩
abbrev main_c_19 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_call9_c : Ref sig .tc := ⟨.hbm, 169, rfl⟩
abbrev main_call9_v0 : Ref sig .tc := ⟨.hbm, 170, rfl⟩
abbrev main_call9_v1 : Ref sig .tc := ⟨.hbm, 171, rfl⟩
abbrev main_call9_c_0 : Ref sig .tc := ⟨.hbm, 172, rfl⟩
abbrev main_call9_v2 : Ref sig .tc := ⟨.hbm, 173, rfl⟩
abbrev main_call9_v3 : Ref sig .tc := ⟨.hbm, 174, rfl⟩
abbrev main_call9_v4 : Ref sig .tc := ⟨.hbm, 175, rfl⟩
abbrev main_call9_v5 : Ref sig .tc := ⟨.hbm, 176, rfl⟩
abbrev main_call9_c_1 : Ref sig .tc := ⟨.hbm, 177, rfl⟩
abbrev main_call9_c_2 : Ref sig .tc := ⟨.hbm, 178, rfl⟩
abbrev main_call9_v6 : Ref sig .tc := ⟨.hbm, 179, rfl⟩
abbrev main_call9_v7 : Ref sig .tc := ⟨.hbm, 180, rfl⟩
abbrev main_call9_v8 : Ref sig .tc := ⟨.hbm, 181, rfl⟩
abbrev main_call9_v9 : Ref sig .tc := ⟨.hbm, 182, rfl⟩
abbrev main_call9_v10 : Ref sig .tc := ⟨.hbm, 183, rfl⟩
abbrev main_call9_v11 : Ref sig .tc := ⟨.hbm, 184, rfl⟩
abbrev main_call9_c_3 : Ref sig .tc := ⟨.hbm, 185, rfl⟩
abbrev main_call9_v12 : Ref sig .tc := ⟨.hbm, 186, rfl⟩
abbrev main_call9_v13 : Ref sig .tc := ⟨.hbm, 187, rfl⟩
abbrev main_call9_cst : Ref sig .tc := ⟨.hbm, 188, rfl⟩
abbrev main_call9_v14 : Ref sig .tc := ⟨.hbm, 189, rfl⟩
abbrev main_v75 : Ref sig .tc := ⟨.hbm, 190, rfl⟩
abbrev main_v76 : Ref sig .tc := ⟨.hbm, 191, rfl⟩
abbrev main_v77 : Ref sig .tc := ⟨.hbm, 192, rfl⟩
abbrev main_c_20 : Ref sig .tc := ⟨.hbm, 193, rfl⟩
abbrev main_v78 : Ref sig .tc := ⟨.hbm, 194, rfl⟩
abbrev main_v79 : Ref sig .tc := ⟨.hbm, 195, rfl⟩
abbrev main_c_21 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_cst_22 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_cst_23 : Ref sig .tc := ⟨.hbm, 207, rfl⟩
abbrev main_v89 : Ref sig .tc := ⟨.hbm, 208, rfl⟩
abbrev main_v90 : Ref sig .tc := ⟨.hbm, 209, rfl⟩
abbrev main_cst_24 : Ref sig .tc := ⟨.hbm, 210, rfl⟩
abbrev main_call11_v0 : Ref sig .tc := ⟨.hbm, 211, rfl⟩
abbrev main_call11_v1 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_cst_25 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_c_26 : Ref sig .tc := ⟨.hbm, 224, rfl⟩
abbrev main_v101 : Ref sig .tc := ⟨.hbm, 225, rfl⟩
abbrev main_v102 : Ref sig .tc := ⟨.hbm, 226, rfl⟩
abbrev main_c_27 : Ref sig .tc := ⟨.hbm, 227, rfl⟩
abbrev main_c_28 : Ref sig .tc := ⟨.hbm, 228, rfl⟩
abbrev main_call12_v0 : Ref sig .tc := ⟨.hbm, 229, rfl⟩
abbrev main_call12_v1 : Ref sig .tc := ⟨.hbm, 230, rfl⟩
abbrev main_call12_v2 : Ref sig .tc := ⟨.hbm, 231, rfl⟩
abbrev main_call12_v3 : Ref sig .tc := ⟨.hbm, 232, rfl⟩
abbrev main_call12_v4 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_call13_c : Ref sig .tc := ⟨.hbm, 238, rfl⟩
abbrev main_call13_v0 : Ref sig .tc := ⟨.hbm, 239, rfl⟩
abbrev main_call13_v1 : Ref sig .tc := ⟨.hbm, 240, rfl⟩
abbrev main_call13_c_0 : Ref sig .tc := ⟨.hbm, 241, rfl⟩
abbrev main_call13_v2 : Ref sig .tc := ⟨.hbm, 242, rfl⟩
abbrev main_call13_v3 : Ref sig .tc := ⟨.hbm, 243, rfl⟩
abbrev main_call13_v4 : Ref sig .tc := ⟨.hbm, 244, rfl⟩
abbrev main_call13_v5 : Ref sig .tc := ⟨.hbm, 245, rfl⟩
abbrev main_call13_c_1 : Ref sig .tc := ⟨.hbm, 246, rfl⟩
abbrev main_call13_c_2 : Ref sig .tc := ⟨.hbm, 247, rfl⟩
abbrev main_call13_v6 : Ref sig .tc := ⟨.hbm, 248, rfl⟩
abbrev main_call13_v7 : Ref sig .tc := ⟨.hbm, 249, rfl⟩
abbrev main_call13_v8 : Ref sig .tc := ⟨.hbm, 250, rfl⟩
abbrev main_call13_v9 : Ref sig .tc := ⟨.hbm, 251, rfl⟩
abbrev main_call13_v10 : Ref sig .tc := ⟨.hbm, 252, rfl⟩
abbrev main_call13_v11 : Ref sig .tc := ⟨.hbm, 253, rfl⟩
abbrev main_call13_c_3 : Ref sig .tc := ⟨.hbm, 254, rfl⟩
abbrev main_call13_v12 : Ref sig .tc := ⟨.hbm, 255, rfl⟩
abbrev main_call13_v13 : Ref sig .tc := ⟨.hbm, 256, rfl⟩
abbrev main_call13_cst : Ref sig .tc := ⟨.hbm, 257, rfl⟩
abbrev main_call13_v14 : Ref sig .tc := ⟨.hbm, 258, rfl⟩
abbrev main_v107 : Ref sig .tc := ⟨.hbm, 259, rfl⟩
abbrev main_v108 : Ref sig .tc := ⟨.hbm, 260, rfl⟩
abbrev main_v109 : Ref sig .tc := ⟨.hbm, 261, rfl⟩
abbrev main_c_29 : Ref sig .tc := ⟨.hbm, 262, rfl⟩
abbrev main_v110 : Ref sig .tc := ⟨.hbm, 263, rfl⟩
abbrev main_v111 : Ref sig .tc := ⟨.hbm, 264, rfl⟩
abbrev main_c_30 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_cst_31 : Ref sig .tc := ⟨.hbm, 270, rfl⟩
abbrev main_v116 : Ref sig .tc := ⟨.hbm, 271, rfl⟩
abbrev main_cst_32 : Ref sig .tc := ⟨.hbm, 272, rfl⟩
abbrev main_v117 : Ref sig .tc := ⟨.hbm, 273, rfl⟩
abbrev main_v118 : Ref sig .tc := ⟨.hbm, 274, rfl⟩

abbrev nD : Nat := 1
abbrev τ : Topo := Topo.v7x

variable {F : FTy → Type} [FloatOps F]
-- ==== Proof.RunI.Spec.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # What the kernel's two regions compute, as functions of the blocks they read -/

/-! ## Region 0: the head row block and the projected block -/

/-- The eight rows region 0 stores into its `1x8x256` block, last stored first: the head's log-sum-exp, the gathered
    head value, the three cluster values, and three rows of zeros. -/
def hqPieces (x : Vec F S256x1024 .f32) (w : Vec F S1024x4096 .bf16) (tg : Vec F S1x1x256 .i32) : List (View.Piece (Elt F) S1x8x256 .f32) :=
  [⟨Rect.unit ![0, 7, 0] S1x1x256.size inb_S1x8x256_S1x1x256_0_7_0, k0_pay15⟩,
    ⟨Rect.unit ![0, 6, 0] S1x1x256.size inb_S1x8x256_S1x1x256_0_6_0, k0_pay14⟩,
    ⟨Rect.unit ![0, 5, 0] S1x1x256.size inb_S1x8x256_S1x1x256_0_5_0, k0_pay13⟩,
    ⟨Rect.unit ![0, 4, 0] S1x1x256.size inb_S1x8x256_S1x1x256_0_4_0, k0_pay11 (k0_pay5 x w)⟩,
    ⟨Rect.unit ![0, 3, 0] S1x1x256.size inb_S1x8x256_S1x1x256_0_3_0, k0_pay10 (k0_pay5 x w)⟩,
    ⟨Rect.unit ![0, 2, 0] S1x1x256.size inb_S1x8x256_S1x1x256_0_2_0, k0_pay9 (k0_pay8 x w)⟩,
    ⟨Rect.unit ![0, 1, 0] S1x1x256.size inb_S1x8x256_S1x1x256_0_1_0, k0_pay7 x w tg⟩,
    ⟨Rect.unit ![0, 0, 0] S1x1x256.size inb_S1x8x256_S1x1x256_0_0_0, k0_pay6 x w⟩]

/-- The block those eight rows make. -/
def hqOf (x : Vec F S256x1024 .f32) (w : Vec F S1024x4096 .bf16) (tg : Vec F S1x1x256 .i32) : S1x8x256.Idx → Elt F .f32 :=
  View.canon (hqPieces x w tg)

/-- The three column bands region 0 stores of its projected block, last stored first. -/
def tPieces (x : Vec F S256x1024 .f32) (p0 : Vec F S1024x256 .bf16) (p1 : Vec F S1024x64 .bf16) (p2 : Vec F S1024x16 .bf16) : List (View.Piece (Elt F) S256x512 .bf16) :=
  [⟨Rect.unit ![0, 384] S256x16.size inb_S256x512_S256x16_0_384, k0_pay3 (k0_pay4 x) (k0_pay18 p2) (constant S256x16 FTy.f32 0#32)⟩,
    ⟨Rect.unit ![0, 256] S256x64.size inb_S256x512_S256x64_0_256, k0_pay2 (k0_pay17 (k0_pay4 x) p1)⟩,
    ⟨Rect.unit ![0, 0] S256x256.size inb_S256x512_S256x256_0_0, k0_pay1 (k0_pay16 (k0_pay4 x) p0)⟩]

/-- A projected block holds the three stored column bands; nothing is said of its other columns. -/
def TGood (x : Vec F S256x1024 .f32) (p0 : Vec F S1024x256 .bf16) (p1 : Vec F S1024x64 .bf16) (p2 : Vec F S1024x16 .bf16) (T : S256x512.Idx → Elt F .bf16) : Prop :=
  View.ld T (Rect.unit ![0, 0] S256x256.size inb_S256x512_S256x256_0_0) = k0_pay1 (k0_pay16 (k0_pay4 x) p0)
    ∧ View.ld T (Rect.unit ![0, 256] S256x64.size inb_S256x512_S256x64_0_256) = k0_pay2 (k0_pay17 (k0_pay4 x) p1)
    ∧ View.ld T (Rect.unit ![0, 384] S256x16.size inb_S256x512_S256x16_0_384) = k0_pay3 (k0_pay4 x) (k0_pay18 p2) (constant S256x16 FTy.f32 0#32)

/-! ## Region 1: the blocks one trip of each loop reads -/

/-- The box at `k1_off1` lies in its array. -/
theorem inb1 (k : Fin k1_t1_loop.trips) : ∀ a, k1_off1 k a + S256x256.size a ≤ S8192x512.size a := by
  revert k; decide +kernel
/-- The box at `k1_off2` lies in its array. -/
theorem inb2 (k : Fin k1_t1_loop.trips) : ∀ a, k1_off2 k a + S1x256.size a ≤ S32x256.size a := by
  revert k; decide +kernel
/-- The box at `k1_off3` lies in its array. -/
theorem inb3 (k : Fin k1_t1_loop.trips) : ∀ a, k1_off3 k a + S1x256x128.size a ≤ S3x8192x128.size a := by
  revert k; decide +kernel
/-- The box at `k1_off4` lies in its array. -/
theorem inb4 (k : Fin k1_t2_loop.trips) : ∀ a, k1_off4 k a + S256x64.size a ≤ S8192x512.size a := by
  revert k; decide +kernel
/-- The box at `k1_off5` lies in its array. -/
theorem inb5 (k : Fin k1_t2_loop.trips) : ∀ a, k1_off5 k a + S1x256.size a ≤ S32x256.size a := by
  revert k; decide +kernel
/-- The box at `k1_off6` lies in its array. -/
theorem inb6 (k : Fin k1_t2_loop.trips) : ∀ a, k1_off6 k a + S1x256x128.size a ≤ S3x8192x128.size a := by
  revert k; decide +kernel
/-- The box at `k1_off7` lies in its array. -/
theorem inb7 (k : Fin k1_t3_loop.trips) : ∀ a, k1_off7 k a + S256x16.size a ≤ S8192x512.size a := by
  revert k; decide +kernel
/-- The box at `k1_off8` lies in its array. -/
theorem inb8 (k : Fin k1_t3_loop.trips) : ∀ a, k1_off8 k a + S1x256.size a ≤ S32x256.size a := by
  revert k; decide +kernel
/-- The box at `k1_off9` lies in its array. -/
theorem inb9 (k : Fin k1_t3_loop.trips) : ∀ a, k1_off9 k a + S1x256x128.size a ≤ S3x8192x128.size a := by
  revert k; decide +kernel
/-- The box at `k1_off10` lies in its array. -/
theorem inb10 (k : Fin k1_t4_loop.trips) : ∀ a, k1_off10 k a + S1x256.size a ≤ S32x256.size a := by
  revert k; decide +kernel
/-- The box at `k1_off11` lies in its array. -/
theorem inb11 (k : Fin k1_t4_loop.trips) : ∀ a, k1_off11 k a + S1x1x256.size a ≤ S32x8x256.size a := by
  revert k; decide +kernel
/-- The box at `k1_off12` lies in its array. -/
theorem inb12 (k : Fin k1_t4_loop.trips) : ∀ a, k1_off12 k a + S1x1x256.size a ≤ S32x8x256.size a := by
  revert k; decide +kernel
/-- The box at `k1_off14` lies in its array. -/
theorem inb14 (k : Fin k1_t4_loop.trips) : ∀ a, k1_off14 k a + S1x1x256.size a ≤ S32x8x256.size a := by
  revert k; decide +kernel
/-- The box at `k1_off16` lies in its array. -/
theorem inb16 (k : Fin k1_t4_loop.trips) : ∀ a, k1_off16 k a + S1x1x256.size a ≤ S32x8x256.size a := by
  revert k; decide +kernel
/-- The box at `k1_off18` lies in its array. -/
theorem inb18 (k : Fin k1_t4_loop.trips) : ∀ a, k1_off18 k a + S1x1x256.size a ≤ S32x8x256.size a := by
  revert k; decide +kernel
/-- The box at `k1_off13` lies in its array. -/
theorem inb13 (k : Fin k1_t4_loop.trips) : ∀ a, k1_off13 k a + S1x256x128.size a ≤ S3x8192x128.size a := by
  revert k; decide +kernel
/-- The box at `k1_off15` lies in its array. -/
theorem inb15 (k : Fin k1_t4_loop.trips) : ∀ a, k1_off15 k a + S1x256x128.size a ≤ S3x8192x128.size a := by
  revert k; decide +kernel
/-- The box at `k1_off17` lies in its array. -/
theorem inb17 (k : Fin k1_t4_loop.trips) : ∀ a, k1_off17 k a + S1x256x128.size a ≤ S3x8192x128.size a := by
  revert k; decide +kernel

/-- Cluster 1: the block of running sums that one trip stores, from the grid step, the weight block, the projected
    block and the block it finds. -/
def stepS1 (a : BitVec 32) (w : Vec F S256x2048 .bf16) (t : Vec F S256x256 .bf16) (old : Vec F S1x256x128 .f32) : Vec F S1x256x128 .f32 :=
  k1_pay2 (k1_pay18 a (k1_pay14 (k1_pay1 w) t) old)
/-- Cluster 1: the block of gathered values that one trip stores. -/
def stepT1 (v0 : IVec S1x2048 32) (v20 a : BitVec 32) (w : Vec F S256x2048 .bf16) (t : Vec F S256x256 .bf16) (tg : Vec F S1x256 .i32) (old : Vec F S1x256x128 .f32) : Vec F S1x256x128 .f32 :=
  k1_pay3 (k1_pay16 (k1_pay13 (k1_pay1 w) t) (k1_pay15 v0 v20 tg)) (k1_pay17 a old)
/-- Cluster 1: the projected block that trip `k` reads; -/
def tb1 (X : S8192x512.Idx → Elt F .bf16) (k : Fin k1_t1_loop.trips) : Vec F S256x256 .bf16 := View.ld X (Rect.unit (k1_off1 k) S256x256.size (inb1 k))
/-- and the row of targets it reads. -/
def tgb1 (X : S32x256.Idx → Elt F .i32) (k : Fin k1_t1_loop.trips) : Vec F S1x256 .i32 := View.ld X (Rect.unit (k1_off2 k) S1x256.size (inb2 k))

/-- Cluster 2: the block of running sums that one trip stores, from the grid step, the weight block, the projected
    block and the block it finds. -/
def stepS2 (a : BitVec 32) (w : Vec F S64x2048 .bf16) (t : Vec F S256x64 .bf16) (old : Vec F S1x256x128 .f32) : Vec F S1x256x128 .f32 :=
  k1_pay5 (k1_pay24 a (k1_pay20 (k1_pay4 w) t) old)
/-- Cluster 2: the block of gathered values that one trip stores. -/
def stepT2 (v0 : IVec S1x2048 32) (v20 a : BitVec 32) (w : Vec F S64x2048 .bf16) (t : Vec F S256x64 .bf16) (tg : Vec F S1x256 .i32) (old : Vec F S1x256x128 .f32) : Vec F S1x256x128 .f32 :=
  k1_pay6 (k1_pay22 (k1_pay19 (k1_pay4 w) t) (k1_pay21 v0 v20 tg)) (k1_pay23 a old)
/-- Cluster 2: the projected block that trip `k` reads; -/
def tb2 (X : S8192x512.Idx → Elt F .bf16) (k : Fin k1_t2_loop.trips) : Vec F S256x64 .bf16 := View.ld X (Rect.unit (k1_off4 k) S256x64.size (inb4 k))
/-- and the row of targets it reads. -/
def tgb2 (X : S32x256.Idx → Elt F .i32) (k : Fin k1_t2_loop.trips) : Vec F S1x256 .i32 := View.ld X (Rect.unit (k1_off5 k) S1x256.size (inb5 k))

/-- Cluster 3: the block of running sums that one trip stores, from the grid step, the weight block, the projected
    block and the block it finds. -/
def stepS3 (a : BitVec 32) (w : Vec F S16x2048 .bf16) (t : Vec F S256x16 .bf16) (old : Vec F S1x256x128 .f32) : Vec F S1x256x128 .f32 :=
  k1_pay8 (k1_pay30 a (k1_pay26 (k1_pay7 w) t) old)
/-- Cluster 3: the block of gathered values that one trip stores. -/
def stepT3 (v0 : IVec S1x2048 32) (v20 a : BitVec 32) (w : Vec F S16x2048 .bf16) (t : Vec F S256x16 .bf16) (tg : Vec F S1x256 .i32) (old : Vec F S1x256x128 .f32) : Vec F S1x256x128 .f32 :=
  k1_pay9 (k1_pay28 (k1_pay25 (k1_pay7 w) t) (k1_pay27 v0 v20 tg)) (k1_pay29 a old)
/-- Cluster 3: the projected block that trip `k` reads; -/
def tb3 (X : S8192x512.Idx → Elt F .bf16) (k : Fin k1_t3_loop.trips) : Vec F S256x16 .bf16 := View.ld X (Rect.unit (k1_off7 k) S256x16.size (inb7 k))
/-- and the row of targets it reads. -/
def tgb3 (X : S32x256.Idx → Elt F .i32) (k : Fin k1_t3_loop.trips) : Vec F S1x256 .i32 := View.ld X (Rect.unit (k1_off8 k) S1x256.size (inb8 k))

/-- The row of 256 per-row losses that trip `k` of the last loop computes, from the targets, the head rows and the
    two accumulators. -/
def lossRow (X2 : S32x256.Idx → Elt F .i32) (X3 : S32x8x256.Idx → Elt F .f32) (X9 X10 : S3x8192x128.Idx → Elt F .f32) (k : Fin k1_t4_loop.trips) : FVec F S256 .f32 :=
  k1_pay35 (k1_pay31 (View.ld X2 (Rect.unit (k1_off10 k) S1x256.size (inb10 k)))) (k1_pay32 (View.ld X3 (Rect.unit (k1_off11 k) S1x1x256.size (inb11 k))))
    (k1_pay33 (View.ld X2 (Rect.unit (k1_off10 k) S1x256.size (inb10 k))) (View.ld X3 (Rect.unit (k1_off11 k) S1x1x256.size (inb11 k)))
      (View.ld X3 (Rect.unit (k1_off12 k) S1x1x256.size (inb12 k))) (View.ld X9 (Rect.unit (k1_off13 k) S1x256x128.size (inb13 k)))
      (View.ld X10 (Rect.unit (k1_off13 k) S1x256x128.size (inb13 k))) (View.ld X3 (Rect.unit (k1_off14 k) S1x1x256.size (inb14 k))))
    (k1_pay34 (View.ld X9 (Rect.unit (k1_off15 k) S1x256x128.size (inb15 k)))) (FloatOps.ofBits FTy.f32 0x44700000#32)
    (View.ld X10 (Rect.unit (k1_off15 k) S1x256x128.size (inb15 k))) (View.ld X3 (Rect.unit (k1_off16 k) S1x1x256.size (inb16 k)))
    (View.ld X9 (Rect.unit (k1_off17 k) S1x256x128.size (inb17 k))) (View.ld X10 (Rect.unit (k1_off17 k) S1x256x128.size (inb17 k)))
    (View.ld X3 (Rect.unit (k1_off18 k) S1x1x256.size (inb18 k)))

/-- What the last loop carries before trip `k`: the running lane sums of the rows below. -/
def lossAcc (X2 : S32x256.Idx → Elt F .i32) (X3 : S32x8x256.Idx → Elt F .f32) (X9 X10 : S3x8192x128.Idx → Elt F .f32) : ℕ → FVec F S128 .f32
  | 0 => k1_pay10
  | k + 1 => if h : k < k1_t4_loop.trips then k1_pay11 (lossAcc X2 X3 X9 X10 k) (lossRow X2 X3 X9 X10 ⟨k, h⟩) else lossAcc X2 X3 X9 X10 k

theorem lossAcc_succ (X2 : S32x256.Idx → Elt F .i32) (X3 : S32x8x256.Idx → Elt F .f32) (X9 X10 : S3x8192x128.Idx → Elt F .f32) (k : Fin k1_t4_loop.trips) :
    lossAcc X2 X3 X9 X10 (k.val + 1) = k1_pay11 (lossAcc X2 X3 X9 X10 k.val) (lossRow X2 X3 X9 X10 k) := by
  rw [lossAcc, dif_pos k.isLt]

/-! ## Contents of a buffer whose blocks are rewritten one per trip -/

/-- The contents before trip `k` of a loop whose trip `k` replaces the block at `off k` by `new k` of that block. -/
def runC {sp : Space} (M : Memref sig .tc sp S3x8192x128 .f32) {n : ℕ} (off : Fin n → Fin 3 → ℕ) (inb : ∀ k a, off k a + S1x256x128.size a ≤ S3x8192x128.size a)
    (new : Fin n → Vec F S1x256x128 .f32 → Vec F S1x256x128 .f32) (f : M.view.ty.Contents (Elt F)) : ℕ → M.view.ty.Contents (Elt F)
  | 0 => f
  | k + 1 => if h : k < n then M.view.writes (Elt F) (runC M off inb new f k)
      [⟨Rect.unit (off ⟨k, h⟩) S1x256x128.size (inb ⟨k, h⟩), new ⟨k, h⟩ (View.readAt (Elt F) M.view (Rect.unit (s := S3x8192x128) (off ⟨k, h⟩) S1x256x128.size (inb ⟨k, h⟩)).toLoadRect (runC M off inb new f k))⟩]
    else runC M off inb new f k

theorem runC_succ {sp : Space} (M : Memref sig .tc sp S3x8192x128 .f32) {n : ℕ} (off : Fin n → Fin 3 → ℕ) (inb : ∀ k a, off k a + S1x256x128.size a ≤ S3x8192x128.size a)
    (new : Fin n → Vec F S1x256x128 .f32 → Vec F S1x256x128 .f32) (f : M.view.ty.Contents (Elt F)) (k : Fin n) :
    runC M off inb new f (k.val + 1) = M.view.writes (Elt F) (runC M off inb new f k.val)
      [⟨Rect.unit (off k) S1x256x128.size (inb k), new k (View.readAt (Elt F) M.view (Rect.unit (s := S3x8192x128) (off k) S1x256x128.size (inb k)).toLoadRect (runC M off inb new f k.val))⟩] := by
  rw [runC, dif_pos k.isLt]

end Cert.KernelIdeal.Own

end
-- ==== Proof.RunI.Loops1.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import proofs.«01_k».proof.Proof.RunI.Spec

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- A memref's buffer on core `c`: the type of its contents. -/
abbrev Bf (c : Dev nD) {sp : Space} {S : Shape} {e : EltTy} (M : Memref sig .tc sp S e) : Type := Buf (Elt F) (M.view.loc (c : Thread nD τ))
/-- That buffer held at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- Cluster 1: the running sums before trip `k`. -/
abbrev sums1 (c : Dev nD) (arg4 : Memref sig .tc .vmem S8192x512 .bf16) (arg9 : Memref sig .tc .vmem S3x8192x128 .f32) (arg1 : BitVec 32) (v18 : Vec F S256x2048 .bf16) (f4 : Bf (F := F) c arg4) (f9 : Bf (F := F) c arg9) (k : ℕ) : Bf (F := F) c arg9 :=
  runC arg9 (n := k1_t1_loop.trips) k1_off3 inb3 (fun k old => stepS1 arg1 v18 (tb1 (arg4.view.read (Elt F) f4) k) old) f9 k
/-- Cluster 1: the gathered values before trip `k`. -/
abbrev gath1 (c : Dev nD) (arg2 : Memref sig .tc .vmem S32x256 .i32) (arg4 : Memref sig .tc .vmem S8192x512 .bf16) (arg10 : Memref sig .tc .vmem S3x8192x128 .f32) (arg1 : BitVec 32) (v0 : IVec S1x2048 32) (v18 : Vec F S256x2048 .bf16) (v20 : BitVec 32) (f2 : Bf (F := F) c arg2) (f4 : Bf (F := F) c arg4) (f10 : Bf (F := F) c arg10) (k : ℕ) : Bf (F := F) c arg10 :=
  runC arg10 (n := k1_t1_loop.trips) k1_off3 inb3 (fun k old => stepT1 v0 v20 arg1 v18 (tb1 (arg4.view.read (Elt F) f4) k) (tgb1 (arg2.view.read (Elt F) f2) k) old) f10 k

/-- Cluster 1's loop before trip `k`: the targets and the projected block as found, the two accumulators with the
    blocks below `k` replaced. -/
abbrev inv1 (c : Dev nD) (arg2 : Memref sig .tc .vmem S32x256 .i32) (arg4 : Memref sig .tc .vmem S8192x512 .bf16) (arg9 : Memref sig .tc .vmem S3x8192x128 .f32) (arg10 : Memref sig .tc .vmem S3x8192x128 .f32) (arg1 : BitVec 32) (v0 : IVec S1x2048 32) (v18 : Vec F S256x2048 .bf16) (v20 : BitVec 32)
    (f2 : Bf (F := F) c arg2) (f4 : Bf (F := F) c arg4) (f9 : Bf (F := F) c arg9) (f10 : Bf (F := F) c arg10) (k : ℕ) : sProp 𝕄 :=
  iprop(pt c arg2 f2 ∗ pt c arg4 f4 ∗ pt c arg9 (sums1 c arg4 arg9 arg1 v18 f4 f9 k) ∗ pt c arg10 (gath1 c arg2 arg4 arg10 arg1 v0 v18 v20 f2 f4 f10 k))

/-- One trip of cluster 1's loop takes the accumulators from before it to after it. -/
@[sl_loop] def loop1 (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole) (arg1 : BitVec 32) (v0 : IVec S1x2048 32) (h1 : k1_cond1 i = 1#1) (h2 : k1_cond2 i = 1#1) (v18 : Vec F S256x2048 .bf16) (v20 : BitVec 32)
    (f2 : Bf (F := F) c arg2) (f4 : Bf (F := F) c arg4) (f9 : Bf (F := F) c arg9) (f10 : Bf (F := F) c arg10) :
    LoopInvTy_k1_t1 (F := F) Unit ℕ U ℕ Variants.none c none Set.univ i arg2 harg2 arg3 harg3 arg4 harg4 arg5 harg5 arg6 harg6 arg7 harg7 arg8 harg8 arg9 harg9 arg10 harg10 arg1 v0 h1 h2 v18 v20 where
  inv k _ := inv1 c arg2 arg4 arg9 arg10 arg1 v0 v18 v20 f2 f4 f9 f10 k
  step k acc := by
    obtain ⟨⟩ := acc
    unfold inv1
    unfold k1_t1_body
    iintro ⟨H2, H4, H9, H10⟩
    sl_exec!
    sl_step
    unfold sums1 gath1
    rw [runC_succ arg9 k1_off3 inb3 _ f9 k, runC_succ arg10 k1_off3 inb3 _ f10 k]
    isplitl [H2]; · iexact H2
    isplitl [H4]; · iexact H4
    isplitl [H9]; · iexact H9
    iexact H10

/-- Cluster 2: the running sums before trip `k`. -/
abbrev sums2 (c : Dev nD) (arg4 : Memref sig .tc .vmem S8192x512 .bf16) (arg9 : Memref sig .tc .vmem S3x8192x128 .f32) (arg1 : BitVec 32) (v18 : Vec F S64x2048 .bf16) (f4 : Bf (F := F) c arg4) (f9 : Bf (F := F) c arg9) (k : ℕ) : Bf (F := F) c arg9 :=
  runC arg9 (n := k1_t2_loop.trips) k1_off6 inb6 (fun k old => stepS2 arg1 v18 (tb2 (arg4.view.read (Elt F) f4) k) old) f9 k
/-- Cluster 2: the gathered values before trip `k`. -/
abbrev gath2 (c : Dev nD) (arg2 : Memref sig .tc .vmem S32x256 .i32) (arg4 : Memref sig .tc .vmem S8192x512 .bf16) (arg10 : Memref sig .tc .vmem S3x8192x128 .f32) (arg1 : BitVec 32) (v0 : IVec S1x2048 32) (v18 : Vec F S64x2048 .bf16) (v20 : BitVec 32) (f2 : Bf (F := F) c arg2) (f4 : Bf (F := F) c arg4) (f10 : Bf (F := F) c arg10) (k : ℕ) : Bf (F := F) c arg10 :=
  runC arg10 (n := k1_t2_loop.trips) k1_off6 inb6 (fun k old => stepT2 v0 v20 arg1 v18 (tb2 (arg4.view.read (Elt F) f4) k) (tgb2 (arg2.view.read (Elt F) f2) k) old) f10 k

/-- Cluster 2's loop before trip `k`: the targets and the projected block as found, the two accumulators with the
    blocks below `k` replaced. -/
abbrev inv2 (c : Dev nD) (arg2 : Memref sig .tc .vmem S32x256 .i32) (arg4 : Memref sig .tc .vmem S8192x512 .bf16) (arg9 : Memref sig .tc .vmem S3x8192x128 .f32) (arg10 : Memref sig .tc .vmem S3x8192x128 .f32) (arg1 : BitVec 32) (v0 : IVec S1x2048 32) (v18 : Vec F S64x2048 .bf16) (v20 : BitVec 32)
    (f2 : Bf (F := F) c arg2) (f4 : Bf (F := F) c arg4) (f9 : Bf (F := F) c arg9) (f10 : Bf (F := F) c arg10) (k : ℕ) : sProp 𝕄 :=
  iprop(pt c arg2 f2 ∗ pt c arg4 f4 ∗ pt c arg9 (sums2 c arg4 arg9 arg1 v18 f4 f9 k) ∗ pt c arg10 (gath2 c arg2 arg4 arg10 arg1 v0 v18 v20 f2 f4 f10 k))

/-- One trip of cluster 2's loop takes the accumulators from before it to after it. -/
@[sl_loop] def loop2 (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole) (arg1 : BitVec 32) (v0 : IVec S1x2048 32) (h3 : k1_cond3 i = 1#1) (h4 : k1_cond4 i = 1#1) (v18 : Vec F S64x2048 .bf16) (v20 : BitVec 32)
    (f2 : Bf (F := F) c arg2) (f4 : Bf (F := F) c arg4) (f9 : Bf (F := F) c arg9) (f10 : Bf (F := F) c arg10) :
    LoopInvTy_k1_t2 (F := F) Unit ℕ U ℕ Variants.none c none Set.univ i arg2 harg2 arg3 harg3 arg4 harg4 arg5 harg5 arg6 harg6 arg7 harg7 arg8 harg8 arg9 harg9 arg10 harg10 arg1 v0 h3 h4 v18 v20 where
  inv k _ := inv2 c arg2 arg4 arg9 arg10 arg1 v0 v18 v20 f2 f4 f9 f10 k
  step k acc := by
    obtain ⟨⟩ := acc
    unfold inv2
    unfold k1_t2_body
    iintro ⟨H2, H4, H9, H10⟩
    sl_exec!
    sl_step
    unfold sums2 gath2
    rw [runC_succ arg9 k1_off6 inb6 _ f9 k, runC_succ arg10 k1_off6 inb6 _ f10 k]
    isplitl [H2]; · iexact H2
    isplitl [H4]; · iexact H4
    isplitl [H9]; · iexact H9
    iexact H10

/-- Cluster 3: the running sums before trip `k`. -/
abbrev sums3 (c : Dev nD) (arg4 : Memref sig .tc .vmem S8192x512 .bf16) (arg9 : Memref sig .tc .vmem S3x8192x128 .f32) (arg1 : BitVec 32) (v18 : Vec F S16x2048 .bf16) (f4 : Bf (F := F) c arg4) (f9 : Bf (F := F) c arg9) (k : ℕ) : Bf (F := F) c arg9 :=
  runC arg9 (n := k1_t3_loop.trips) k1_off9 inb9 (fun k old => stepS3 arg1 v18 (tb3 (arg4.view.read (Elt F) f4) k) old) f9 k
/-- Cluster 3: the gathered values before trip `k`. -/
abbrev gath3 (c : Dev nD) (arg2 : Memref sig .tc .vmem S32x256 .i32) (arg4 : Memref sig .tc .vmem S8192x512 .bf16) (arg10 : Memref sig .tc .vmem S3x8192x128 .f32) (arg1 : BitVec 32) (v0 : IVec S1x2048 32) (v18 : Vec F S16x2048 .bf16) (v20 : BitVec 32) (f2 : Bf (F := F) c arg2) (f4 : Bf (F := F) c arg4) (f10 : Bf (F := F) c arg10) (k : ℕ) : Bf (F := F) c arg10 :=
  runC arg10 (n := k1_t3_loop.trips) k1_off9 inb9 (fun k old => stepT3 v0 v20 arg1 v18 (tb3 (arg4.view.read (Elt F) f4) k) (tgb3 (arg2.view.read (Elt F) f2) k) old) f10 k

/-- Cluster 3's loop before trip `k`: the targets and the projected block as found, the two accumulators with the
    blocks below `k` replaced. -/
abbrev inv3 (c : Dev nD) (arg2 : Memref sig .tc .vmem S32x256 .i32) (arg4 : Memref sig .tc .vmem S8192x512 .bf16) (arg9 : Memref sig .tc .vmem S3x8192x128 .f32) (arg10 : Memref sig .tc .vmem S3x8192x128 .f32) (arg1 : BitVec 32) (v0 : IVec S1x2048 32) (v18 : Vec F S16x2048 .bf16) (v20 : BitVec 32)
    (f2 : Bf (F := F) c arg2) (f4 : Bf (F := F) c arg4) (f9 : Bf (F := F) c arg9) (f10 : Bf (F := F) c arg10) (k : ℕ) : sProp 𝕄 :=
  iprop(pt c arg2 f2 ∗ pt c arg4 f4 ∗ pt c arg9 (sums3 c arg4 arg9 arg1 v18 f4 f9 k) ∗ pt c arg10 (gath3 c arg2 arg4 arg10 arg1 v0 v18 v20 f2 f4 f10 k))

/-- One trip of cluster 3's loop takes the accumulators from before it to after it. -/
@[sl_loop] def loop3 (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole) (arg1 : BitVec 32) (v0 : IVec S1x2048 32) (h5 : k1_cond5 i = 1#1) (h6 : k1_cond6 i = 1#1) (v18 : Vec F S16x2048 .bf16) (v20 : BitVec 32)
    (f2 : Bf (F := F) c arg2) (f4 : Bf (F := F) c arg4) (f9 : Bf (F := F) c arg9) (f10 : Bf (F := F) c arg10) :
    LoopInvTy_k1_t3 (F := F) Unit ℕ U ℕ Variants.none c none Set.univ i arg2 harg2 arg3 harg3 arg4 harg4 arg5 harg5 arg6 harg6 arg7 harg7 arg8 harg8 arg9 harg9 arg10 harg10 arg1 v0 h5 h6 v18 v20 where
  inv k _ := inv3 c arg2 arg4 arg9 arg10 arg1 v0 v18 v20 f2 f4 f9 f10 k
  step k acc := by
    obtain ⟨⟩ := acc
    unfold inv3
    unfold k1_t3_body
    iintro ⟨H2, H4, H9, H10⟩
    sl_exec!
    sl_step
    unfold sums3 gath3
    rw [runC_succ arg9 k1_off9 inb9 _ f9 k, runC_succ arg10 k1_off9 inb9 _ f10 k]
    isplitl [H2]; · iexact H2
    isplitl [H4]; · iexact H4
    isplitl [H9]; · iexact H9
    iexact H10

/-- The last loop before trip `k`: everything it reads as found, the carried lane sums those of the rows below `k`. -/
abbrev inv4 (c : Dev nD) (arg2 : Memref sig .tc .vmem S32x256 .i32) (arg3 : Memref sig .tc .vmem S32x8x256 .f32) (arg9 : Memref sig .tc .vmem S3x8192x128 .f32) (arg10 : Memref sig .tc .vmem S3x8192x128 .f32)
    (f2 : Bf (F := F) c arg2) (f3 : Bf (F := F) c arg3) (f9 : Bf (F := F) c arg9) (f10 : Bf (F := F) c arg10) (k : ℕ) (acc : FVec F S128 .f32) : sProp 𝕄 :=
  iprop(pt c arg2 f2 ∗ pt c arg3 f3 ∗ pt c arg9 f9 ∗ pt c arg10 f10
    ∗ ⌜acc = lossAcc (arg2.view.read (Elt F) f2) (arg3.view.read (Elt F) f3) (arg9.view.read (Elt F) f9) (arg10.view.read (Elt F) f10) k⌝)

/-- One trip of the last loop adds its row of losses to the carried lane sums. -/
@[sl_loop] def loop4 (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole) (h7 : k1_cond7 i = 1#1)
    (f2 : Bf (F := F) c arg2) (f3 : Bf (F := F) c arg3) (f9 : Bf (F := F) c arg9) (f10 : Bf (F := F) c arg10) :
    LoopInvTy_k1_t4 (F := F) Unit ℕ U ℕ Variants.none c none Set.univ i arg2 harg2 arg3 harg3 arg4 harg4 arg5 harg5 arg6 harg6 arg7 harg7 arg8 harg8 arg9 harg9 arg10 harg10 h7 k1_pay10 where
  inv k acc := inv4 c arg2 arg3 arg9 arg10 f2 f3 f9 f10 k acc
  step k acc := by
    unfold inv4
    rw [lossAcc_succ]
    unfold k1_t4_body
    iintro ⟨H2, H3, H9, H10, %e⟩
    subst e
    sl_exec!
    sl_step
    isplitl [H2]; · iexact H2
    isplitl [H3]; · iexact H3
    isplitl [H9]; · iexact H9
    isplitl [H10]; · iexact H10
    ipureintro; rfl

end Cert.KernelIdeal.Own

end
-- ==== Proof.RunI.Body0.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import Idealize.ShloMosaic.Lib.VecWindow
public import proofs.«01_k».proof.Proof.RunI.Loops1

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The three stores of column bands leave a block that holds the three bands. -/
theorem tGood_writes {sp : Space} (v : View sig .tc sp S256x512 .bf16) (f : v.ty.Contents (Elt F)) (x : Vec F S256x1024 .f32) (p0 : Vec F S1024x256 .bf16) (p1 : Vec F S1024x64 .bf16) (p2 : Vec F S1024x16 .bf16) :
    TGood x p0 p1 p2 (v.read (Elt F) (v.writes (Elt F) f (tPieces x p0 p1 p2))) := by
  unfold tPieces
  refine ⟨?_, ?_, ?_⟩
  · funext y
    have hy : (y 1).val < 256 := (y 1).isLt
    refine (View.read_writes_cons_miss_of_axis _ _ _ _ _ 1 384 16 rfl rfl rfl (.inl ?_)).trans ?_
    · show 0 + 1 * (y 1).val < 384; omega
    refine (View.read_writes_cons_miss_of_axis _ _ _ _ _ 1 256 64 rfl rfl rfl (.inl ?_)).trans ?_
    · show 0 + 1 * (y 1).val < 256; omega
    exact View.read_writes_cons_emb _ _ _ _ _ y
  · funext y
    have hy : (y 1).val < 64 := (y 1).isLt
    refine (View.read_writes_cons_miss_of_axis _ _ _ _ _ 1 384 16 rfl rfl rfl (.inl ?_)).trans ?_
    · show 256 + 1 * (y 1).val < 384; omega
    exact View.read_writes_cons_emb _ _ _ _ _ y
  · funext y
    exact View.read_writes_cons_emb _ _ _ _ _ y

/-- Region 0's body: the inputs are read and kept, the projected block is left holding its three bands and the head
    block its eight rows. -/
theorem body0 (c : Dev nD) (i : grid0.Coords)
    (arg1 : Memref sig .tc .vmem S256x1024 .f32) (harg1 : arg1.IsWhole) (arg2 : Memref sig .tc .vmem S1024x4096 .bf16) (harg2 : arg2.IsWhole) (arg3 : Memref sig .tc .vmem S1024x256 .bf16) (harg3 : arg3.IsWhole) (arg4 : Memref sig .tc .vmem S1024x64 .bf16) (harg4 : arg4.IsWhole) (arg5 : Memref sig .tc .vmem S1024x16 .bf16) (harg5 : arg5.IsWhole) (arg6 : Memref sig .tc .vmem S1x1x256 .i32) (harg6 : arg6.IsWhole) (arg7 : Memref sig .tc .vmem S256x512 .bf16) (harg7 : arg7.IsWhole) (arg8 : Memref sig .tc .vmem S1x8x256 .f32) (harg8 : arg8.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ (pt c arg1 f1 ∗ pt c arg2 f2 ∗ pt c arg3 f3 ∗ pt c arg4 f4 ∗ pt c arg5 f5 ∗ pt c arg6 f6
        ∗ (∃ g, ⌜TGood (arg1.view.read (Elt F) f1) (arg3.view.read (Elt F) f3) (arg4.view.read (Elt F) f4) (arg5.view.read (Elt F) f5) (arg7.view.read (Elt F) g)⌝ ∗ pt c arg7 g)
        ∗ (∃ g, ⌜arg8.view.read (Elt F) g = hqOf (arg1.view.read (Elt F) f1) (arg2.view.read (Elt F) f2) (arg6.view.read (Elt F) f6)⌝ ∗ pt c arg8 g) -∗ Q ⟨⟩))
    ⊢ wp frame (wpE (defs₀ (F := F)) Variants.none c none) Set.univ
        (cc0__k1_body i arg1 harg1 arg2 harg2 arg3 harg3 arg4 harg4 arg5 harg5 arg6 harg6 arg7 harg7 arg8 harg8) Q := by
  rw [cc0__k1_body_eq_skeleton]
  iintro ⟨H1, H2, H3, H4, H5, H6, H7, H8, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro
    have h := tGood_writes arg7.view f7 (arg1.view.read (Elt F) f1) (arg3.view.read (Elt F) f3) (arg4.view.read (Elt F) f4) (arg5.view.read (Elt F) f5)
    unfold tPieces at h
    rw [← View.readAt_full arg1.view f1 inb_S256x1024_S256x1024_0_0, ← View.readAt_full arg3.view f3 inb_S1024x256_S1024x256_0_0, ← View.readAt_full arg4.view f4 inb_S1024x64_S1024x64_0_0, ← View.readAt_full arg5.view f5 inb_S1024x16_S1024x16_0_0] at h ⊢
    exact h
  · iexists _; isplitr; swap; (· iexact H8); ipureintro
    rw [← View.readAt_full arg1.view f1 inb_S256x1024_S256x1024_0_0, ← View.readAt_full arg2.view f2 inb_S1024x4096_S1024x4096_0_0, ← View.readAt_full arg6.view f6 inb_S1x1x256_S1x1x256_0_0_0]
    exact View.read_writes_eq_canon _ _ _ (View.cover_of_tiled _ S1x1x256.size rfl)

end Cert.KernelIdeal.Own

end
-- ==== Proof.RunI.Region0.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import proofs.«01_k».proof.Proof.RunI.Body0
public import proofs.«01_k».proof.Proof.Gen.KernelIdeal.Regions
public import Idealize.ShloMosaic.Lib.Pipeline.DatRel
public import Idealize.ShloMosaic.Lib.Pipeline.ArrRel
public import Idealize.ShloMosaic.Lib.Pipeline.FrameBody

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

open Idealize.ShloMosaic.Pipeline (Dat RDat BodyObligationRel)

/-- The contents of a core's buffers, read by reference. -/
abbrev Vals (c : Dev nD) : Type := (b : Ref sig .tc) → Buf (Elt F) ((c : Thread nD τ).loc b)

/-- Region 0's block of window 0 at point `t`, of the array's contents. -/
noncomputable def blk0_0 {c : Dev nD} (V : Vals (F := F) c) (t : Fin cfg0.N) : Vec F S256x1024 .f32 :=
  ((cfg0.win 0).blk t).view.read (Elt F) (V (Pipeline.arrRef spec0 0))
/-- Region 0's block of window 1 at point `t`, of the array's contents. -/
noncomputable def blk0_1 {c : Dev nD} (V : Vals (F := F) c) (t : Fin cfg0.N) : Vec F S1024x4096 .bf16 :=
  ((cfg0.win 1).blk t).view.read (Elt F) (V (Pipeline.arrRef spec0 1))
/-- Region 0's block of window 2 at point `t`, of the array's contents. -/
noncomputable def blk0_2 {c : Dev nD} (V : Vals (F := F) c) (t : Fin cfg0.N) : Vec F S1024x256 .bf16 :=
  ((cfg0.win 2).blk t).view.read (Elt F) (V (Pipeline.arrRef spec0 2))
/-- Region 0's block of window 3 at point `t`, of the array's contents. -/
noncomputable def blk0_3 {c : Dev nD} (V : Vals (F := F) c) (t : Fin cfg0.N) : Vec F S1024x64 .bf16 :=
  ((cfg0.win 3).blk t).view.read (Elt F) (V (Pipeline.arrRef spec0 3))
/-- Region 0's block of window 4 at point `t`, of the array's contents. -/
noncomputable def blk0_4 {c : Dev nD} (V : Vals (F := F) c) (t : Fin cfg0.N) : Vec F S1024x16 .bf16 :=
  ((cfg0.win 4).blk t).view.read (Elt F) (V (Pipeline.arrRef spec0 4))
/-- Region 0's block of window 5 at point `t`, of the array's contents. -/
noncomputable def blk0_5 {c : Dev nD} (V : Vals (F := F) c) (t : Fin cfg0.N) : Vec F S1x1x256 .i32 :=
  ((cfg0.win 5).blk t).view.read (Elt F) (V (Pipeline.arrRef spec0 5))
/-- Region 0's block of window 6 at point `t`, of the array's contents. -/
noncomputable def blk0_6 {c : Dev nD} (V : Vals (F := F) c) (t : Fin cfg0.N) : Vec F S256x512 .bf16 :=
  ((cfg0.win 6).blk t).view.read (Elt F) (V (Pipeline.arrRef spec0 6))
/-- Region 0's block of window 7 at point `t`, of the array's contents. -/
noncomputable def blk0_7 {c : Dev nD} (V : Vals (F := F) c) (t : Fin cfg0.N) : Vec F S1x8x256 .f32 :=
  ((cfg0.win 7).blk t).view.read (Elt F) (V (Pipeline.arrRef spec0 7))

/-- Which of region 0's windows are outputs. -/
noncomputable def out0 : Fin cfg0.W → Bool := ![false, false, false, false, false, false, true, true]

/-- What the body leaves in an output block of region 0: the three bands of the projected block; the head block. -/
def rel0 {c : Dev nD} (V : Vals (F := F) c) : (w : Fin cfg0.W) → Fin cfg0.N → ((cfg0.win w).block.Idx → Elt F (cfg0.win w).elt) → Prop
  | ⟨6, _⟩ => fun t X => TGood (blk0_0 V t) (blk0_2 V t) (blk0_3 V t) (blk0_4 V t) X
  | ⟨7, _⟩ => fun t X => X = hqOf (blk0_0 V t) (blk0_1 V t) (blk0_5 V t)
  | _ => fun _ _ => True

/-- Region 0's data: the arrays at the entry contents, every input block left as fetched. -/
noncomputable def dat0 {c : Dev nD} (V : Vals (F := F) c) : Dat τ (Elt F) Unit ℕ U ℕ cfg0 c where
  A w := V (Pipeline.arrRef spec0 w)
  after w t := match w with
    | ⟨0, _⟩ => blk0_0 V t | ⟨1, _⟩ => blk0_1 V t | ⟨2, _⟩ => blk0_2 V t | ⟨3, _⟩ => blk0_3 V t
    | ⟨4, _⟩ => blk0_4 V t | ⟨5, _⟩ => blk0_5 V t | ⟨6, _⟩ => blk0_6 V t | ⟨7, _⟩ => blk0_7 V t
  Φ _ := Pipeline.scopedRest (Ix := Unit) (Name := ℕ) (U := U) (Lvl := ℕ) (Val := Elt F) spec0 c
  q _ := fullShare
  owed _ := 0

theorem before0_0 {c : Dev nD} (V : Vals (F := F) c) (t : Fin cfg0.N) (d : (cfg0.win 0).block.Idx → Elt F (cfg0.win 0).elt) :
    (dat0 (U := U) V).before 0 t d = blk0_0 V t :=
  (Dat.before_in_eq_fetched (dat0 (U := U) V) 0 rfl (fun _ => rfl) (fun _ _ _ => rfl) (fun _ => rfl) t d).trans rfl
theorem before0_1 {c : Dev nD} (V : Vals (F := F) c) (t : Fin cfg0.N) (d : (cfg0.win 1).block.Idx → Elt F (cfg0.win 1).elt) :
    (dat0 (U := U) V).before 1 t d = blk0_1 V t :=
  (Dat.before_in_eq_fetched (dat0 (U := U) V) 1 rfl (fun _ => rfl) (fun _ _ _ => rfl) (fun _ => rfl) t d).trans rfl
theorem before0_2 {c : Dev nD} (V : Vals (F := F) c) (t : Fin cfg0.N) (d : (cfg0.win 2).block.Idx → Elt F (cfg0.win 2).elt) :
    (dat0 (U := U) V).before 2 t d = blk0_2 V t :=
  (Dat.before_in_eq_fetched (dat0 (U := U) V) 2 rfl (fun _ => rfl) (fun _ _ _ => rfl) (fun _ => rfl) t d).trans rfl
theorem before0_3 {c : Dev nD} (V : Vals (F := F) c) (t : Fin cfg0.N) (d : (cfg0.win 3).block.Idx → Elt F (cfg0.win 3).elt) :
    (dat0 (U := U) V).before 3 t d = blk0_3 V t :=
  (Dat.before_in_eq_fetched (dat0 (U := U) V) 3 rfl (fun _ => rfl) (fun _ _ _ => rfl) (fun _ => rfl) t d).trans rfl
theorem before0_4 {c : Dev nD} (V : Vals (F := F) c) (t : Fin cfg0.N) (d : (cfg0.win 4).block.Idx → Elt F (cfg0.win 4).elt) :
    (dat0 (U := U) V).before 4 t d = blk0_4 V t :=
  (Dat.before_in_eq_fetched (dat0 (U := U) V) 4 rfl (fun _ => rfl) (fun _ _ _ => rfl) (fun _ => rfl) t d).trans rfl
theorem before0_5 {c : Dev nD} (V : Vals (F := F) c) (t : Fin cfg0.N) (d : (cfg0.win 5).block.Idx → Elt F (cfg0.win 5).elt) :
    (dat0 (U := U) V).before 5 t d = blk0_5 V t :=
  (Dat.before_in_eq_fetched (dat0 (U := U) V) 5 rfl (fun _ => rfl) (fun _ _ _ => rfl) (fun _ => rfl) t d).trans rfl
theorem out0_0 : out0 ((0 : Fin 8)) = false := rfl
theorem out0_1 : out0 ((1 : Fin 8)) = false := rfl
theorem out0_2 : out0 ((2 : Fin 8)) = false := rfl
theorem out0_3 : out0 ((3 : Fin 8)) = false := rfl
theorem out0_4 : out0 ((4 : Fin 8)) = false := rfl
theorem out0_5 : out0 ((5 : Fin 8)) = false := rfl
theorem out0_6 : out0 ((6 : Fin 8)) = true := rfl
theorem out0_7 : out0 ((7 : Fin 8)) = true := rfl
theorem idle0 (w : Fin 8) (i : cfg0.grid.Coords) : cfg0.idle w i = false := rfl
theorem loose0 (w : Fin 8) : cfg0.loose w = false := by fin_cases w <;> rfl

set_option backward.isDefEq.respectTransparency.types false in
/-- The body of region 0 at every point: the input blocks are kept, the two output blocks are left as `rel0` says. -/
theorem obl0 {c : Dev nD} (V : Vals (F := F) c) :
    BodyObligationRel (dat0 (U := U) V) (defs₀ (F := F)) Variants.none () Set.univ out0 (rel0 V) := fun t => by
  rw [bigSep_W0, bigSep_W0]
  simp only [out0_0, out0_1, out0_2, out0_3, out0_4, out0_5, out0_6, out0_7, idle0, loose0]
  unfold owns
  rw [show (dat0 (U := U) V).Φ t.castSucc = (dat0 (U := U) V).Φ t.succ from rfl]
  unfold Dat.owesAt Pipeline.owesWithin
  iintro ⟨HΦ, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X6, %hX6, %f6, %e6, H6⟩, ⟨%X7, %hX7, %f7, %e7, H7⟩⟩
  rw [before0_0] at e0
  rw [before0_1] at e1
  rw [before0_2] at e2
  rw [before0_3] at e3
  rw [before0_4] at e4
  rw [before0_5] at e5
  iapply (body0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%g6, %h6, H6⟩, ⟨%g7, %h7, H7⟩⟩
  rw [e0, e2, e3, e4] at h6
  rw [e0, e1, e5] at h7
  isplitl [HΦ]; · iexact HΦ
  isplitl [HO]
  · iexists W; isplitr; · ipureintro; exact fun _ _ => Or.inl trivial
    iexact HO
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]
  · iexists ((st0_6 t).view.read (Elt F) g6); isplitr; (· ipureintro; exact h6); iexists g6; isplitr; (· ipureintro; rfl); iexact H6
  · iexists ((st0_7 t).view.read (Elt F) g7); isplitr; (· ipureintro; exact h7); iexists g7; isplitr; (· ipureintro; rfl); iexact H7

end Cert.KernelIdeal.Own

end
-- ==== Proof.RunI.Body1.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import proofs.«01_k».proof.Proof.RunI.Loops1

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

theorem zero2 : (![0, 0] : Fin 2 → Nat) = fun _ => 0 := funext fun a => by fin_cases a <;> rfl

/-- The lane numbers a trip compares targets with. -/
abbrev lanes : IVec S1x2048 32 := iota .tc S1x2048 32 [1] iota_S1x2048_d1_w32
/-- The grid's second coordinate, as the kernel's word; -/
abbrev kw (i : grid1.Coords) : BitVec 32 := BitVec.ofNat 32 (i 1).val
/-- and the number of the first vocabulary column of the block there. -/
abbrev kbase (i : grid1.Coords) : BitVec 32 := Scalar.muli (kw i) 2048#32

/-- The body at a point of cluster 1 with a weight block: the loop over row blocks runs on plane 0. -/
theorem bodyA (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (h1 : k1_cond1 i = 1#1) (h2 : k1_cond2 i = 1#1) (n3 : ¬ k1_cond3 i = 1#1) (n5 : ¬ k1_cond5 i = 1#1) (n7 : ¬ k1_cond7 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ pt c arg8 f8
        ∗ pt c arg9 (sums1 c arg4 arg9 (kw i) (View.readAt (Elt F) arg5.view (Rect.unit ![0, 0] S256x2048.size inb_S256x2048_S256x2048_0_0).toLoadRect f5) f4 f9 32) ∗ pt c arg10 (gath1 c arg2 arg4 arg10 (kw i) lanes (View.readAt (Elt F) arg5.view (Rect.unit ![0, 0] S256x2048.size inb_S256x2048_S256x2048_0_0).toLoadRect f5) (kbase i) f2 f4 f10 32) -∗ Q ⟨⟩))
    ⊢ wp frame (wpE (defs₀ (F := F)) Variants.none c none) Set.univ (cc1__k2_body i arg2 harg2 arg3 harg3 arg4 harg4 arg5 harg5 arg6 harg6 arg7 harg7 arg8 harg8 arg9 harg9 arg10 harg10) Q := by
  rw [cc1__k2_body_eq_skeleton]
  iintro ⟨H2, H3, H4, H5, H6, H7, H8, H9, H10, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at a point of cluster 1 past its weight blocks: nothing changes. -/
theorem bodyN (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (h1 : k1_cond1 i = 1#1) (n2 : ¬ k1_cond2 i = 1#1) (n3 : ¬ k1_cond3 i = 1#1) (n5 : ¬ k1_cond5 i = 1#1) (n7 : ¬ k1_cond7 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ pt c arg8 f8
        ∗ pt c arg9 (f9) ∗ pt c arg10 (f10) -∗ Q ⟨⟩))
    ⊢ wp frame (wpE (defs₀ (F := F)) Variants.none c none) Set.univ (cc1__k2_body i arg2 harg2 arg3 harg3 arg4 harg4 arg5 harg5 arg6 harg6 arg7 harg7 arg8 harg8 arg9 harg9 arg10 harg10) Q := by
  rw [cc1__k2_body_eq_skeleton]
  iintro ⟨H2, H3, H4, H5, H6, H7, H8, H9, H10, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at a point of cluster 2: the loop over row blocks runs on plane 1. -/
theorem bodyB (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (n1 : ¬ k1_cond1 i = 1#1) (h3 : k1_cond3 i = 1#1) (h4 : k1_cond4 i = 1#1) (n5 : ¬ k1_cond5 i = 1#1) (n7 : ¬ k1_cond7 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ pt c arg8 f8
        ∗ pt c arg9 (sums2 c arg4 arg9 (kw i) (View.readAt (Elt F) arg6.view (Rect.unit ![0, 0] S64x2048.size inb_S64x2048_S64x2048_0_0).toLoadRect f6) f4 f9 32) ∗ pt c arg10 (gath2 c arg2 arg4 arg10 (kw i) lanes (View.readAt (Elt F) arg6.view (Rect.unit ![0, 0] S64x2048.size inb_S64x2048_S64x2048_0_0).toLoadRect f6) (kbase i) f2 f4 f10 32) -∗ Q ⟨⟩))
    ⊢ wp frame (wpE (defs₀ (F := F)) Variants.none c none) Set.univ (cc1__k2_body i arg2 harg2 arg3 harg3 arg4 harg4 arg5 harg5 arg6 harg6 arg7 harg7 arg8 harg8 arg9 harg9 arg10 harg10) Q := by
  rw [cc1__k2_body_eq_skeleton]
  iintro ⟨H2, H3, H4, H5, H6, H7, H8, H9, H10, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at a point of cluster 3 before the last: the loop over row blocks runs on plane 2. -/
theorem bodyC (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (n1 : ¬ k1_cond1 i = 1#1) (n3 : ¬ k1_cond3 i = 1#1) (h5 : k1_cond5 i = 1#1) (h6 : k1_cond6 i = 1#1) (n7 : ¬ k1_cond7 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ pt c arg8 f8
        ∗ pt c arg9 (sums3 c arg4 arg9 (kw i) (View.readAt (Elt F) arg7.view (Rect.unit ![0, 0] S16x2048.size inb_S16x2048_S16x2048_0_0).toLoadRect f7) f4 f9 32) ∗ pt c arg10 (gath3 c arg2 arg4 arg10 (kw i) lanes (View.readAt (Elt F) arg7.view (Rect.unit ![0, 0] S16x2048.size inb_S16x2048_S16x2048_0_0).toLoadRect f7) (kbase i) f2 f4 f10 32) -∗ Q ⟨⟩))
    ⊢ wp frame (wpE (defs₀ (F := F)) Variants.none c none) Set.univ (cc1__k2_body i arg2 harg2 arg3 harg3 arg4 harg4 arg5 harg5 arg6 harg6 arg7 harg7 arg8 harg8 arg9 harg9 arg10 harg10) Q := by
  rw [cc1__k2_body_eq_skeleton]
  iintro ⟨H2, H3, H4, H5, H6, H7, H8, H9, H10, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at the last point: the loop runs on plane 2, then the last loop adds up the losses and the result block is stored. -/
theorem bodyD (c : Dev nD) (i : grid1.Coords) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (n1 : ¬ k1_cond1 i = 1#1) (n3 : ¬ k1_cond3 i = 1#1) (h5 : k1_cond5 i = 1#1) (h6 : k1_cond6 i = 1#1) (h7 : k1_cond7 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ (∃ g, ⌜arg8.view.read (Elt F) g = k1_pay12 (lossAcc (arg2.view.read (Elt F) f2) (arg3.view.read (Elt F) f3) (arg9.view.read (Elt F) (sums3 c arg4 arg9 (kw i) (View.readAt (Elt F) arg7.view (Rect.unit ![0, 0] S16x2048.size inb_S16x2048_S16x2048_0_0).toLoadRect f7) f4 f9 32)) (arg10.view.read (Elt F) (gath3 c arg2 arg4 arg10 (kw i) lanes (View.readAt (Elt F) arg7.view (Rect.unit ![0, 0] S16x2048.size inb_S16x2048_S16x2048_0_0).toLoadRect f7) (kbase i) f2 f4 f10 32)) 32)⌝ ∗ pt c arg8 g)
        ∗ pt c arg9 (sums3 c arg4 arg9 (kw i) (View.readAt (Elt F) arg7.view (Rect.unit ![0, 0] S16x2048.size inb_S16x2048_S16x2048_0_0).toLoadRect f7) f4 f9 32) ∗ pt c arg10 (gath3 c arg2 arg4 arg10 (kw i) lanes (View.readAt (Elt F) arg7.view (Rect.unit ![0, 0] S16x2048.size inb_S16x2048_S16x2048_0_0).toLoadRect f7) (kbase i) f2 f4 f10 32) -∗ Q ⟨⟩))
    ⊢ wp frame (wpE (defs₀ (F := F)) Variants.none c none) Set.univ (cc1__k2_body i arg2 harg2 arg3 harg3 arg4 harg4 arg5 harg5 arg6 harg6 arg7 harg7 arg8 harg8 arg9 harg9 arg10 harg10) Q := by
  rw [cc1__k2_body_eq_skeleton]
  iintro ⟨H2, H3, H4, H5, H6, H7, H8, H9, H10, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexists _; isplitr; swap; (· iexact H8); ipureintro; refine (View.read_writes_eq_canon _ _ _ (View.cover_of_tiled _ S1x128.size rfl)).trans ((View.canon_unit_zero zero2 _ _).trans ?_); first | rfl | (subst_vars; rfl)
  isplitl [H9]; · iexact H9
  iexact H10

end Cert.KernelIdeal.Own

end
-- ==== Proof.RunI.Blocks.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import Idealize.ShloMosaic.Lib.VecWindow
public import Idealize.ShloMosaic.Lib.Pointwise.Index
public import proofs.«01_k».proof.Proof.RunI.Spec

@[expose] public section

noncomputable section

namespace Cert.KernelIdeal.Own

open Cert.KernelIdeal Cert.KernelIdeal.Gen
open Idealize.ShloMosaic
open Idealize.ShloMosaic.TcCoe

variable {F : FTy → Type} [FloatOps F]

/-! # The accumulators as planes of row blocks -/

/-- The contents of an accumulator: three planes of 8192 rows of 128 lanes. -/
abbrev Acc (F : FTy → Type) : Type := S3x8192x128.Idx → Elt F .f32

theorem inbP (j : Fin 3) (r : Fin 32) : ∀ a, (![j.val, 256 * r.val, 0] : Fin 3 → ℕ) a + S1x256x128.size a ≤ S3x8192x128.size a := by
  intro a
  fin_cases a
  · show j.val + 1 ≤ 3; omega
  · show 256 * r.val + 256 ≤ 8192; omega
  · show 0 + 128 ≤ 128; omega

/-- Row block `r` of plane `j`. -/
def pl (X : Acc F) (j : Fin 3) (r : Fin 32) : Vec F S1x256x128 .f32 :=
  View.ld X (Rect.unit (s := S3x8192x128) ![j.val, 256 * r.val, 0] S1x256x128.size (inbP j r))

theorem ld_off (X : Acc F) {off off' : Fin 3 → ℕ} (h : off = off') (hi : ∀ a, off a + S1x256x128.size a ≤ S3x8192x128.size a) (hi' : ∀ a, off' a + S1x256x128.size a ≤ S3x8192x128.size a) :
    (View.ld X (Rect.unit (s := S3x8192x128) off S1x256x128.size hi) : Vec F S1x256x128 .f32) = View.ld X (Rect.unit (s := S3x8192x128) off' S1x256x128.size hi') := by
  subst h; rfl

theorem pl_apply (X : Acc F) (j : Fin 3) (r : Fin 32) (y : S1x256x128.Idx) :
    pl X j r y = X ((Rect.unit (s := S3x8192x128) ![j.val, 256 * r.val, 0] S1x256x128.size (inbP j r)).emb y) := rfl

/-- Two accumulators with the same row blocks are the same. -/
theorem acc_ext {X Y : Acc F} (h : ∀ j r, pl X j r = pl Y j r) : X = Y := by
  funext y
  have hj : (y 0).val < 3 := (y 0).isLt
  have hr : (y 1).val < 8192 := (y 1).isLt
  have hl : (y 2).val < 128 := (y 2).isLt
  have e : (Rect.unit (s := S3x8192x128) ![(⟨(y 0).val, hj⟩ : Fin 3).val, 256 * (⟨(y 1).val / 256, by omega⟩ : Fin 32).val, 0] S1x256x128.size (inbP _ _)).emb
      (ix3 (n0 := 1) (n1 := 256) (n2 := 128) ⟨0, by omega⟩ ⟨(y 1).val % 256, by omega⟩ ⟨(y 2).val, hl⟩) = y := by
    refine Rect.emb_eq_of_coords _ _ _ (fun a => ?_)
    fin_cases a
    · show (y 0).val = (y 0).val + 1 * 0; omega
    · show (y 1).val = 256 * ((y 1).val / 256) + 1 * ((y 1).val % 256); omega
    · show (y 2).val = 0 + 1 * (y 2).val; omega
  have := congrFun (h ⟨(y 0).val, hj⟩ ⟨(y 1).val / 256, by omega⟩) (ix3 (n0 := 1) (n1 := 256) (n2 := 128) ⟨0, by omega⟩ ⟨(y 1).val % 256, by omega⟩ ⟨(y 2).val, hl⟩)
  rw [pl_apply, pl_apply, e] at this
  exact this

/-- A row block just written. -/
theorem pl_writes_hit {sp : Space} (M : Memref sig .tc sp S3x8192x128 .f32) (f : M.view.ty.Contents (Elt F)) (j : Fin 3) (r : Fin 32)
    (inb : ∀ a, (![j.val, 256 * r.val, 0] : Fin 3 → ℕ) a + S1x256x128.size a ≤ S3x8192x128.size a) (w : Vec F S1x256x128 .f32) :
    pl (M.view.read (Elt F) (M.view.writes (Elt F) f [⟨Rect.unit (s := S3x8192x128) ![j.val, 256 * r.val, 0] S1x256x128.size inb, w⟩])) j r = w :=
  funext fun y => View.read_writes_cons_emb M.view f (Rect.unit (s := S3x8192x128) ![j.val, 256 * r.val, 0] S1x256x128.size inb) w [] y

/-- A row block other than the one written. -/
theorem pl_writes_miss {sp : Space} (M : Memref sig .tc sp S3x8192x128 .f32) (f : M.view.ty.Contents (Elt F)) (j : Fin 3) (r : Fin 32)
    (inb : ∀ a, (![j.val, 256 * r.val, 0] : Fin 3 → ℕ) a + S1x256x128.size a ≤ S3x8192x128.size a) (w : Vec F S1x256x128 .f32) (j' : Fin 3) (r' : Fin 32)
    (hh : ¬(j' = j ∧ r'.val = r.val)) :
    pl (M.view.read (Elt F) (M.view.writes (Elt F) f [⟨Rect.unit (s := S3x8192x128) ![j.val, 256 * r.val, 0] S1x256x128.size inb, w⟩])) j' r' = pl (M.view.read (Elt F) f) j' r' := by
  funext y
  rw [pl_apply, pl_apply]
  have y1 : (y 1).val < 256 := (y 1).isLt
  have y0 : (y 0).val < 1 := (y 0).isLt
  by_cases hj : j' = j
  · refine View.read_writes_cons_miss_of_axis M.view f _ [] _ 1 (256 * r.val) 256 rfl rfl rfl ?_
    show 256 * r'.val + 1 * (y 1).val < 256 * r.val ∨ 256 * r.val + 256 ≤ 256 * r'.val + 1 * (y 1).val
    have : r'.val ≠ r.val := fun e => hh ⟨hj, e⟩
    omega
  · refine View.read_writes_cons_miss_of_axis M.view f _ [] _ 0 j.val 1 rfl rfl rfl ?_
    show j'.val + 1 * (y 0).val < j.val ∨ j.val + 1 ≤ j'.val + 1 * (y 0).val
    have : j'.val ≠ j.val := fun e => hj (Fin.ext e)
    omega

/-- The row blocks of an accumulator after `m` trips of a loop over plane `j`: those below `m` are the new ones. -/
theorem pl_runC {sp : Space} (M : Memref sig .tc sp S3x8192x128 .f32) (j : Fin 3) (off : Fin 32 → Fin 3 → ℕ) (ho : off = fun k => ![j.val, 256 * k.val, 0])
    (inb : ∀ k a, off k a + S1x256x128.size a ≤ S3x8192x128.size a)
    (new : Fin 32 → Vec F S1x256x128 .f32 → Vec F S1x256x128 .f32) (f : M.view.ty.Contents (Elt F)) (m : ℕ) (j' : Fin 3) (r : Fin 32) :
    pl (M.view.read (Elt F) (runC M off inb new f m)) j' r
      = if j' = j ∧ r.val < m then new r (pl (M.view.read (Elt F) f) j' r) else pl (M.view.read (Elt F) f) j' r := by
  subst ho
  induction m with
  | zero => rw [if_neg (by omega)]; rfl
  | succ k ih =>
    by_cases hk : k < 32
    · rw [runC_succ M _ inb new f ⟨k, hk⟩]
      have hold : View.readAt (Elt F) M.view (Rect.unit (s := S3x8192x128) ![j.val, 256 * (⟨k, hk⟩ : Fin 32).val, 0] S1x256x128.size (inb ⟨k, hk⟩)).toLoadRect (runC M _ inb new f k)
          = pl (M.view.read (Elt F) (runC M _ inb new f k)) j ⟨k, hk⟩ := rfl
      by_cases hh : j' = j ∧ r.val = k
      · obtain ⟨rfl, hr⟩ := hh
        obtain rfl : r = ⟨k, hk⟩ := Fin.ext hr
        rw [if_neg (by simp)] at ih
        rw [if_pos ⟨rfl, Nat.lt_succ_self k⟩, pl_writes_hit M _ j' ⟨k, hk⟩, hold, ih]
      · rw [pl_writes_miss M _ j ⟨k, hk⟩ _ _ j' r hh, ih]
        by_cases hj : j' = j
        · have : r.val ≠ k := fun e => hh ⟨hj, e⟩
          by_cases hr : r.val < k
          · rw [if_pos ⟨hj, hr⟩, if_pos ⟨hj, by omega⟩]
          · rw [if_neg (by omega), if_neg (by omega)]
        · rw [if_neg (by tauto), if_neg (by tauto)]
    · rw [runC, dif_neg hk, ih]
      have : r.val < k := by omega
      by_cases hj : j' = j
      · rw [if_pos ⟨hj, this⟩, if_pos ⟨hj, by omega⟩]
      · rw [if_neg (by tauto), if_neg (by tauto)]

/-! ## A first step ignores the block it finds -/

theorem stepS1_zero (w : Vec F S256x2048 .bf16) (t : Vec F S256x256 .bf16) (o o' : Vec F S1x256x128 .f32) : stepS1 0#32 w t o = stepS1 0#32 w t o' := rfl
theorem stepT1_zero (v0 : IVec S1x2048 32) (v20 : BitVec 32) (w : Vec F S256x2048 .bf16) (t : Vec F S256x256 .bf16) (tg : Vec F S1x256 .i32) (o o' : Vec F S1x256x128 .f32) :
    stepT1 v0 v20 0#32 w t tg o = stepT1 v0 v20 0#32 w t tg o' := rfl
theorem stepS2_zero (w : Vec F S64x2048 .bf16) (t : Vec F S256x64 .bf16) (o o' : Vec F S1x256x128 .f32) : stepS2 0#32 w t o = stepS2 0#32 w t o' := rfl
theorem stepT2_zero (v0 : IVec S1x2048 32) (v20 : BitVec 32) (w : Vec F S64x2048 .bf16) (t : Vec F S256x64 .bf16) (tg : Vec F S1x256 .i32) (o o' : Vec F S1x256x128 .f32) :
    stepT2 v0 v20 0#32 w t tg o = stepT2 v0 v20 0#32 w t tg o' := rfl
theorem stepS3_zero (w : Vec F S16x2048 .bf16) (t : Vec F S256x16 .bf16) (o o' : Vec F S1x256x128 .f32) : stepS3 0#32 w t o = stepS3 0#32 w t o' := rfl
theorem stepT3_zero (v0 : IVec S1x2048 32) (v20 : BitVec 32) (w : Vec F S16x2048 .bf16) (t : Vec F S256x16 .bf16) (tg : Vec F S1x256 .i32) (o o' : Vec F S1x256x128 .f32) :
    stepT3 v0 v20 0#32 w t tg o = stepT3 v0 v20 0#32 w t tg o' := rfl

/-! ## The accumulators between two points -/

/-- How many steps plane `j` takes in all. -/
def lim (j : Fin 3) : ℕ := if j.val = 0 then 8 else 20
/-- How many of them come before point `n`. -/
def stepsAt (j : Fin 3) (n : ℕ) : ℕ := min (n - 20 * j.val) (lim j)

/-- The block that `k` steps of a plane make, whatever it held before. -/
def accOf (new : ℕ → Fin 32 → Vec F S1x256x128 .f32 → Vec F S1x256x128 .f32) (j : Fin 3) (r : Fin 32) : ℕ → Vec F S1x256x128 .f32
  | 0 => fun _ => FloatOps.ofBits FTy.f32 0#32
  | k + 1 => new (20 * j.val + k) r (accOf new j r k)

/-- Before point `n`, the planes that have begun hold what their steps made. -/
def Held (new : ℕ → Fin 32 → Vec F S1x256x128 .f32 → Vec F S1x256x128 .f32) (n : ℕ) (X : Acc F) : Prop :=
  ∀ j r, 0 < stepsAt j n → pl X j r = accOf new j r (stepsAt j n)

theorem held_zero (new : ℕ → Fin 32 → Vec F S1x256x128 .f32 → Vec F S1x256x128 .f32) (X : Acc F) : Held new 0 X := by
  intro j r h; simp [stepsAt] at h

/-- A point that runs no plane keeps the fact. -/
theorem held_idle {new : ℕ → Fin 32 → Vec F S1x256x128 .f32 → Vec F S1x256x128 .f32} {n : ℕ} {X : Acc F} (h8 : 8 ≤ n) (h20 : n < 20) (h : Held new n X) : Held new (n + 1) X := by
  have e : ∀ j, stepsAt j (n + 1) = stepsAt j n := by
    intro j; fin_cases j <;> simp [stepsAt, lim] <;> omega
  intro j r hp; rw [e] at hp ⊢; exact h j r hp

/-- A point that runs plane `j` carries the fact on. -/
theorem held_step {new : ℕ → Fin 32 → Vec F S1x256x128 .f32 → Vec F S1x256x128 .f32} {n : ℕ} {X X' : Acc F} (j : Fin 3) (h1 : 20 * j.val ≤ n) (h2 : n < 20 * j.val + lim j)
    (hz : ∀ r o o', new (20 * j.val) r o = new (20 * j.val) r o')
    (hX : ∀ j' r, pl X' j' r = if j' = j ∧ r.val < 32 then new n r (pl X j' r) else pl X j' r) (h : Held new n X) : Held new (n + 1) X' := by
  intro j' r hp
  rw [hX]
  by_cases hj : j' = j
  · subst hj
    rw [if_pos ⟨rfl, r.isLt⟩]
    have e : stepsAt j' (n + 1) = (n - 20 * j'.val) + 1 := by unfold stepsAt; omega
    have e0 : stepsAt j' n = n - 20 * j'.val := by unfold stepsAt; omega
    rw [e, accOf, show 20 * j'.val + (n - 20 * j'.val) = n by omega]
    rcases Nat.eq_or_lt_of_le h1 with h0 | h0
    · rw [← h0]; exact hz _ _ _
    · rw [h j' r (by omega), e0]
  · rw [if_neg (by tauto)]
    have e : stepsAt j' (n + 1) = stepsAt j' n := by
      have : j'.val ≠ j.val := fun e => hj (Fin.ext e)
      have a := j.isLt; have b := j'.isLt
      unfold stepsAt lim at *
      split_ifs at * <;> omega
    rw [e] at hp ⊢; exact h j' r hp

/-- The accumulator that all the steps make. -/
def accAll (new : ℕ → Fin 32 → Vec F S1x256x128 .f32 → Vec F S1x256x128 .f32) : Acc F := fun y =>
  accOf new ⟨(y 0).val, (y 0).isLt⟩ ⟨(y 1).val / 256, by have : (y 1).val < 8192 := (y 1).isLt; omega⟩ (lim ⟨(y 0).val, (y 0).isLt⟩)
    (ix3 (n0 := 1) (n1 := 256) (n2 := 128) ⟨0, by omega⟩ ⟨(y 1).val % 256, by omega⟩ ⟨(y 2).val, (y 2).isLt⟩)

theorem pl_accAll (new : ℕ → Fin 32 → Vec F S1x256x128 .f32 → Vec F S1x256x128 .f32) (j : Fin 3) (r : Fin 32) : pl (accAll new) j r = accOf new j r (lim j) := by
  funext y
  have y0 : (y 0).val < 1 := (y 0).isLt
  have y1 : (y 1).val < 256 := (y 1).isLt
  have y2 : (y 2).val < 128 := (y 2).isLt
  rw [pl_apply]
  unfold accAll
  have c0 : ((Rect.unit (s := S3x8192x128) ![j.val, 256 * r.val, 0] S1x256x128.size (inbP j r)).emb y 0).val = j.val := by
    show j.val + 1 * (y 0).val = j.val; omega
  have c1 : ((Rect.unit (s := S3x8192x128) ![j.val, 256 * r.val, 0] S1x256x128.size (inbP j r)).emb y 1).val = 256 * r.val + (y 1).val := by
    show 256 * r.val + 1 * (y 1).val = _; omega
  have c2 : ((Rect.unit (s := S3x8192x128) ![j.val, 256 * r.val, 0] S1x256x128.size (inbP j r)).emb y 2).val = (y 2).val := by
    show 0 + 1 * (y 2).val = _; omega
  have e0 : (⟨_, ((Rect.unit (s := S3x8192x128) ![j.val, 256 * r.val, 0] S1x256x128.size (inbP j r)).emb y 0).isLt⟩ : Fin 3) = j := Fin.ext c0
  have e1 : ∀ h, (⟨((Rect.unit (s := S3x8192x128) ![j.val, 256 * r.val, 0] S1x256x128.size (inbP j r)).emb y 1).val / 256, h⟩ : Fin 32) = r := fun h => Fin.ext (by show _ / 256 = _; rw [c1]; omega)
  rw [e0, e1]
  congr 1
  funext a
  fin_cases a
  · exact Fin.ext (by show 0 = (y 0).val; omega)
  · exact Fin.ext (by show _ % 256 = (y 1).val; rw [c1]; omega)
  · exact Fin.ext c2

/-- When all the points are done the accumulator is the one all the steps make. -/
theorem held_all {new : ℕ → Fin 32 → Vec F S1x256x128 .f32 → Vec F S1x256x128 .f32} {X : Acc F} (h : Held new 60 X) : X = accAll new := by
  refine acc_ext fun j r => ?_
  have e : stepsAt j 60 = lim j := by have := j.isLt; unfold stepsAt lim; split_ifs <;> omega
  rw [pl_accAll, h j r (by rw [e]; unfold lim; split_ifs <;> omega), e]

end Cert.KernelIdeal.Own

end
-- ==== Proof.RunI.Steps1.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import proofs.«01_k».proof.Proof.RunI.Region0
public import proofs.«01_k».proof.Proof.RunI.Body1
public import proofs.«01_k».proof.Proof.RunI.Blocks
public import proofs.«01_k».proof.Proof.Gen.KernelIdeal.Regions
public import Idealize.ShloMosaic.Lib.Pipeline.DatRel
public import Idealize.ShloMosaic.Lib.Pipeline.ArrRel
public import Idealize.ShloMosaic.Lib.Pipeline.FrameBody

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

open Idealize.ShloMosaic.Pipeline (Dat RDat BodyObligationRel)

/-- Region 1's block of window 0 at point `t`, of the array's contents. -/
noncomputable def blk1_0 {c : Dev nD} (V : Vals (F := F) c) (t : Fin cfg1.N) : Vec F S32x256 .i32 :=
  ((cfg1.win 0).blk t).view.read (Elt F) (V (Pipeline.arrRef spec1 0))
/-- Region 1's block of window 1 at point `t`, of the array's contents. -/
noncomputable def blk1_1 {c : Dev nD} (V : Vals (F := F) c) (t : Fin cfg1.N) : Vec F S32x8x256 .f32 :=
  ((cfg1.win 1).blk t).view.read (Elt F) (V (Pipeline.arrRef spec1 1))
/-- Region 1's block of window 2 at point `t`, of the array's contents. -/
noncomputable def blk1_2 {c : Dev nD} (V : Vals (F := F) c) (t : Fin cfg1.N) : Vec F S8192x512 .bf16 :=
  ((cfg1.win 2).blk t).view.read (Elt F) (V (Pipeline.arrRef spec1 2))
/-- Region 1's block of window 3 at point `t`, of the array's contents. -/
noncomputable def blk1_3 {c : Dev nD} (V : Vals (F := F) c) (t : Fin cfg1.N) : Vec F S256x2048 .bf16 :=
  ((cfg1.win 3).blk t).view.read (Elt F) (V (Pipeline.arrRef spec1 3))
/-- Region 1's block of window 4 at point `t`, of the array's contents. -/
noncomputable def blk1_4 {c : Dev nD} (V : Vals (F := F) c) (t : Fin cfg1.N) : Vec F S64x2048 .bf16 :=
  ((cfg1.win 4).blk t).view.read (Elt F) (V (Pipeline.arrRef spec1 4))
/-- Region 1's block of window 5 at point `t`, of the array's contents. -/
noncomputable def blk1_5 {c : Dev nD} (V : Vals (F := F) c) (t : Fin cfg1.N) : Vec F S16x2048 .bf16 :=
  ((cfg1.win 5).blk t).view.read (Elt F) (V (Pipeline.arrRef spec1 5))
/-- Region 1's block of window 6 at point `t`, of the array's contents. -/
noncomputable def blk1_6 {c : Dev nD} (V : Vals (F := F) c) (t : Fin cfg1.N) : Vec F S1x128 .f32 :=
  ((cfg1.win 6).blk t).view.read (Elt F) (V (Pipeline.arrRef spec1 6))

/-! ## What the points of region 1 do to the two accumulators -/

theorem lt60 (t : Fin cfg1.N) : t.val < 60 := lt_of_lt_of_eq t.isLt N_1
/-- Point `n` of the grid. -/
noncomputable def ptOf (n : ℕ) : Fin cfg1.N := ⟨n % 60, lt_of_lt_of_eq (Nat.mod_lt n (by omega)) N_1.symm⟩
theorem ptOf_val (t : Fin cfg1.N) : ptOf t.val = t := by
  refine Fin.ext ?_
  have := lt60 t
  show t.val % 60 = t.val; omega
/-- The step within a cluster at point `n`, as the kernel's word. -/
noncomputable def word (n : ℕ) : BitVec 32 := BitVec.ofNat 32 (n % 20)
theorem coord1 : ∀ t : Fin cfg1.N, (grid1.coords t 1).val = t.val % 20 := by decide +kernel
theorem kw_eq (t : Fin cfg1.N) : kw (grid1.coords t) = word t.val := by unfold kw word; rw [coord1]

/-- What point `n` makes of row block `r` of the running sums of its plane; -/
noncomputable def newS {c : Dev nD} (V : Vals (F := F) c) (n : ℕ) (r : Fin 32) (old : Vec F S1x256x128 .f32) : Vec F S1x256x128 .f32 :=
  if n < 20 then stepS1 (word n) (blk1_3 V (ptOf n)) (tb1 (blk1_2 V (ptOf n)) r) old
  else if n < 40 then stepS2 (word n) (blk1_4 V (ptOf n)) (tb2 (blk1_2 V (ptOf n)) r) old
  else stepS3 (word n) (blk1_5 V (ptOf n)) (tb3 (blk1_2 V (ptOf n)) r) old
/-- and of the gathered values. -/
noncomputable def newT {c : Dev nD} (V : Vals (F := F) c) (n : ℕ) (r : Fin 32) (old : Vec F S1x256x128 .f32) : Vec F S1x256x128 .f32 :=
  if n < 20 then stepT1 lanes (Scalar.muli (word n) 2048#32) (word n) (blk1_3 V (ptOf n)) (tb1 (blk1_2 V (ptOf n)) r) (tgb1 (blk1_0 V (ptOf n)) r) old
  else if n < 40 then stepT2 lanes (Scalar.muli (word n) 2048#32) (word n) (blk1_4 V (ptOf n)) (tb2 (blk1_2 V (ptOf n)) r) (tgb2 (blk1_0 V (ptOf n)) r) old
  else stepT3 lanes (Scalar.muli (word n) 2048#32) (word n) (blk1_5 V (ptOf n)) (tb3 (blk1_2 V (ptOf n)) r) (tgb3 (blk1_0 V (ptOf n)) r) old

theorem newS_first {c : Dev nD} (V : Vals (F := F) c) (j : Fin 3) (r : Fin 32) (o o' : Vec F S1x256x128 .f32) : newS V (20 * j.val) r o = newS V (20 * j.val) r o' := by
  fin_cases j
  · exact stepS1_zero _ _ _ _
  · exact stepS2_zero _ _ _ _
  · exact stepS3_zero _ _ _ _
theorem newT_first {c : Dev nD} (V : Vals (F := F) c) (j : Fin 3) (r : Fin 32) (o o' : Vec F S1x256x128 .f32) : newT V (20 * j.val) r o = newT V (20 * j.val) r o' := by
  fin_cases j
  · exact stepT1_zero _ _ _ _ _ _ _
  · exact stepT2_zero _ _ _ _ _ _ _
  · exact stepT3_zero _ _ _ _ _ _ _

/-- The row of 128 lanes the last point stores. -/
noncomputable def out1 {c : Dev nD} (V : Vals (F := F) c) : Vec F S1x128 .f32 :=
  k1_pay12 (lossAcc (blk1_0 V (ptOf 59)) (blk1_1 V (ptOf 59)) (accAll (newS V)) (accAll (newT V)) 32)

theorem off3_eq : k1_off3 = fun k : Fin 32 => ![(0 : Fin 3).val, 256 * k.val, 0] :=
  funext fun k => funext fun a => (show ∀ (k : Fin k1_t1_loop.trips) (a : Fin 3), k1_off3 k a = (![(0 : Fin 3).val, 256 * k.val, 0] : Fin 3 → ℕ) a by decide +kernel) k a
theorem off6_eq : k1_off6 = fun k : Fin 32 => ![(1 : Fin 3).val, 256 * k.val, 0] :=
  funext fun k => funext fun a => (show ∀ (k : Fin k1_t2_loop.trips) (a : Fin 3), k1_off6 k a = (![(1 : Fin 3).val, 256 * k.val, 0] : Fin 3 → ℕ) a by decide +kernel) k a
theorem off9_eq : k1_off9 = fun k : Fin 32 => ![(2 : Fin 3).val, 256 * k.val, 0] :=
  funext fun k => funext fun a => (show ∀ (k : Fin k1_t3_loop.trips) (a : Fin 3), k1_off9 k a = (![(2 : Fin 3).val, 256 * k.val, 0] : Fin 3 → ℕ) a by decide +kernel) k a

theorem newS_1 {c : Dev nD} (V : Vals (F := F) c) (t : Fin cfg1.N) (h : t.val < 8) (r : Fin 32) (old : Vec F S1x256x128 .f32) :
    newS V t.val r old = stepS1 (kw (grid1.coords t)) (blk1_3 V t) (tb1 (blk1_2 V t) r) old := by
  refine (if_pos (show t.val < 20 by omega) : newS V t.val r old = _).trans ?_
  rw [kw_eq, ptOf_val]
theorem newT_1 {c : Dev nD} (V : Vals (F := F) c) (t : Fin cfg1.N) (h : t.val < 8) (r : Fin 32) (old : Vec F S1x256x128 .f32) :
    newT V t.val r old = stepT1 lanes (kbase (grid1.coords t)) (kw (grid1.coords t)) (blk1_3 V t) (tb1 (blk1_2 V t) r) (tgb1 (blk1_0 V t) r) old := by
  refine (if_pos (show t.val < 20 by omega) : newT V t.val r old = _).trans ?_
  unfold kbase
  rw [kw_eq, ptOf_val]
theorem heldS1 {c : Dev nD} (V : Vals (F := F) c) (t : Fin cfg1.N) (h : t.val < 8) {sp : Space} (M : Memref sig .tc sp S3x8192x128 .f32) (f : M.view.ty.Contents (Elt F))
    (H : Held (newS V) t.val (M.view.read (Elt F) f)) :
    Held (newS V) (t.val + 1) (M.view.read (Elt F) (runC M (n := k1_t1_loop.trips) k1_off3 inb3 (fun k old => stepS1 (kw (grid1.coords t)) (blk1_3 V t) (tb1 (blk1_2 V t) k) old) f 32)) := by
  have hN := lt60 t
  refine held_step 0 (by simp; try omega) (by simp [lim]; try omega) (newS_first V 0) (fun j' r => ?_) H
  refine (pl_runC M 0 k1_off3 off3_eq inb3 _ f 32 j' r).trans ?_
  rw [newS_1 V t h]
theorem heldT1 {c : Dev nD} (V : Vals (F := F) c) (t : Fin cfg1.N) (h : t.val < 8) {sp : Space} (M : Memref sig .tc sp S3x8192x128 .f32) (f : M.view.ty.Contents (Elt F))
    (H : Held (newT V) t.val (M.view.read (Elt F) f)) :
    Held (newT V) (t.val + 1) (M.view.read (Elt F) (runC M (n := k1_t1_loop.trips) k1_off3 inb3 (fun k old => stepT1 lanes (kbase (grid1.coords t)) (kw (grid1.coords t)) (blk1_3 V t) (tb1 (blk1_2 V t) k) (tgb1 (blk1_0 V t) k) old) f 32)) := by
  have hN := lt60 t
  refine held_step 0 (by simp; try omega) (by simp [lim]; try omega) (newT_first V 0) (fun j' r => ?_) H
  refine (pl_runC M 0 k1_off3 off3_eq inb3 _ f 32 j' r).trans ?_
  rw [newT_1 V t h]

theorem newS_2 {c : Dev nD} (V : Vals (F := F) c) (t : Fin cfg1.N) (h : 20 ≤ t.val) (h' : t.val < 40) (r : Fin 32) (old : Vec F S1x256x128 .f32) :
    newS V t.val r old = stepS2 (kw (grid1.coords t)) (blk1_4 V t) (tb2 (blk1_2 V t) r) old := by
  refine ((if_neg (show ¬ t.val < 20 by omega)).trans (if_pos (show t.val < 40 by omega)) : newS V t.val r old = _).trans ?_
  rw [kw_eq, ptOf_val]
theorem newT_2 {c : Dev nD} (V : Vals (F := F) c) (t : Fin cfg1.N) (h : 20 ≤ t.val) (h' : t.val < 40) (r : Fin 32) (old : Vec F S1x256x128 .f32) :
    newT V t.val r old = stepT2 lanes (kbase (grid1.coords t)) (kw (grid1.coords t)) (blk1_4 V t) (tb2 (blk1_2 V t) r) (tgb2 (blk1_0 V t) r) old := by
  refine ((if_neg (show ¬ t.val < 20 by omega)).trans (if_pos (show t.val < 40 by omega)) : newT V t.val r old = _).trans ?_
  unfold kbase
  rw [kw_eq, ptOf_val]
theorem heldS2 {c : Dev nD} (V : Vals (F := F) c) (t : Fin cfg1.N) (h : 20 ≤ t.val) (h' : t.val < 40) {sp : Space} (M : Memref sig .tc sp S3x8192x128 .f32) (f : M.view.ty.Contents (Elt F))
    (H : Held (newS V) t.val (M.view.read (Elt F) f)) :
    Held (newS V) (t.val + 1) (M.view.read (Elt F) (runC M (n := k1_t2_loop.trips) k1_off6 inb6 (fun k old => stepS2 (kw (grid1.coords t)) (blk1_4 V t) (tb2 (blk1_2 V t) k) old) f 32)) := by
  have hN := lt60 t
  refine held_step 1 (by simp; try omega) (by simp [lim]; try omega) (newS_first V 1) (fun j' r => ?_) H
  refine (pl_runC M 1 k1_off6 off6_eq inb6 _ f 32 j' r).trans ?_
  rw [newS_2 V t h h']
theorem heldT2 {c : Dev nD} (V : Vals (F := F) c) (t : Fin cfg1.N) (h : 20 ≤ t.val) (h' : t.val < 40) {sp : Space} (M : Memref sig .tc sp S3x8192x128 .f32) (f : M.view.ty.Contents (Elt F))
    (H : Held (newT V) t.val (M.view.read (Elt F) f)) :
    Held (newT V) (t.val + 1) (M.view.read (Elt F) (runC M (n := k1_t2_loop.trips) k1_off6 inb6 (fun k old => stepT2 lanes (kbase (grid1.coords t)) (kw (grid1.coords t)) (blk1_4 V t) (tb2 (blk1_2 V t) k) (tgb2 (blk1_0 V t) k) old) f 32)) := by
  have hN := lt60 t
  refine held_step 1 (by simp; try omega) (by simp [lim]; try omega) (newT_first V 1) (fun j' r => ?_) H
  refine (pl_runC M 1 k1_off6 off6_eq inb6 _ f 32 j' r).trans ?_
  rw [newT_2 V t h h']

theorem newS_3 {c : Dev nD} (V : Vals (F := F) c) (t : Fin cfg1.N) (h : 40 ≤ t.val) (r : Fin 32) (old : Vec F S1x256x128 .f32) :
    newS V t.val r old = stepS3 (kw (grid1.coords t)) (blk1_5 V t) (tb3 (blk1_2 V t) r) old := by
  refine ((if_neg (show ¬ t.val < 20 by omega)).trans (if_neg (show ¬ t.val < 40 by omega)) : newS V t.val r old = _).trans ?_
  rw [kw_eq, ptOf_val]
theorem newT_3 {c : Dev nD} (V : Vals (F := F) c) (t : Fin cfg1.N) (h : 40 ≤ t.val) (r : Fin 32) (old : Vec F S1x256x128 .f32) :
    newT V t.val r old = stepT3 lanes (kbase (grid1.coords t)) (kw (grid1.coords t)) (blk1_5 V t) (tb3 (blk1_2 V t) r) (tgb3 (blk1_0 V t) r) old := by
  refine ((if_neg (show ¬ t.val < 20 by omega)).trans (if_neg (show ¬ t.val < 40 by omega)) : newT V t.val r old = _).trans ?_
  unfold kbase
  rw [kw_eq, ptOf_val]
theorem heldS3 {c : Dev nD} (V : Vals (F := F) c) (t : Fin cfg1.N) (h : 40 ≤ t.val) {sp : Space} (M : Memref sig .tc sp S3x8192x128 .f32) (f : M.view.ty.Contents (Elt F))
    (H : Held (newS V) t.val (M.view.read (Elt F) f)) :
    Held (newS V) (t.val + 1) (M.view.read (Elt F) (runC M (n := k1_t3_loop.trips) k1_off9 inb9 (fun k old => stepS3 (kw (grid1.coords t)) (blk1_5 V t) (tb3 (blk1_2 V t) k) old) f 32)) := by
  have hN := lt60 t
  refine held_step 2 (by simp; try omega) (by simp [lim]; try omega) (newS_first V 2) (fun j' r => ?_) H
  refine (pl_runC M 2 k1_off9 off9_eq inb9 _ f 32 j' r).trans ?_
  rw [newS_3 V t h]
theorem heldT3 {c : Dev nD} (V : Vals (F := F) c) (t : Fin cfg1.N) (h : 40 ≤ t.val) {sp : Space} (M : Memref sig .tc sp S3x8192x128 .f32) (f : M.view.ty.Contents (Elt F))
    (H : Held (newT V) t.val (M.view.read (Elt F) f)) :
    Held (newT V) (t.val + 1) (M.view.read (Elt F) (runC M (n := k1_t3_loop.trips) k1_off9 inb9 (fun k old => stepT3 lanes (kbase (grid1.coords t)) (kw (grid1.coords t)) (blk1_5 V t) (tb3 (blk1_2 V t) k) (tgb3 (blk1_0 V t) k) old) f 32)) := by
  have hN := lt60 t
  refine held_step 2 (by simp; try omega) (by simp [lim]; try omega) (newT_first V 2) (fun j' r => ?_) H
  refine (pl_runC M 2 k1_off9 off9_eq inb9 _ f 32 j' r).trans ?_
  rw [newT_3 V t h]

/-! ## Which of the body's branches a point takes -/

theorem condA : ∀ t : Fin cfg1.N, t.val < 8 → k1_cond1 (grid1.coords t) = 1#1 ∧ k1_cond2 (grid1.coords t) = 1#1 ∧ ¬ k1_cond3 (grid1.coords t) = 1#1 ∧ ¬ k1_cond5 (grid1.coords t) = 1#1 ∧ ¬ k1_cond7 (grid1.coords t) = 1#1 := by decide +kernel
theorem condN : ∀ t : Fin cfg1.N, 8 ≤ t.val → t.val < 20 → k1_cond1 (grid1.coords t) = 1#1 ∧ ¬ k1_cond2 (grid1.coords t) = 1#1 ∧ ¬ k1_cond3 (grid1.coords t) = 1#1 ∧ ¬ k1_cond5 (grid1.coords t) = 1#1 ∧ ¬ k1_cond7 (grid1.coords t) = 1#1 := by decide +kernel
theorem condB : ∀ t : Fin cfg1.N, 20 ≤ t.val → t.val < 40 → ¬ k1_cond1 (grid1.coords t) = 1#1 ∧ k1_cond3 (grid1.coords t) = 1#1 ∧ k1_cond4 (grid1.coords t) = 1#1 ∧ ¬ k1_cond5 (grid1.coords t) = 1#1 ∧ ¬ k1_cond7 (grid1.coords t) = 1#1 := by decide +kernel
theorem condC : ∀ t : Fin cfg1.N, 40 ≤ t.val → t.val < 59 → ¬ k1_cond1 (grid1.coords t) = 1#1 ∧ ¬ k1_cond3 (grid1.coords t) = 1#1 ∧ k1_cond5 (grid1.coords t) = 1#1 ∧ k1_cond6 (grid1.coords t) = 1#1 ∧ ¬ k1_cond7 (grid1.coords t) = 1#1 := by decide +kernel
theorem condD : ∀ t : Fin cfg1.N, 59 ≤ t.val → ¬ k1_cond1 (grid1.coords t) = 1#1 ∧ ¬ k1_cond3 (grid1.coords t) = 1#1 ∧ k1_cond5 (grid1.coords t) = 1#1 ∧ k1_cond6 (grid1.coords t) = 1#1 ∧ k1_cond7 (grid1.coords t) = 1#1 := by decide +kernel

/-- The body at any point, on buffers that hold the point's blocks and on accumulators as the points before left them:
    the inputs are kept, the accumulators are carried on, and the last point stores the result row. -/
theorem body1 (c : Dev nD) (V : Vals (F := F) c) (t : Fin cfg1.N) (arg2 : Memref sig .tc .vmem S32x256 .i32) (harg2 : arg2.IsWhole) (arg3 : Memref sig .tc .vmem S32x8x256 .f32) (harg3 : arg3.IsWhole) (arg4 : Memref sig .tc .vmem S8192x512 .bf16) (harg4 : arg4.IsWhole) (arg5 : Memref sig .tc .vmem S256x2048 .bf16) (harg5 : arg5.IsWhole) (arg6 : Memref sig .tc .vmem S64x2048 .bf16) (harg6 : arg6.IsWhole) (arg7 : Memref sig .tc .vmem S16x2048 .bf16) (harg7 : arg7.IsWhole) (arg8 : Memref sig .tc .vmem S1x128 .f32) (harg8 : arg8.IsWhole) (arg9 : Memref sig .tc .vmem S3x8192x128 .f32) (harg9 : arg9.IsWhole) (arg10 : Memref sig .tc .vmem S3x8192x128 .f32) (harg10 : arg10.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10)
    (e2 : arg2.view.read (Elt F) f2 = blk1_0 V t) (e3 : arg3.view.read (Elt F) f3 = blk1_1 V t) (e4 : arg4.view.read (Elt F) f4 = blk1_2 V t) (e5 : arg5.view.read (Elt F) f5 = blk1_3 V t) (e6 : arg6.view.read (Elt F) f6 = blk1_4 V t) (e7 : arg7.view.read (Elt F) f7 = blk1_5 V t)
    (H9 : Held (newS V) t.val (arg9.view.read (Elt F) f9)) (H10 : Held (newT V) t.val (arg10.view.read (Elt F) f10)) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
      ∗ (pt c arg2 f2 ∗ pt c arg3 f3 ∗ pt c arg4 f4 ∗ pt c arg5 f5 ∗ pt c arg6 f6 ∗ pt c arg7 f7 ∗ (∃ g, ⌜t.val = 59 → arg8.view.read (Elt F) g = out1 V⌝ ∗ pt c arg8 g)
        ∗ (∃ g, ⌜Held (newS V) (t.val + 1) (arg9.view.read (Elt F) g)⌝ ∗ pt c arg9 g)
        ∗ (∃ g, ⌜Held (newT V) (t.val + 1) (arg10.view.read (Elt F) g)⌝ ∗ pt c arg10 g) -∗ Q ⟨⟩))
    ⊢ wp frame (wpE (defs₀ (F := F)) Variants.none c none) Set.univ (cc1__k2_body (grid1.coords t) arg2 harg2 arg3 harg3 arg4 harg4 arg5 harg5 arg6 harg6 arg7 harg7 arg8 harg8 arg9 harg9 arg10 harg10) Q := by
  have hN := lt60 t
  rcases Nat.lt_or_ge t.val 8 with h8 | h8
  · obtain ⟨a, b, d, e, g⟩ := condA t h8
    iintro ⟨K2, K3, K4, K5, K6, K7, K8, K9, K10, Hk⟩
    iapply (bodyA c (grid1.coords t) arg2 harg2 arg3 harg3 arg4 harg4 arg5 harg5 arg6 harg6 arg7 harg7 arg8 harg8 arg9 harg9 arg10 harg10 a b d e g f2 f3 f4 f5 f6 f7 f8 f9 f10)
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iintro ⟨K2, K3, K4, K5, K6, K7, K8, K9, K10⟩
    have hw : View.readAt (Elt F) arg5.view (Rect.unit ![0, 0] S256x2048.size inb_S256x2048_S256x2048_0_0).toLoadRect f5 = blk1_3 V t := by
      rw [View.readAt_eq_ld, View.ld_unit_zero zero2]; exact e5
    have hS : Held (newS V) (t.val + 1) (arg9.view.read (Elt F) (sums1 c arg4 arg9 (kw (grid1.coords t)) (View.readAt (Elt F) arg5.view (Rect.unit ![0, 0] S256x2048.size inb_S256x2048_S256x2048_0_0).toLoadRect f5) f4 f9 32)) := by
      unfold sums1; rw [hw, e4]; exact heldS1 V t (by omega) arg9 f9 H9
    have hT : Held (newT V) (t.val + 1) (arg10.view.read (Elt F) (gath1 c arg2 arg4 arg10 (kw (grid1.coords t)) lanes (View.readAt (Elt F) arg5.view (Rect.unit ![0, 0] S256x2048.size inb_S256x2048_S256x2048_0_0).toLoadRect f5) (kbase (grid1.coords t)) f2 f4 f10 32)) := by
      unfold gath1; rw [hw, e4, e2]; exact heldT1 V t (by omega) arg10 f10 H10
    iapply Hk
    isplitl [K2]; · iexact K2
    isplitl [K3]; · iexact K3
    isplitl [K4]; · iexact K4
    isplitl [K5]; · iexact K5
    isplitl [K6]; · iexact K6
    isplitl [K7]; · iexact K7
    isplitl [K8]; · iexists f8; isplitr; (· ipureintro; exact fun h => absurd h (by omega)); iexact K8
    isplitl [K9]; · iexists _; isplitr; swap; (· iexact K9); ipureintro; exact hS
    iexists _; isplitr; swap; (· iexact K10); ipureintro; exact hT
  rcases Nat.lt_or_ge t.val 20 with h20 | h20
  · obtain ⟨a, b, d, e, g⟩ := condN t h8 h20
    iintro ⟨K2, K3, K4, K5, K6, K7, K8, K9, K10, Hk⟩
    iapply (bodyN c (grid1.coords t) arg2 harg2 arg3 harg3 arg4 harg4 arg5 harg5 arg6 harg6 arg7 harg7 arg8 harg8 arg9 harg9 arg10 harg10 a b d e g f2 f3 f4 f5 f6 f7 f8 f9 f10)
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iintro ⟨K2, K3, K4, K5, K6, K7, K8, K9, K10⟩
    have hS : Held (newS V) (t.val + 1) (arg9.view.read (Elt F) f9) := held_idle (by omega) (by omega) H9
    have hT : Held (newT V) (t.val + 1) (arg10.view.read (Elt F) f10) := held_idle (by omega) (by omega) H10
    iapply Hk
    isplitl [K2]; · iexact K2
    isplitl [K3]; · iexact K3
    isplitl [K4]; · iexact K4
    isplitl [K5]; · iexact K5
    isplitl [K6]; · iexact K6
    isplitl [K7]; · iexact K7
    isplitl [K8]; · iexists f8; isplitr; (· ipureintro; exact fun h => absurd h (by omega)); iexact K8
    isplitl [K9]; · iexists _; isplitr; swap; (· iexact K9); ipureintro; exact hS
    iexists _; isplitr; swap; (· iexact K10); ipureintro; exact hT
  rcases Nat.lt_or_ge t.val 40 with h40 | h40
  · obtain ⟨a, b, d, e, g⟩ := condB t h20 h40
    iintro ⟨K2, K3, K4, K5, K6, K7, K8, K9, K10, Hk⟩
    iapply (bodyB c (grid1.coords t) arg2 harg2 arg3 harg3 arg4 harg4 arg5 harg5 arg6 harg6 arg7 harg7 arg8 harg8 arg9 harg9 arg10 harg10 a b d e g f2 f3 f4 f5 f6 f7 f8 f9 f10)
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iintro ⟨K2, K3, K4, K5, K6, K7, K8, K9, K10⟩
    have hw : View.readAt (Elt F) arg6.view (Rect.unit ![0, 0] S64x2048.size inb_S64x2048_S64x2048_0_0).toLoadRect f6 = blk1_4 V t := by
      rw [View.readAt_eq_ld, View.ld_unit_zero zero2]; exact e6
    have hS : Held (newS V) (t.val + 1) (arg9.view.read (Elt F) (sums2 c arg4 arg9 (kw (grid1.coords t)) (View.readAt (Elt F) arg6.view (Rect.unit ![0, 0] S64x2048.size inb_S64x2048_S64x2048_0_0).toLoadRect f6) f4 f9 32)) := by
      unfold sums2; rw [hw, e4]; exact heldS2 V t (by omega) (by omega) arg9 f9 H9
    have hT : Held (newT V) (t.val + 1) (arg10.view.read (Elt F) (gath2 c arg2 arg4 arg10 (kw (grid1.coords t)) lanes (View.readAt (Elt F) arg6.view (Rect.unit ![0, 0] S64x2048.size inb_S64x2048_S64x2048_0_0).toLoadRect f6) (kbase (grid1.coords t)) f2 f4 f10 32)) := by
      unfold gath2; rw [hw, e4, e2]; exact heldT2 V t (by omega) (by omega) arg10 f10 H10
    iapply Hk
    isplitl [K2]; · iexact K2
    isplitl [K3]; · iexact K3
    isplitl [K4]; · iexact K4
    isplitl [K5]; · iexact K5
    isplitl [K6]; · iexact K6
    isplitl [K7]; · iexact K7
    isplitl [K8]; · iexists f8; isplitr; (· ipureintro; exact fun h => absurd h (by omega)); iexact K8
    isplitl [K9]; · iexists _; isplitr; swap; (· iexact K9); ipureintro; exact hS
    iexists _; isplitr; swap; (· iexact K10); ipureintro; exact hT
  rcases Nat.lt_or_ge t.val 59 with h59 | h59
  · obtain ⟨a, b, d, e, g⟩ := condC t h40 h59
    iintro ⟨K2, K3, K4, K5, K6, K7, K8, K9, K10, Hk⟩
    iapply (bodyC c (grid1.coords t) arg2 harg2 arg3 harg3 arg4 harg4 arg5 harg5 arg6 harg6 arg7 harg7 arg8 harg8 arg9 harg9 arg10 harg10 a b d e g f2 f3 f4 f5 f6 f7 f8 f9 f10)
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iintro ⟨K2, K3, K4, K5, K6, K7, K8, K9, K10⟩
    have hw : View.readAt (Elt F) arg7.view (Rect.unit ![0, 0] S16x2048.size inb_S16x2048_S16x2048_0_0).toLoadRect f7 = blk1_5 V t := by
      rw [View.readAt_eq_ld, View.ld_unit_zero zero2]; exact e7
    have hS : Held (newS V) (t.val + 1) (arg9.view.read (Elt F) (sums3 c arg4 arg9 (kw (grid1.coords t)) (View.readAt (Elt F) arg7.view (Rect.unit ![0, 0] S16x2048.size inb_S16x2048_S16x2048_0_0).toLoadRect f7) f4 f9 32)) := by
      unfold sums3; rw [hw, e4]; exact heldS3 V t (by omega) arg9 f9 H9
    have hT : Held (newT V) (t.val + 1) (arg10.view.read (Elt F) (gath3 c arg2 arg4 arg10 (kw (grid1.coords t)) lanes (View.readAt (Elt F) arg7.view (Rect.unit ![0, 0] S16x2048.size inb_S16x2048_S16x2048_0_0).toLoadRect f7) (kbase (grid1.coords t)) f2 f4 f10 32)) := by
      unfold gath3; rw [hw, e4, e2]; exact heldT3 V t (by omega) arg10 f10 H10
    iapply Hk
    isplitl [K2]; · iexact K2
    isplitl [K3]; · iexact K3
    isplitl [K4]; · iexact K4
    isplitl [K5]; · iexact K5
    isplitl [K6]; · iexact K6
    isplitl [K7]; · iexact K7
    isplitl [K8]; · iexists f8; isplitr; (· ipureintro; exact fun h => absurd h (by omega)); iexact K8
    isplitl [K9]; · iexists _; isplitr; swap; (· iexact K9); ipureintro; exact hS
    iexists _; isplitr; swap; (· iexact K10); ipureintro; exact hT
  · obtain ⟨a, b, d, e, g⟩ := condD t h59
    iintro ⟨K2, K3, K4, K5, K6, K7, K8, K9, K10, Hk⟩
    iapply (bodyD c (grid1.coords t) arg2 harg2 arg3 harg3 arg4 harg4 arg5 harg5 arg6 harg6 arg7 harg7 arg8 harg8 arg9 harg9 arg10 harg10 a b d e g f2 f3 f4 f5 f6 f7 f8 f9 f10)
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iintro ⟨K2, K3, K4, K5, K6, K7, ⟨%g8, %h8, K8⟩, K9, K10⟩
    have hw : View.readAt (Elt F) arg7.view (Rect.unit ![0, 0] S16x2048.size inb_S16x2048_S16x2048_0_0).toLoadRect f7 = blk1_5 V t := by
      rw [View.readAt_eq_ld, View.ld_unit_zero zero2]; exact e7
    have hS : Held (newS V) (t.val + 1) (arg9.view.read (Elt F) (sums3 c arg4 arg9 (kw (grid1.coords t)) (View.readAt (Elt F) arg7.view (Rect.unit ![0, 0] S16x2048.size inb_S16x2048_S16x2048_0_0).toLoadRect f7) f4 f9 32)) := by
      unfold sums3; rw [hw, e4]; exact heldS3 V t (by omega) arg9 f9 H9
    have hT : Held (newT V) (t.val + 1) (arg10.view.read (Elt F) (gath3 c arg2 arg4 arg10 (kw (grid1.coords t)) lanes (View.readAt (Elt F) arg7.view (Rect.unit ![0, 0] S16x2048.size inb_S16x2048_S16x2048_0_0).toLoadRect f7) (kbase (grid1.coords t)) f2 f4 f10 32)) := by
      unfold gath3; rw [hw, e4, e2]; exact heldT3 V t (by omega) arg10 f10 H10
    have h59 : t.val = 59 := by omega
    have hO : arg8.view.read (Elt F) g8 = out1 V := by
      rw [h59] at hS hT
      rw [h8, held_all hS, held_all hT, e2, e3]
      unfold out1
      rw [← h59, ptOf_val]
    iapply Hk
    isplitl [K2]; · iexact K2
    isplitl [K3]; · iexact K3
    isplitl [K4]; · iexact K4
    isplitl [K5]; · iexact K5
    isplitl [K6]; · iexact K6
    isplitl [K7]; · iexact K7
    isplitl [K8]; · iexists g8; isplitr; (· ipureintro; exact fun _ => hO); iexact K8
    isplitl [K9]; · iexists _; isplitr; swap; (· iexact K9); ipureintro; exact hS
    iexists _; isplitr; swap; (· iexact K10); ipureintro; exact hT

end Cert.KernelIdeal.Own

end
-- ==== Proof.RunI.Region1.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Regions
public import Idealize.ShloMosaic.Lib.Tactic
public import Idealize.ShloMosaic.Lib.Pipeline.Value
public import proofs.«01_k».proof.Proof.RunI.Steps1
public import proofs.«01_k».proof.Proof.Gen.KernelIdeal.Regions
public import Idealize.ShloMosaic.Lib.Pipeline.DatRel
public import Idealize.ShloMosaic.Lib.Pipeline.ArrRel
public import Idealize.ShloMosaic.Lib.Pipeline.FrameBody

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

open Idealize.ShloMosaic.Pipeline (Dat RDat BodyObligationRel)

/-- Which of region 1's windows are outputs. -/
noncomputable def out1w : Fin cfg1.W → Bool := ![false, false, false, false, false, false, true]

/-- What the body leaves in the output block: at the last point, the result row. -/
def rel1 {c : Dev nD} (V : Vals (F := F) c) : (w : Fin cfg1.W) → Fin cfg1.N → ((cfg1.win w).block.Idx → Elt F (cfg1.win w).elt) → Prop
  | ⟨6, _⟩ => fun t X => t.val = 59 → X = out1 V
  | _ => fun _ _ => True

/-- Region 0's staging buffers, which region 1 does not touch. -/
noncomputable def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Region 1's scratch before point `n`: the accumulators as the points before left them. -/
noncomputable def phi1 {c : Dev nD} (V : Vals (F := F) c) (n : ℕ) : sProp 𝕄 :=
  iprop(others c ∗ (∃ f, ⌜Held (newS V) n ((Memref.whole cc1_scratch0).view.read (Elt F) f)⌝ ∗ pt c (Memref.whole cc1_scratch0) f)
    ∗ (∃ f, ⌜Held (newT V) n ((Memref.whole cc1_scratch1).view.read (Elt F) f)⌝ ∗ pt c (Memref.whole cc1_scratch1) f))

/-- Region 1's data: the arrays at the entry contents, every input block left as fetched, the accumulators carried. -/
noncomputable def dat1 {c : Dev nD} (V : Vals (F := F) c) : Dat τ (Elt F) Unit ℕ U ℕ cfg1 c where
  A w := V (Pipeline.arrRef spec1 w)
  after w t := match w with
    | ⟨0, _⟩ => blk1_0 V t | ⟨1, _⟩ => blk1_1 V t | ⟨2, _⟩ => blk1_2 V t | ⟨3, _⟩ => blk1_3 V t
    | ⟨4, _⟩ => blk1_4 V t | ⟨5, _⟩ => blk1_5 V t | ⟨6, _⟩ => blk1_6 V t
  Φ n := phi1 V n.val
  q _ := fullShare
  owed _ := 0

theorem before1_0 {c : Dev nD} (V : Vals (F := F) c) (t : Fin cfg1.N) (d : (cfg1.win 0).block.Idx → Elt F (cfg1.win 0).elt) :
    (dat1 (U := U) V).before 0 t d = blk1_0 V t :=
  (Dat.before_in_eq_fetched (dat1 (U := U) V) 0 rfl (fun _ => rfl) (fun _ _ _ => rfl) (fun _ => rfl) t d).trans rfl
theorem before1_1 {c : Dev nD} (V : Vals (F := F) c) (t : Fin cfg1.N) (d : (cfg1.win 1).block.Idx → Elt F (cfg1.win 1).elt) :
    (dat1 (U := U) V).before 1 t d = blk1_1 V t :=
  (Dat.before_in_eq_fetched (dat1 (U := U) V) 1 rfl (fun _ => rfl) (fun _ _ _ => rfl) (fun _ => rfl) t d).trans rfl
theorem before1_2 {c : Dev nD} (V : Vals (F := F) c) (t : Fin cfg1.N) (d : (cfg1.win 2).block.Idx → Elt F (cfg1.win 2).elt) :
    (dat1 (U := U) V).before 2 t d = blk1_2 V t :=
  (Dat.before_in_eq_fetched (dat1 (U := U) V) 2 rfl (fun _ => rfl) (fun _ _ _ => rfl) (fun _ => rfl) t d).trans rfl
theorem before1_3 {c : Dev nD} (V : Vals (F := F) c) (t : Fin cfg1.N) (d : (cfg1.win 3).block.Idx → Elt F (cfg1.win 3).elt) :
    (dat1 (U := U) V).before 3 t d = blk1_3 V t :=
  (Dat.before_in_eq_fetched (dat1 (U := U) V) 3 rfl (fun _ => rfl) (fun _ _ _ => rfl) (fun _ => rfl) t d).trans rfl
theorem before1_4 {c : Dev nD} (V : Vals (F := F) c) (t : Fin cfg1.N) (d : (cfg1.win 4).block.Idx → Elt F (cfg1.win 4).elt) :
    (dat1 (U := U) V).before 4 t d = blk1_4 V t :=
  (Dat.before_in_eq_fetched (dat1 (U := U) V) 4 rfl (fun _ => rfl) (fun _ _ _ => rfl) (fun _ => rfl) t d).trans rfl
theorem before1_5 {c : Dev nD} (V : Vals (F := F) c) (t : Fin cfg1.N) (d : (cfg1.win 5).block.Idx → Elt F (cfg1.win 5).elt) :
    (dat1 (U := U) V).before 5 t d = blk1_5 V t :=
  (Dat.before_in_eq_fetched (dat1 (U := U) V) 5 rfl (fun _ => rfl) (fun _ _ _ => rfl) (fun _ => rfl) t d).trans rfl
theorem out1w_0 : out1w ((0 : Fin 7)) = false := rfl
theorem out1w_1 : out1w ((1 : Fin 7)) = false := rfl
theorem out1w_2 : out1w ((2 : Fin 7)) = false := rfl
theorem out1w_3 : out1w ((3 : Fin 7)) = false := rfl
theorem out1w_4 : out1w ((4 : Fin 7)) = false := rfl
theorem out1w_5 : out1w ((5 : Fin 7)) = false := rfl
theorem out1w_6 : out1w ((6 : Fin 7)) = true := rfl
theorem idle1_0 (i : cfg1.grid.Coords) : cfg1.idle ((0 : Fin 7)) i = false := rfl
theorem idle1_1 (i : cfg1.grid.Coords) : cfg1.idle ((1 : Fin 7)) i = false := rfl
theorem idle1_2 (i : cfg1.grid.Coords) : cfg1.idle ((2 : Fin 7)) i = false := rfl
theorem idle1_3 (i : cfg1.grid.Coords) : cfg1.idle ((3 : Fin 7)) i = false := rfl
theorem idle1_4 (i : cfg1.grid.Coords) : cfg1.idle ((4 : Fin 7)) i = false := rfl
theorem idle1_5 (i : cfg1.grid.Coords) : cfg1.idle ((5 : Fin 7)) i = false := rfl
theorem loose1 (w : Fin 7) : cfg1.loose w = false := by fin_cases w <;> rfl

set_option backward.isDefEq.respectTransparency.types false in
/-- The body of region 1 at every point: the input blocks are kept, the accumulators are carried on, and the output
    block is left as `rel1` says. -/
theorem obl1 {c : Dev nD} (V : Vals (F := F) c) :
    BodyObligationRel (dat1 (U := U) V) (defs₀ (F := F)) Variants.none () Set.univ out1w (rel1 V) := fun t => by
  rw [bigSep_W1, bigSep_W1]
  simp only [out1w_0, out1w_1, out1w_2, out1w_3, out1w_4, out1w_5, out1w_6, idle1_0, idle1_1, idle1_2, idle1_3, idle1_4, idle1_5, loose1]
  unfold owns
  rw [show (dat1 (U := U) V).Φ t.castSucc = phi1 V t.val from rfl, show (dat1 (U := U) V).Φ t.succ = phi1 V (t.val + 1) from rfl]
  unfold phi1 Dat.owesAt Pipeline.owesWithin
  iintro ⟨⟨HR, ⟨%f9, %h9, H9⟩, ⟨%f10, %h10, H10⟩⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X6, %hX6, %f6, %e6, H6⟩⟩
  rw [before1_0] at e0
  rw [before1_1] at e1
  rw [before1_2] at e2
  rw [before1_3] at e3
  rw [before1_4] at e4
  rw [before1_5] at e5
  iapply (body1 c V t (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) f0 f1 f2 f3 f4 f5 f6 f9 f10 e0 e1 e2 e3 e4 e5 h9 h10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  iintro ⟨H0, H1, H2, H3, H4, H5, ⟨%g6, %h6, H6⟩, ⟨%g9, %h9', H9⟩, ⟨%g10, %h10', H10⟩⟩
  isplitl [HR H9 H10]
  · isplitl [HR]; · iexact HR
    isplitl [H9]; · iexists g9; isplitr; (· ipureintro; exact h9'); iexact H9
    iexists g10; isplitr; (· ipureintro; exact h10'); iexact H10
  isplitl [HO]
  · iexists W; isplitr; · ipureintro; exact fun _ _ => Or.inl trivial
    iexact HO
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  iexists ((st1_6 t).view.read (Elt F) g6); isplitr; (· ipureintro; exact h6); iexists g6; isplitr; (· ipureintro; rfl); iexact H6

end Cert.KernelIdeal.Own

end
-- ==== Proof.RunI.Exit.lean ====
module

public import proofs.«01_k».proof.Proof.RunI.Region0
public import proofs.«01_k».proof.Proof.RunI.Region1
public import Idealize.ShloMosaic.Lib.Pipeline.RegionsLoop
public import Idealize.ShloMosaic.Lib.Pipeline.ValueKit.Geometry

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] {U : Type} [URA U]

local notation "𝕄" => MT nD τ sig Unit (Elt F) ℕ U ℕ

/-- The arrays of relational data at some contents each may hold are the arrays at one family of such contents. -/
theorem arraysAt_out {Λ : Idealize.SL.Sem.Labels} {cfg : Cfg sig Λ} {c : Dev nD} (rd : RDat τ (Elt F) Unit ℕ U ℕ cfg c) (n : ℕ) :
    (rd.arraysAt n : sProp 𝕄) ⊢ iprop(∃ G, ⌜∀ w, rd.ArrAt w n (G w)⌝ ∗ rd.arrays G) := by
  unfold RDat.arraysAt RDat.arrays
  iintro H
  ihave H := (bigSep_exists_pi Finset.univ fun w (f : Buf (Elt F) ((cfg.win w).arr.view.loc (c.tc : Thread nD τ))) =>
    iprop(⌜rd.ArrAt w n f⌝ ∗ (cfg.win w).arr.view.loc (c.tc : Thread nD τ) ↦[(cfg.win w).arr.view.set]{rd.share w} f)) $$ H
  icases H with ⟨%G, H⟩
  ihave H := (bigSep_pure_sep Finset.univ (fun w => rd.ArrAt w n (G w)) fun w =>
    iprop((cfg.win w).arr.view.loc (c.tc : Thread nD τ) ↦[(cfg.win w).arr.view.set]{rd.share w} G w)) $$ H
  icases H with ⟨%h, H⟩
  iexists G
  isplitr
  · ipureintro; exact fun w => h w (Finset.mem_univ _)
  · iexact H

/-- Region 0 as relational data. -/
def rd0 {c : Dev nD} (V : Vals (F := F) c) : RDat τ (Elt F) Unit ℕ U ℕ cfg0 c := (dat0 (U := U) V).toRRel out0 (rel0 V)
/-- Region 1 as relational data. -/
def rd1 {c : Dev nD} (V : Vals (F := F) c) : RDat τ (Elt F) Unit ℕ U ℕ cfg1 c := (dat1 (U := U) V).toRRel out1w (rel1 V)

/-- What region 0 leaves, read off its two output arrays: each block of rows holds the three stored column bands,
    each statistics block is the one computed from that block's inputs. -/
def Left0 {c : Dev nD} (V : Vals (F := F) c) (G6 : Buf (Elt F) ((c : Thread nD τ).loc main_v13_0)) (G7 : Buf (Elt F) ((c : Thread nD τ).loc main_v13_1)) : Prop :=
  ∀ t : Fin cfg0.N,
    TGood (blk0_0 V t) (blk0_2 V t) (blk0_3 V t) (blk0_4 V t) (((cfg0.win 6).blk t).view.read (Elt F) G6)
    ∧ ((cfg0.win 7).blk t).view.read (Elt F) G7 = hqOf (blk0_0 V t) (blk0_1 V t) (blk0_5 V t)

theorem inj0_6 : ∀ t t' : Fin cfg0.N, (cfg0.win 6).flush t = true → (cfg0.win 6).flush t' = true → (cfg0.win 6).index t = (cfg0.win 6).index t' → t = t' := by
  decide +kernel
theorem inj0_7 : ∀ t t' : Fin cfg0.N, (cfg0.win 7).flush t = true → (cfg0.win 7).flush t' = true → (cfg0.win 7).index t = (cfg0.win 7).index t' → t = t' := by
  decide +kernel

/-- Region 0's exit: what its two output arrays may hold at the end is what `Left0` says. -/
theorem left0 {c : Dev nD} (V : Vals (F := F) c) (G6 : Buf (Elt F) ((c : Thread nD τ).loc main_v13_0)) (G7 : Buf (Elt F) ((c : Thread nD τ).loc main_v13_1))
    (h6 : (rd0 (U := U) V).ArrAt 6 cfg0.N G6) (h7 : (rd0 (U := U) V).ArrAt 7 cfg0.N G7) : Left0 V G6 G7 := by
  obtain ⟨X6, hX6, hA6⟩ := h6.exists_exact
  obtain ⟨X7, hX7, hA7⟩ := h7.exists_exact
  intro t
  constructor
  · have hf := flush0_6 t
    have e := hA6 (Function.update (fun _ _ _ => Classical.arbitrary _) 6 X6) fun u _ _ => by rw [Function.update_self]
    have r := Dat.read_blk_arrAt_eq_flushed ((rd0 (U := U) V).withAfter (Function.update (fun _ _ _ => Classical.arbitrary _) 6 X6)) 6
      (Pipeline.Window.hdisj_of_index_inj _ inj0_6) cfg0.N t t.isLt hf
    rw [← e] at r
    have hl : rel0 V 6 t (X6 t) := (dat0 (U := U) V).toRRel_leaves rfl (hX6 t t.isLt hf)
    have r' : ((cfg0.win 6).blk t).view.read (Elt F) G6 = X6 t := r.trans (by
      show (cfg0.win 6).cut (cfg0.grid.coords t) ((Function.update (fun _ _ _ => Classical.arbitrary _) 6 X6 : (w' : Fin cfg0.W) → Fin cfg0.N → (cfg0.win w').block.Idx → Elt F (cfg0.win w').elt) 6 t) = X6 t
      rw [Function.update_self])
    rw [r']; exact hl
  · have hf := flush0_7 t
    have e := hA7 (Function.update (fun _ _ _ => Classical.arbitrary _) 7 X7) fun u _ _ => by rw [Function.update_self]
    have r := Dat.read_blk_arrAt_eq_flushed ((rd0 (U := U) V).withAfter (Function.update (fun _ _ _ => Classical.arbitrary _) 7 X7)) 7
      (Pipeline.Window.hdisj_of_index_inj _ inj0_7) cfg0.N t t.isLt hf
    rw [← e] at r
    have hl : rel0 V 7 t (X7 t) := (dat0 (U := U) V).toRRel_leaves rfl (hX7 t t.isLt hf)
    have r' : ((cfg0.win 7).blk t).view.read (Elt F) G7 = X7 t := r.trans (by
      show (cfg0.win 7).cut (cfg0.grid.coords t) ((Function.update (fun _ _ _ => Classical.arbitrary _) 7 X7 : (w' : Fin cfg0.W) → Fin cfg0.N → (cfg0.win w').block.Idx → Elt F (cfg0.win w').elt) 7 t) = X7 t
      rw [Function.update_self])
    rw [r']; exact hl

theorem whole1 : (cfg1.win 6).WholeAt (ptOf 59) := by decide +kernel

/-- Region 1's exit: its output array is the result row. -/
theorem left1 {c : Dev nD} (V : Vals (F := F) c) (G : Buf (Elt F) ((c : Thread nD τ).loc main_v14))
    (h : (rd1 (U := U) V).ArrAt 6 cfg1.N G) : G = out1 V := by
  obtain ⟨X, hX, hA⟩ := h.emb_eq_of_wholeAt whole1
  have hl : rel1 V 6 (ptOf 59) X := (dat1 (U := U) V).toRRel_leaves rfl hX
  have hl' : X = out1 V := hl rfl
  subst hl'
  funext j
  exact hA j

end Cert.KernelIdeal.Own
-- ==== Proof.RunI.Segs.lean ====
module

public import proofs.«01_k».proof.Proof.RunI.Exit

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The resources of the run: a copy of the pipeline's own for each of the two regions, and the counters. -/
abbrev UU : Type := IProdConst (Fin 2) (URounds (GSem nD τ sig) Unit) × Counters

local notation "𝕄" => MT nD τ sig Unit (Elt F) ℕ UU ℕ

abbrev L : GSem nD τ sig → Finset Unit := fun _ => ∅
abbrev lv : GSem nD τ sig → Unit → ℕ := fun _ _ => 0

/-- The buffers' contents after region 0 has left `G6` and `G7`. -/
abbrev W10 (V : Valuation τ sig (Elt F)) {c : Dev nD} (G6 : Buf (Elt F) ((c : Thread nD τ).loc main_v13_0)) (G7 : Buf (Elt F) ((c : Thread nD τ).loc main_v13_1)) :
    Valuation τ sig (Elt F) := Function.update (Function.update V main_v13_0 G6) main_v13_1 G7
/-- The buffers' contents after region 1 has left `G`. -/
abbrev W11 (V : Valuation τ sig (Elt F)) {c : Dev nD} (G : Buf (Elt F) ((c : Thread nD τ).loc main_v14)) : Valuation τ sig (Elt F) :=
  Function.update V main_v14 G

/-- Core `c`'s buffers under a valuation. -/
abbrev asVals (c : Dev nD) (V : Valuation τ sig (Elt F)) : Vals (F := F) c := fun b => V b

/-- The two regions' data at entry contents `V`, exact and relational. -/
def dats (V : Dev nD → Valuation τ sig (Elt F)) : (p : Fin 2) → (c : Dev nD) → Dat τ (Elt F) Unit ℕ UU ℕ (Pipeline.pin (pcfgs (F := F)) adm p) c
  | ⟨0, _⟩ => fun c => dat0 (asVals c (V c))
  | ⟨1, _⟩ => fun c => dat1 (asVals c (V c))
def rds (V : Dev nD → Valuation τ sig (Elt F)) : (p : Fin 2) → (c : Dev nD) → RDat τ (Elt F) Unit ℕ UU ℕ (Pipeline.pin (pcfgs (F := F)) adm p) c
  | ⟨0, _⟩ => fun c => rd0 (asVals c (V c))
  | ⟨1, _⟩ => fun c => rd1 (asVals c (V c))

/-- A core's due: it owes nothing. -/
abbrev due (c : Dev nD) : sProp 𝕄 := iprop(∃ W, owes (c : Thread nD τ) (0 : CellTallies nD τ sig Unit) W)

/-- Region 0 keeps its input arrays. -/
theorem keep0 {c : Dev nD} (V : Valuation τ sig (Elt F)) (G : (w : Fin cfg0.W) → Buf (Elt F) ((cfg0.win w).arr.view.loc (c.tc : Thread nD τ)))
    (hG : ∀ w, (rd0 (U := UU) (asVals c V)).ArrAt w cfg0.N (G w)) :
    ∀ w, G w = asVals c (W10 V (c := c) (G (6 : Fin 8)) (G (7 : Fin 8))) (Pipeline.arrRef spec0 w) := by
  have hin : ∀ (w : Fin cfg0.W) (_ : (cfg0.win w).isOut = false), G w = (rd0 (U := UU) (asVals c V)).A w := fun w hw => by
    have h := hG w; rw [RDat.ArrAt_in _ w hw] at h; exact h
  have hne : ∀ b : Ref sig .tc, b ≠ main_v13_0 → b ≠ main_v13_1 → asVals c V b = asVals c (W10 V (c := c) (G (6 : Fin 8)) (G (7 : Fin 8))) b := fun b h6 h7 => by
    show V b = W10 V (c := c) (G (6 : Fin 8)) (G (7 : Fin 8)) b
    rw [W10, Function.update_of_ne (fun h => h7 (Proc.devRef_injective _ h)), Function.update_of_ne (fun h => h6 (Proc.devRef_injective _ h))]
  intro w
  match w with
  | ⟨0, _⟩ => exact (hin (0 : Fin 8) rfl).trans (hne main_arg0 (by decide) (by decide))
  | ⟨1, _⟩ => exact (hin (1 : Fin 8) rfl).trans (hne main_v1 (by decide) (by decide))
  | ⟨2, _⟩ => exact (hin (2 : Fin 8) rfl).trans (hne main_v2 (by decide) (by decide))
  | ⟨3, _⟩ => exact (hin (3 : Fin 8) rfl).trans (hne main_v3 (by decide) (by decide))
  | ⟨4, _⟩ => exact (hin (4 : Fin 8) rfl).trans (hne main_v4 (by decide) (by decide))
  | ⟨5, _⟩ => exact (hin (5 : Fin 8) rfl).trans (hne main_v12 (by decide) (by decide))
  | ⟨6, _⟩ =>
    show G (6 : Fin 8) = W10 V (c := c) (G (6 : Fin 8)) (G (7 : Fin 8)) main_v13_0
    rw [W10, Function.update_of_ne (by decide), Function.update_self]
  | ⟨7, _⟩ =>
    show G (7 : Fin 8) = W10 V (c := c) (G (6 : Fin 8)) (G (7 : Fin 8)) main_v13_1
    rw [W10, Function.update_self]

/-- Region 0 changes no other buffer. -/
theorem rest0 {c : Dev nD} (V : Valuation τ sig (Elt F)) (G6 : Buf (Elt F) ((c : Thread nD τ).loc main_v13_0)) (G7 : Buf (Elt F) ((c : Thread nD τ).loc main_v13_1))
    (b : Ref sig .tc) (hb : b ∉ Finset.univ.image (Pipeline.arrRef spec0)) : asVals c (W10 V G6 G7) b = asVals c V b := by
  show W10 V G6 G7 b = V b
  rw [W10, Function.update_of_ne (fun h => hb (Finset.mem_image.mpr ⟨(7 : Fin 8), Finset.mem_univ _, (Proc.devRef_injective _ h).symm⟩)),
    Function.update_of_ne (fun h => hb (Finset.mem_image.mpr ⟨(6 : Fin 8), Finset.mem_univ _, (Proc.devRef_injective _ h).symm⟩))]

/-- Region 1 keeps its input arrays and leaves its output array at `G 6`. -/
theorem keep1 {c : Dev nD} (V : Valuation τ sig (Elt F)) (G : (w : Fin cfg1.W) → Buf (Elt F) ((cfg1.win w).arr.view.loc (c.tc : Thread nD τ)))
    (hG : ∀ w, (rd1 (U := UU) (asVals c V)).ArrAt w cfg1.N (G w)) :
    ∀ w, G w = asVals c (W11 V (c := c) (G (6 : Fin 7))) (Pipeline.arrRef spec1 w) := by
  have hin : ∀ (w : Fin cfg1.W) (_ : (cfg1.win w).isOut = false), G w = (rd1 (U := UU) (asVals c V)).A w := fun w hw => by
    have h := hG w; rw [RDat.ArrAt_in _ w hw] at h; exact h
  have hne : ∀ b : Ref sig .tc, b ≠ main_v14 → asVals c V b = asVals c (W11 V (c := c) (G (6 : Fin 7))) b := fun b h6 => by
    show V b = W11 V (c := c) (G (6 : Fin 7)) b
    rw [W11, Function.update_of_ne (fun h => h6 (Proc.devRef_injective _ h))]
  intro w
  match w with
  | ⟨0, _⟩ => exact (hin (0 : Fin 7) rfl).trans (hne main_v11 (by decide))
  | ⟨1, _⟩ => exact (hin (1 : Fin 7) rfl).trans (hne main_v13_1 (by decide))
  | ⟨2, _⟩ => exact (hin (2 : Fin 7) rfl).trans (hne main_v13_0 (by decide))
  | ⟨3, _⟩ => exact (hin (3 : Fin 7) rfl).trans (hne main_v6 (by decide))
  | ⟨4, _⟩ => exact (hin (4 : Fin 7) rfl).trans (hne main_v8 (by decide))
  | ⟨5, _⟩ => exact (hin (5 : Fin 7) rfl).trans (hne main_v10 (by decide))
  | ⟨6, _⟩ =>
    show G (6 : Fin 7) = W11 V (c := c) (G (6 : Fin 7)) main_v14
    rw [W11, Function.update_self]

/-- Region 1 changes no other buffer. -/
theorem rest1 {c : Dev nD} (V : Valuation τ sig (Elt F)) (G : Buf (Elt F) ((c : Thread nD τ).loc main_v14))
    (b : Ref sig .tc) (hb : b ∉ Finset.univ.image (Pipeline.arrRef spec1)) : asVals c (W11 V G) b = asVals c V b := by
  show W11 V G b = V b
  rw [W11, Function.update_of_ne (fun h => hb (Finset.mem_image.mpr ⟨(6 : Fin 7), Finset.mem_univ _, (Proc.devRef_injective _ h).symm⟩))]

variable (V : Dev nD → Valuation τ sig (Elt F)) (E : Dev nD → sProp (MT nD τ sig Unit (Elt F) ℕ UU ℕ))

set_option backward.isDefEq.respectTransparency.types false in
/-- Region 0's record: entered with every unscoped buffer at `V`, left with its two output arrays as `Left0` says. -/
def reg0 : Pipeline.RDat.RegionSeg (pcfgs (F := F)) adm (rds V) () defs₀ Variants.none L lv 0 where
  win := launch0.win.to₀
  block_pos := launch0.block_pos
  stage_whole := launch0.stage_whole
  K := PEmpty
  osem k := k.elim
  ho := Pipeline.OwnSemFacts.none _
  hbody c := (obl0 (asVals c (V c))).toRRel
  hwaits := Pipeline.RDat.hwaits_of_owed_zero _ _ _ _ L lv 0 fun _ _ => rfl
  pre c := iprop(StableHlo.held (c : Thread nD τ) (Pipeline.ucRefs τ sig) (V c) ∗ E c ∗ due c)
  post c := iprop(∃ G6 G7, ⌜Left0 (asVals c (V c)) G6 G7⌝ ∗ StableHlo.held (c : Thread nD τ) (Pipeline.ucRefs τ sig) (W10 (V c) G6 G7) ∗ E c ∗ due c)
  X _ := BI.emp
  Y _ := BI.emp
  Z c := iprop(Pipeline.unscopedRest (Ix := Unit) (Name := ℕ) (U := UU) (Lvl := ℕ) spec0 c (asVals c (V c)) ∗ E c)
  hentry c := by
    rw [Pipeline.ownSems0_none, ← Pipeline.unscopedBufs_held]
    have hsplit := Pipeline.RDat.arrays_of_unscopedBufs (p := 0) (pcfgs (F := F)) adm (rds V) launch0.win launch0.arr_whole c
      ((rds V 0 c).share_full fun _ => rfl) (asVals c (V c)) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rds V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rds V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    iintro ⟨Ha, HO, -, Hrest, HR⟩
    ihave Ha := (arraysAt_out (rds V 0 c) _) $$ Ha
    icases Ha with ⟨%G, %hG, Ha⟩
    have hjoin : iprop((rds V 0 c).arrays G ∗ Pipeline.unscopedRest (Ix := Unit) (Name := ℕ) (U := UU) (Lvl := ℕ) spec0 c (asVals c (V c))) ⊢ (unscopedBufs c (asVals c (W10 (V c) (c := c) (G 6) (G 7))) : sProp 𝕄) := Pipeline.unscopedBufs_of_arrays (p := 0) (pcfgs (F := F)) adm (Ix := Unit) (Name := ℕ) (U := UU) (Lvl := ℕ) launch0.win launch0.arr_whole c
      (dats V) ((dats V 0 c).share_full fun _ => rfl) (asVals c (V c)) (asVals c (W10 (V c) (c := c) (G 6) (G 7))) G
      (keep0 _ _ hG) (rest0 _ _ _)
    imodintro
    iexists (G 6); iexists (G 7)
    isplitr; · ipureintro; exact left0 _ _ _ (hG 6) (hG 7)
    rw [← Pipeline.unscopedBufs_held]
    isplitl [Ha Hrest]
    · iapply hjoin; isplitl [Ha] <;> iassumption
    isplitl [HR]; · iexact HR
    unfold Pipeline.RDat.owesAt Pipeline.owesWithin
    icases HO with ⟨%W, -, HO⟩; iexists W; iexact HO

theorem pt9 (c : Dev nD) (f : Buf (Elt F) ((c : Thread nD τ).loc cc1_scratch0)) :
    (((c : Thread nD τ).loc cc1_scratch0) ↦{fullShare} f : sProp 𝕄) = pt c (Memref.whole cc1_scratch0) f := by
  unfold pt; rw [(Memref.isWhole_whole cc1_scratch0).set_eq_univ]; try rfl
theorem pt10 (c : Dev nD) (f : Buf (Elt F) ((c : Thread nD τ).loc cc1_scratch1)) :
    (((c : Thread nD τ).loc cc1_scratch1) ↦{fullShare} f : sProp 𝕄) = pt c (Memref.whole cc1_scratch1) f := by
  unfold pt; rw [(Memref.isWhole_whole cc1_scratch1).set_eq_univ]; try rfl

/-- Region 1's scratch at launch is its state before point 0. -/
theorem phi1_in (c : Dev nD) (V : Vals (F := F) c) : (Pipeline.scopedRest (Ix := Unit) (Name := ℕ) (U := UU) (Lvl := ℕ) (Val := Elt F) spec1 c : sProp 𝕄) ⊢ phi1 V 0 := by
  rw [scopedRest1_eq]; unfold phi1 others
  iintro ⟨R0, R1, R2, R3, R4, R5, R6, R7, R8, R9, R10, R11, ⟨%f, Hs⟩, %g, Ht⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [Hs]
  · iexists f; isplitr; · ipureintro; exact held_zero _ _
    rw [← pt9]; iexact Hs
  · iexists g; isplitr; · ipureintro; exact held_zero _ _
    rw [← pt10]; iexact Ht

/-- Region 1's state gives its scratch back. -/
theorem phi1_out (c : Dev nD) (V : Vals (F := F) c) (n : ℕ) : phi1 V n ⊢ (Pipeline.scopedRest (Ix := Unit) (Name := ℕ) (U := UU) (Lvl := ℕ) (Val := Elt F) spec1 c : sProp 𝕄) := by
  rw [scopedRest1_eq]; unfold phi1 others
  iintro ⟨⟨R0, R1, R2, R3, R4, R5, R6, R7, R8, R9, R10, R11⟩, ⟨%f, -, Hs⟩, %g, -, Ht⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [Hs]
  · iexists f; rw [pt9]; iexact Hs
  · iexists g; rw [pt10]; iexact Ht

set_option backward.isDefEq.respectTransparency.types false in
/-- Region 1's record: entered with every unscoped buffer at `V`, left with its output array at the result row. -/
def reg1 : Pipeline.RDat.RegionSeg (pcfgs (F := F)) adm (rds V) () defs₀ Variants.none L lv 1 where
  win := launch1.win.to₀
  block_pos := launch1.block_pos
  stage_whole := launch1.stage_whole
  K := PEmpty
  osem k := k.elim
  ho := Pipeline.OwnSemFacts.none _
  hbody c := (obl1 (asVals c (V c))).toRRel
  hwaits := Pipeline.RDat.hwaits_of_owed_zero _ _ _ _ L lv 1 fun _ _ => rfl
  pre c := iprop(StableHlo.held (c : Thread nD τ) (Pipeline.ucRefs τ sig) (V c) ∗ E c ∗ due c)
  post c := iprop(StableHlo.held (c : Thread nD τ) (Pipeline.ucRefs τ sig) (W11 (V c) (c := c) (out1 (asVals c (V c)))) ∗ E c ∗ due c)
  X _ := BI.emp
  Y _ := BI.emp
  Z c := iprop(Pipeline.unscopedRest (Ix := Unit) (Name := ℕ) (U := UU) (Lvl := ℕ) spec1 c (asVals c (V c)) ∗ E c)
  hentry c := by
    rw [Pipeline.ownSems0_none, ← Pipeline.unscopedBufs_held]
    have hsplit := Pipeline.RDat.arrays_of_unscopedBufs (p := 1) (pcfgs (F := F)) adm (rds V) launch1.win launch1.arr_whole c
      ((rds V 1 c).share_full fun _ => rfl) (asVals c (V c)) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rds V 1 c).Φ 0 = phi1 (asVals c (V c)) 0 from rfl]
    iintro ⟨-, -, Hr⟩; iapply (phi1_in c (asVals c (V c))); iexact Hr
  hout c := by
    rw [Pipeline.ownSems0_none, show (rds V 1 c).Φ (Fin.last _) = phi1 (asVals c (V c)) 60 from rfl]
    iintro Hr
    isplitr; · iempintro
    isplitr; · iempintro
    iapply (phi1_out c (asVals c (V c)) 60); iexact Hr
  hexit c := by
    iintro ⟨Ha, HO, -, Hrest, HR⟩
    ihave Ha := (arraysAt_out (rds V 1 c) _) $$ Ha
    icases Ha with ⟨%G, %hG, Ha⟩
    have he : G (6 : Fin 7) = out1 (asVals c (V c)) := left1 _ _ (hG (6 : Fin 7))
    have hjoin : iprop((rds V 1 c).arrays G ∗ Pipeline.unscopedRest (Ix := Unit) (Name := ℕ) (U := UU) (Lvl := ℕ) spec1 c (asVals c (V c))) ⊢ (unscopedBufs c (asVals c (W11 (V c) (c := c) (out1 (asVals c (V c))))) : sProp 𝕄) := Pipeline.unscopedBufs_of_arrays (p := 1) (pcfgs (F := F)) adm (Ix := Unit) (Name := ℕ) (U := UU) (Lvl := ℕ) launch1.win launch1.arr_whole c
      (dats V) ((dats V 1 c).share_full fun _ => rfl) (asVals c (V c)) (asVals c (W11 (V c) (c := c) (out1 (asVals c (V c))))) G
      (he ▸ keep1 _ _ hG) (rest1 _ _)
    imodintro
    rw [← Pipeline.unscopedBufs_held]
    isplitl [Ha Hrest]
    · iapply hjoin; isplitl [Ha] <;> iassumption
    isplitl [HR]; · iexact HR
    unfold Pipeline.RDat.owesAt Pipeline.owesWithin
    icases HO with ⟨%W, -, HO⟩; iexists W; iexact HO

end Cert.KernelIdeal.Own
-- ==== Proof.RunI.Launch.lean ====
module

public import proofs.«01_k».proof.Proof.RunI.Segs

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

/-- The two regions' copies of the pipeline's resources. -/
abbrev EP0 : Emb (URounds (GSem nD τ sig) Unit) 𝕄 := embAt (0 : Fin 2)
abbrev EP1 : Emb (URounds (GSem nD τ sig) Unit) 𝕄 := embAt (1 : Fin 2)

/-- Region 1's copy, as the launch deals it and region 1 takes it. -/
abbrev gh (c : Dev nD) : sProp 𝕄 :=
  iprop(Pipeline.cellsGhost (Pipeline.pin (pcfgs (F := F)) adm) EP1 1 c ∗ Pipeline.toksInit (Pipeline.pin (pcfgs (F := F)) adm) EP1 1 c)

variable (m : (ℓ : Loc nD τ sig) → Buf (Elt F) ℓ)

/-- What rides along until region 1: its copy of the resources, and owing nothing. -/
abbrev ride : Fin 3 → Dev nD → sProp (MT nD τ sig Unit (Elt F) ℕ UU ℕ) := fun _ c => iprop(gh c ∗ due c)

/-- The contents after both regions, from what region 0 left. -/
abbrev Wfin (c : Dev nD) (G6 : Buf (Elt F) ((c : Thread nD τ).loc main_v13_0)) (G7 : Buf (Elt F) ((c : Thread nD τ).loc main_v13_1)) : Valuation τ sig (Elt F) :=
  W11 (W10 (V9 m c) G6 G7) (c := c) (out1 (asVals c (W10 (V9 m c) G6 G7)))

/-- Region 0 as a segment of the run. -/
def R0 : Pipeline.RDat.RegionSeg (pcfgs (F := F)) adm (rds (V9 m)) () defs₀ Variants.none L lv 0 := reg0 (V9 m) gh

set_option backward.isDefEq.respectTransparency.types false in
/-- Region 1 as a segment of the run, entered from whatever region 0 left. -/
def H1 : HostSeg (Ix := Unit) (Name := ℕ) (U := UU) (Lvl := ℕ) (pcfgs (F := F)) defs₀ Variants.none L lv where
  prog := Prog.lift (.customCall (Pipeline.entry 1) ())
  pre c := iprop(∃ G6 G7, ⌜Left0 (asVals c (V9 m c)) G6 G7⌝ ∗ StableHlo.held (c : Thread nD τ) (Pipeline.ucRefs τ sig) (W10 (V9 m c) G6 G7) ∗ gh c ∗ due c)
  post c := iprop(∃ G6 G7, ⌜Left0 (asVals c (V9 m c)) G6 G7⌝ ∗ StableHlo.held (c : Thread nD τ) (Pipeline.ucRefs τ sig) (Wfin m c G6 G7) ∗ due c)
  run c β k K := by
    iintro ⟨Hk, Hb, ⟨%G6, %G7, %hG, Hh, ⟨Hg, Ht⟩, Hd⟩, Hl⟩
    have hw := Pipeline.RDat.RegionSeg.wp (pcfgs (F := F)) adm (rds fun _ => W10 (V9 m c) G6 G7) () cellOf_inj EP1 defs₀ Variants.none L lv
      (reg1 (fun _ => W10 (V9 m c) G6 G7) fun _ => iprop(emp)) c none (fun u hu => by cases hu) k K
    rw [show (reg1 (fun _ => W10 (V9 m c) G6 G7) fun _ => iprop(emp)).post c = iprop(StableHlo.held (c : Thread nD τ) (Pipeline.ucRefs τ sig) (Wfin m c G6 G7) ∗ emp ∗ due c) from rfl,
      show (reg1 (fun _ => W10 (V9 m c) G6 G7) fun _ => iprop(emp)).pre c = iprop(StableHlo.held (c : Thread nD τ) (Pipeline.ucRefs τ sig) (W10 (V9 m c) G6 G7) ∗ emp ∗ due c) from rfl] at hw
    iapply hw
    isplitl [Hk]
    · iintro ⟨Hb, Hh, -, Hd⟩
      iapply Hk
      isplitl [Hb]; · iexact Hb
      iexists G6; iexists G7
      isplitr; · ipureintro; exact hG
      isplitl [Hh] <;> iassumption
    isplitl [Hb]; · iexact Hb
    isplitl [Hh Hd]
    · isplitl [Hh]; · iexact Hh
      isplitr; · iempintro
      iexact Hd
    isplitl [Hl]; · iexact Hl
    isplitl [Hg] <;> iassumption

/-- The host operations after the regions, from whatever they left. -/
def H2 : HostSeg (Ix := Unit) (Name := ℕ) (U := UU) (Lvl := ℕ) (pcfgs (F := F)) defs₀ Variants.none L lv where
  prog := StableHlo.seq hostOps2
  pre c := iprop(∃ G6 G7, ⌜Left0 (asVals c (V9 m c)) G6 G7⌝ ∗ StableHlo.held (c : Thread nD τ) (Pipeline.ucRefs τ sig) (Wfin m c G6 G7) ∗ due c)
  post c := iprop((∃ G6 G7, ⌜Left0 (asVals c (V9 m c)) G6 G7⌝ ∗ StableHlo.held (c : Thread nD τ) (Pipeline.ucRefs τ sig) (StableHlo.after hostOps2 (Wfin m c G6 G7))) ∗ due c)
  run c β k K := by
    iintro ⟨Hk, Hb, ⟨%G6, %G7, %hG, Hh, Hd⟩, Hl⟩
    have hw := (HostSeg.ofOps (Ix := Unit) (Name := ℕ) (U := UU) (Lvl := ℕ) (pcfgs (F := F)) defs₀ Variants.none L lv (Pipeline.ucRefs τ sig) hostOps2
      (fun op h => Pipeline.sub_ucRefs op ((List.forall_iff_forall_mem.mp hostOps2_sub) op h))
      (fun op h => (List.forall_iff_forall_mem.mp hostOps2_fresh) op h) (fun _ => Wfin m c G6 G7) due).run c k K
    simp only [HostSeg.ofOps] at hw
    iapply hw
    isplitl [Hk]
    · iintro ⟨Hb, Hh, Hd⟩
      iapply Hk
      isplitl [Hb]; · iexact Hb
      isplitr [Hd]
      · iexists G6; iexists G7
        isplitr; · ipureintro; exact hG
        iexact Hh
      · iexact Hd
    isplitl [Hb]; · iexact Hb
    isplitl [Hh Hd]
    · isplitl [Hh] <;> iassumption
    iexact Hl

/-- The run of @main, segment by segment. -/
abbrev segsI : Dev nD → List (Pipeline.RDat.Seg (pcfgs (F := F)) adm (rds (V9 m)) () defs₀ Variants.none L lv) := fun _ =>
  [.host (seg0 m Variants.none L lv ride), .host (seg1 m Variants.none L lv ride), .host (seg2 m Variants.none L lv ride),
    .host (seg3 m Variants.none L lv ride), .host (seg4 m Variants.none L lv ride), .host (seg5 m Variants.none L lv ride),
    .host (seg6 m Variants.none L lv ride), .host (seg7 m Variants.none L lv ride), .host (seg8 m Variants.none L lv ride),
    .region (R0 m), .host (H1 m), .host (H2 m)]

/-- A buffer that no host operation writes and neither region leaves ends as launched. -/
theorem end_of (c : Dev nD) (G6 : Buf (Elt F) ((c : Thread nD τ).loc main_v13_0)) (G7 : Buf (Elt F) ((c : Thread nD τ).loc main_v13_1)) (r : Ref sig .tc)
    (h : r ∉ hostOps2_W ∧ r ≠ main_v14 ∧ r ≠ main_v13_1 ∧ r ≠ main_v13_0 ∧ r ∉ hostOps0_8_W ∧ r ∉ hostOps0_7_W ∧ r ∉ hostOps0_6_W ∧ r ∉ hostOps0_5_W
      ∧ r ∉ hostOps0_4_W ∧ r ∉ hostOps0_3_W ∧ r ∉ hostOps0_2_W ∧ r ∉ hostOps0_1_W ∧ r ∉ hostOps0_W) :
    StableHlo.after hostOps2 (Wfin m c G6 G7) r = m ((c : Thread nD τ).loc r) := by
  obtain ⟨hW, h14, h1, h0, h8, h7, h6, h5, h4, h3, h2, h11, hh0⟩ := h
  refine (StableHlo.after_of_writes_sub hostOps2 _ hostOps2_writes hW).trans ?_
  refine (Function.update_of_ne (fun h => h14 (Proc.devRef_injective _ h)) _ _).trans ?_
  refine (Function.update_of_ne (fun h => h1 (Proc.devRef_injective _ h)) _ _).trans ?_
  refine (Function.update_of_ne (fun h => h0 (Proc.devRef_injective _ h)) _ _).trans ?_
  exact (V9_of m c r h8).trans <| (V8_of m c r h7).trans <| (V7_of m c r h6).trans <| (V6_of m c r h5).trans <| (V5_of m c r h4).trans <|
    (V4_of m c r h3).trans <| (V3_of m c r h2).trans <| (V2_of m c r h11).trans <| (V1_of m c r hh0).trans rfl

/-- What a run of @main ends with on core `c`. -/
def Ends (c : Dev nD) (s : MemSt nD τ sig (Elt F)) : Prop :=
  (∃ G6 G7, Left0 (asVals c (V9 m c)) G6 G7 ∧ s.mem ((c.tc : Thread nD τ).loc main_v16) = StableHlo.after hostOps2 (Wfin m c G6 G7) main_v16)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)

/-- What each copy of the pipeline's resources starts at. -/
abbrev fund0 : URounds (GSem nD τ sig) Unit := initOf (Pipeline.cells (Pipeline.pin (pcfgs (F := F)) adm) cellOf_inj) (Pipeline.launchToks (Pipeline.pin (pcfgs (F := F)) adm) cellOf_inj)
/-- The run's resources at launch. -/
def u₀ : UU := (fun _ => fund0 (F := F), 1)

theorem fund : (ownU (u₀ (F := F)) : sProp 𝕄) ⊢ |={Set.univ}=> iprop(BI.own (EP0 (F := F) (fund0 (F := F))) ∗ bigSep Finset.univ fun c : Dev nD => gh c) := by
  unfold u₀
  have h2 := own_iprod (nD := nD) (τ := τ) (sig := sig) (Ix := Unit) (Val := Elt F) (Name := ℕ) (Lvl := ℕ) (B := Counters) (fun _ : Fin 2 => fund0 (F := F))
  rw [bigSep_fin_two] at h2
  replace h2 := h2.trans (show _ ⊢ (iprop(BI.own (EP0 (F := F) (fund0 (F := F))) ∗ BI.own (EP1 (F := F) (fund0 (F := F)))) : sProp 𝕄) from .rfl)
  have hg : (bigSep Finset.univ fun c : Dev nD => bigSep Finset.univ fun p => Pipeline.cellsGhost (Pipeline.pin (pcfgs (F := F)) adm) EP1 p c : sProp 𝕄)
      ⊢ bigSep Finset.univ fun c : Dev nD => Pipeline.cellsGhost (Pipeline.pin (pcfgs (F := F)) adm) EP1 1 c := bigSep_mono fun c _ => bigSep_elim (Finset.mem_univ (1 : Fin 2))
  have ht : (bigSep Finset.univ fun c : Dev nD => bigSep Finset.univ fun p => Pipeline.toksInit (Pipeline.pin (pcfgs (F := F)) adm) EP1 p c : sProp 𝕄)
      ⊢ bigSep Finset.univ fun c : Dev nD => Pipeline.toksInit (Pipeline.pin (pcfgs (F := F)) adm) EP1 1 c := bigSep_mono fun c _ => bigSep_elim (Finset.mem_univ (1 : Fin 2))
  iintro Hu
  ihave H := (ownU_pair _ _) $$ Hu
  icases H with ⟨HP, -⟩
  ihave H := h2 $$ HP
  icases H with ⟨H0, H1⟩
  imod (Pipeline.fund_ghost (Pipeline.pin (pcfgs (F := F)) adm) EP1 cellOf_inj) $$ H1 with ⟨Hg, Ht⟩
  imodintro
  isplitl [H0]; · iexact H0
  rw [bigSep_sep']
  isplitl [Hg]
  · iapply hg; iexact Hg
  · iapply ht; iexact Ht

set_option backward.isDefEq.respectTransparency.types false in
/-- Every run of @main ends, with every argument as launched, the result as the two regions' records say, and every
    semaphore at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rds (V9 m)) () cellOf_inj EP0 defs₀ Variants.none L lv m ρ main (segsI m)
    (fun c Q => by
      rewrite [main_chain c, Pipeline.RDat.Seg.run_eq_chain,
        show (segsI m c).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segsI, Pipeline.RDat.Seg.pipes_host, Pipeline.RDat.Seg.pipes_region, Pipeline.RDat.Seg.pipes_nil]; decide) (O₀ := 0) (hL := fun _ _ => rfl)
    (G := fun c => gh c) (u₀ := u₀ (F := F)) (hu₀ := fund)
    (T₀ := fun c => iprop(StableHlo.held (c : Thread nD τ) (Pipeline.ucRefs τ sig) (V0 m c) ∗ gh c ∗ due c))
    (Tₙ := fun c => iprop(∃ G6 G7, ⌜Left0 (asVals c (V9 m c)) G6 G7⌝ ∗ StableHlo.held (c : Thread nD τ) (Pipeline.ucRefs τ sig) (StableHlo.after hostOps2 (Wfin m c G6 G7))))
    (hch := fun c => ⟨.rfl, .rfl, .rfl, .rfl, .rfl, .rfl, .rfl, .rfl, .rfl, .rfl, .rfl, .rfl, .rfl⟩)
    (hinit := ?_) (QY := Ends m) (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, HG⟩, -⟩
    imodintro
    isplitl [Hh]; · iexact Hh
    isplitl [HG]; · iexact HG
    iexists ∅; iexact HO
  · iintro ⟨⟨%G6, %G7, %hG, Hh⟩, HSI⟩
    unfold StableHlo.held
    ihave Hr := (pointsTo_read_all (Pipeline.ucRefs τ sig) (fun b => ((c : Thread nD τ).1, b)) (StableHlo.after hostOps2 (Wfin m c G6 G7)) s') $$ [Hh HSI]
    · isplitl [Hh] <;> iassumption
    icases Hr with ⟨%h, HSI⟩
    imodintro
    isplitr
    · ipureintro
      exact ⟨⟨G6, G7, hG, h (Proc.devRef .tc main_v16) (Finset.mem_filter.mpr ⟨StableHlo.devRef_mem_tcRefs main_v16, by decide⟩)⟩,
        (h (Proc.devRef .tc main_arg0) (Finset.mem_filter.mpr ⟨StableHlo.devRef_mem_tcRefs main_arg0, by decide⟩)).trans (end_of m c G6 G7 main_arg0 (by decide)),
        (h (Proc.devRef .tc main_arg1) (Finset.mem_filter.mpr ⟨StableHlo.devRef_mem_tcRefs main_arg1, by decide⟩)).trans (end_of m c G6 G7 main_arg1 (by decide)),
        (h (Proc.devRef .tc main_arg2) (Finset.mem_filter.mpr ⟨StableHlo.devRef_mem_tcRefs main_arg2, by decide⟩)).trans (end_of m c G6 G7 main_arg2 (by decide)),
        (h (Proc.devRef .tc main_arg3) (Finset.mem_filter.mpr ⟨StableHlo.devRef_mem_tcRefs main_arg3, by decide⟩)).trans (end_of m c G6 G7 main_arg3 (by decide)),
        (h (Proc.devRef .tc main_arg4) (Finset.mem_filter.mpr ⟨StableHlo.devRef_mem_tcRefs main_arg4, by decide⟩)).trans (end_of m c G6 G7 main_arg4 (by decide)),
        (h (Proc.devRef .tc main_arg5) (Finset.mem_filter.mpr ⟨StableHlo.devRef_mem_tcRefs main_arg5, by decide⟩)).trans (end_of m c G6 G7 main_arg5 (by decide)),
        (h (Proc.devRef .tc main_arg6) (Finset.mem_filter.mpr ⟨StableHlo.devRef_mem_tcRefs main_arg6, by decide⟩)).trans (end_of m c G6 G7 main_arg6 (by decide)),
        (h (Proc.devRef .tc main_arg7) (Finset.mem_filter.mpr ⟨StableHlo.devRef_mem_tcRefs main_arg7, by decide⟩)).trans (end_of m c G6 G7 main_arg7 (by decide)),
        (h (Proc.devRef .tc main_arg8) (Finset.mem_filter.mpr ⟨StableHlo.devRef_mem_tcRefs main_arg8, by decide⟩)).trans (end_of m c G6 G7 main_arg8 (by decide))⟩
    · iexact HSI

end Cert.KernelIdeal.Own
-- ==== Proof.Value.Math.lean ====
/-
  EXTENDED-REAL ARITHMETIC of a softmax row: a log-sum-exp does not depend on the finite number subtracted before the
  exponentials; columns of zeros add one each to the sum of exponentials; a sum picked by one lane is that lane's value;
  and long sums cut into blocks of lanes are the long sums.
-/
module

public import Idealize.ShloMosaic.Lib.Pointwise

@[expose] public section

noncomputable section

namespace Cert.Rows

open Idealize.ShloMosaic

/-- The logarithm of the sum of the exponentials of a row. -/
def lse {K : ℕ} (u : Fin K → EReal) : EReal := Ideal.log (∑ c, Ideal.exp (u c))

/-- An exponential is never negative. -/
theorem exp_nonneg (x : EReal) : 0 ≤ Ideal.exp x := by
  induction x with
  | bot => simp
  | top => simp
  | coe r =>
    rw [Ideal.exp_coe]
    exact_mod_cast (Real.exp_pos r).le

/-- Subtracting a real number inside an exponential scales the exponential. -/
theorem exp_sub_real (x : EReal) (s : ℝ) :
    Ideal.exp (x - (s : EReal)) = Ideal.exp x * ((Real.exp (-s) : ℝ) : EReal) := by
  induction x with
  | bot => simp
  | top =>
    rw [EReal.top_sub_coe, Ideal.exp_top]
    exact (EReal.top_mul_coe_of_pos (Real.exp_pos _)).symm
  | coe r =>
    rw [← EReal.coe_sub]
    rw [Ideal.exp_coe, Ideal.exp_coe, ← EReal.coe_mul, ← Real.exp_add, sub_eq_add_neg]

/-- A sum of nonnegative terms each scaled by one factor is the sum, scaled. -/
theorem sum_mul_nonneg {ι : Type} (s : Finset ι) (f : ι → EReal) (hf : ∀ i, 0 ≤ f i) (a : EReal) :
    ∑ i ∈ s, f i * a = (∑ i ∈ s, f i) * a := by
  classical
  induction s using Finset.induction_on with
  | empty => simp
  | insert i s hi ih =>
    rw [Finset.sum_insert hi, Finset.sum_insert hi, ih,
      EReal.right_distrib_of_nonneg (hf i) (Finset.sum_nonneg fun j _ => hf j)]

/-- Scaling by an exponential, under a logarithm, is undone by adding the exponent back. -/
theorem log_scale (S : EReal) (hS : 0 ≤ S) (s : ℝ) :
    Ideal.log (S * ((Real.exp (-s) : ℝ) : EReal)) + (s : EReal) = Ideal.log S := by
  induction S with
  | bot => simp at hS
  | top =>
    rw [EReal.top_mul_coe_of_pos (Real.exp_pos _)]
    simp
  | coe r =>
    rw [← EReal.coe_mul]
    have hr : 0 ≤ r := by exact_mod_cast hS
    rcases hr.eq_or_lt with h | h
    · subst h
      rw [zero_mul, Ideal.log_coe, if_pos le_rfl, EReal.bot_add]
    · have h1 : ¬ r * Real.exp (-s) ≤ 0 := not_le.mpr (mul_pos h (Real.exp_pos _))
      have h2 : ¬ r ≤ 0 := not_le.mpr h
      rw [Ideal.log_coe, Ideal.log_coe, if_neg h1, if_neg h2, ← EReal.coe_add, Real.log_mul h.ne' (Real.exp_pos _).ne', Real.log_exp]
      congr 1
      ring

/-- A row's log-sum-exp taken about any real number is its log-sum-exp. -/
theorem lse_shift {K : ℕ} (u : Fin K → EReal) (s : ℝ) :
    Ideal.log (∑ c, Ideal.exp (u c - (s : EReal))) + (s : EReal) = lse u := by
  rw [Finset.sum_congr rfl fun c _ => exp_sub_real (u c) s,
    sum_mul_nonneg _ _ (fun c => exp_nonneg (u c)), log_scale _ (Finset.sum_nonneg fun c _ => exp_nonneg (u c))]
  rfl

/-- The pattern of plus infinity. -/
theorem ofBits_inf : Ideal.ofBits .f32 0x7F800000#32 = ⊤ := by simp [Ideal.ofBits, Ideal.ieee]

/-- A number replaced by zero unless its absolute value is below infinity is a real number. -/
theorem ite_real (x : EReal) :
    ∃ s : ℝ, (if max x (-x) < (⊤ : EReal) then x else 0) = (s : EReal) := by
  induction x with
  | bot => exact ⟨0, by simp⟩
  | top => exact ⟨0, by simp⟩
  | coe r =>
    by_cases h : max (r : EReal) (-(r : EReal)) < ⊤
    · exact ⟨r, if_pos h⟩
    · exact ⟨0, if_neg h⟩

/-- A row's log-sum-exp taken about a number replaced by zero where it is infinite. -/
theorem lse_ite {K : ℕ} (u : Fin K → EReal) (x : EReal) :
    Ideal.log (∑ c, Ideal.exp (u c - if max x (-x) < (⊤ : EReal) then x else 0))
      + (if max x (-x) < (⊤ : EReal) then x else 0) = lse u := by
  obtain ⟨s, hs⟩ := ite_real x
  rw [hs]
  exact lse_shift u s

/-- A sum of `K` exponentials and of `P` ones, less `P`, is the sum of the exponentials. -/
theorem sum_pad (f : ℕ → EReal) (K P : ℕ) (h : ∀ n, K ≤ n → f n = 0) :
    ∑ n ∈ Finset.range (K + P), Ideal.exp (f n) - ((P : ℝ) : EReal) = ∑ n ∈ Finset.range K, Ideal.exp (f n) := by
  have h1 : ∀ n ∈ Finset.range P, Ideal.exp (f (K + n)) = 1 := fun n _ => by
    rw [h _ (Nat.le_add_right K n), ← EReal.coe_zero, Ideal.exp_coe, Real.exp_zero, EReal.coe_one]
  rw [Finset.sum_range_add, Finset.sum_congr rfl h1, Finset.sum_const, Finset.card_range,
    show (P • (1 : EReal)) = ((P : ℝ) : EReal) by simp]
  exact EReal.add_sub_cancel_right

/-- A sum over `a * b` numbers in `a` runs of `b`. -/
theorem sum_runs {M : Type} [AddCommMonoid M] (f : ℕ → M) (a b : ℕ) :
    ∑ n ∈ Finset.range (a * b), f n = ∑ c ∈ Finset.range a, ∑ l ∈ Finset.range b, f (c * b + l) := by
  induction a with
  | zero => simp
  | succ a ih => rw [Nat.succ_mul, Finset.sum_range_add, ih, Finset.sum_range_succ]

/-- A sum over 128 lanes, in each of them over `k` runs of sixteen groups of lanes, is the sum over all columns. -/
theorem sum_lanes {M : Type} [AddCommMonoid M] (f : ℕ → M) (k : ℕ) :
    ∑ l : Fin 128, ∑ q ∈ Finset.range k, ∑ c : Fin 16, f (q * 2048 + (c.val * 128 + l.val))
      = ∑ n ∈ Finset.range (k * 2048), f n := by
  rw [Finset.sum_comm, sum_runs]
  refine Finset.sum_congr rfl fun q _ => ?_
  rw [Finset.sum_comm, show (2048 : ℕ) = 16 * 128 from rfl, sum_runs (fun n => f (q * (16 * 128) + n)),
    ← Fin.sum_univ_eq_sum_range (fun c => ∑ l ∈ Finset.range 128, f (q * (16 * 128) + (c * 128 + l)))]
  refine Finset.sum_congr rfl fun c _ => ?_
  rw [← Fin.sum_univ_eq_sum_range (fun l => f (q * (16 * 128) + (c * 128 + l)))]

/-- A sum that keeps one column only is that column. -/
theorem sum_pick (f : ℕ → EReal) (N m : ℕ) (hm : m < N) (p : ℕ → BitVec 1)
    (hp : ∀ n, n < N → (p n = 1#1 ↔ n = m)) :
    ∑ n ∈ Finset.range N, Scalar.select (p n) (f n) (0 : EReal) = f m := by
  rw [Finset.sum_eq_single m]
  · simp [Scalar.select, (hp m hm).mpr rfl]
  · intro n hn hne
    have : ¬ p n = 1#1 := fun h => hne ((hp n (Finset.mem_range.mp hn)).mp h)
    simp [Scalar.select, this]
  · intro h
    exact absurd (Finset.mem_range.mpr hm) h

/-- Column `n` of a row times a matrix; zero outside the matrix. -/
def col {P N : ℕ} (t : Fin P → EReal) (w : (⟨2, ![P, N]⟩ : Shape).Idx → EReal) (n : ℕ) : EReal :=
  if h : n < N then ∑ p, t p * w (ix2 p ⟨n, h⟩) else 0

/-- A column inside the matrix. -/
theorem col_eq {P N : ℕ} (t : Fin P → EReal) (w : (⟨2, ![P, N]⟩ : Shape).Idx → EReal) (n : ℕ) (h : n < N) :
    ∑ p, t p * w (ix2 p ⟨n, h⟩) = col t w n := by
  unfold col
  rw [dif_pos h]

/-- A column of a matrix that is one run of columns of another. -/
theorem col_run {P M N : ℕ} (t : Fin P → EReal) (w : (⟨2, ![P, M]⟩ : Shape).Idx → EReal)
    (W : (⟨2, ![P, N]⟩ : Shape).Idx → EReal) (b n : ℕ) (hn : n < M) (hb : b + n < N)
    (h : ∀ p, w (ix2 p ⟨n, hn⟩) = W (ix2 p ⟨b + n, hb⟩)) : col t w n = col t W (b + n) := by
  rw [← col_eq t w n hn, ← col_eq t W (b + n) hb]
  exact Finset.sum_congr rfl fun p _ => by rw [h p]

/-- Widening a matrix by columns of zeros changes no column. -/
theorem col_pad {P K N : ℕ} (t : Fin P → EReal) (w : (⟨2, ![P, K]⟩ : Shape).Idx → EReal)
    (W : (⟨2, ![P, N]⟩ : Shape).Idx → EReal) (hKN : K ≤ N)
    (h : ∀ p (c : Fin N), W (ix2 p c) = if hc : c.val < K then w (ix2 p ⟨c.val, hc⟩) else 0) (n : ℕ) :
    col t W n = col t w n := by
  unfold col
  by_cases hN : n < N
  · rw [dif_pos hN]
    by_cases hK : n < K
    · rw [dif_pos hK]
      exact Finset.sum_congr rfl fun p _ => by rw [h p ⟨n, hN⟩, dif_pos hK]
    · rw [dif_neg hK]
      exact Finset.sum_eq_zero fun p _ => by rw [h p ⟨n, hN⟩, dif_neg hK, mul_zero]
  · rw [dif_neg hN, dif_neg (by omega)]

/-- The logarithm of the sum of the exponentials of the first `K` columns. -/
def lseN (K : ℕ) (f : ℕ → EReal) : EReal := Ideal.log (∑ n ∈ Finset.range K, Ideal.exp (f n))

/-- A row's log-sum-exp, the row given by its columns. -/
theorem lse_col {K : ℕ} (f : ℕ → EReal) : lse (fun c : Fin K => f c) = lseN K f := by
  unfold lse lseN
  rw [Fin.sum_univ_eq_sum_range (fun n => Ideal.exp (f n)) K]

/-- A target word moved down by `lo` and clipped to `0 … hi`. -/
def clip (lo hi t : BitVec 32) : BitVec 32 := IntOp.minsi hi (IntOp.maxsi 0#32 (IntOp.subi t lo))

/-- The clipped word is a number from 0 to `hi`. -/
theorem clip_le (lo hi t : BitVec 32) (h : hi.toNat < 2 ^ 31) : (clip lo hi t).toNat ≤ hi.toNat := by
  have hh : hi.toInt = hi.toNat := by rw [BitVec.toInt_eq_toNat_cond]; split <;> omega
  unfold clip IntOp.minsi IntOp.maxsi
  generalize IntOp.subi t lo = u
  have hu := BitVec.toInt_eq_toNat_cond u
  simp only [BitVec.slt_iff_toInt_lt, BitVec.sle_iff_toInt_le]
  split <;> split <;> simp_all <;> omega

/-- The log-probability of a row's target: `x` the row, `t` its target, the head's weights and the three clusters'. -/
def rowLoss (x : Fin 1024 → EReal) (t : BitVec 32)
    (wh : (⟨2, ![1024, 4003]⟩ : Shape).Idx → EReal)
    (p0 : (⟨2, ![1024, 256]⟩ : Shape).Idx → EReal) (s0 : (⟨2, ![256, 16000]⟩ : Shape).Idx → EReal)
    (p1 : (⟨2, ![1024, 64]⟩ : Shape).Idx → EReal) (s1 : (⟨2, ![64, 40000]⟩ : Shape).Idx → EReal)
    (p2 : (⟨2, ![1024, 16]⟩ : Shape).Idx → EReal) (s2 : (⟨2, ![16, 40000]⟩ : Shape).Idx → EReal) : EReal :=
  let u := col x wh
  let u1 := col (fun p : Fin 256 => ∑ k, x k * p0 (ix2 k p)) s0
  let u2 := col (fun p : Fin 64 => ∑ k, x k * p1 (ix2 k p)) s1
  let u3 := col (fun p : Fin 16 => ∑ k, x k * p2 (ix2 k p)) s2
  Scalar.select (IntOp.andi (IntOp.cmpi .sge t 60000#32) (IntOp.cmpi .slt t 100000#32))
    ((u 4002 - lseN 4003 u) + (u3 (clip 60000#32 39999#32 t).toNat - lseN 40000 u3))
    (Scalar.select (IntOp.andi (IntOp.cmpi .sge t 20000#32) (IntOp.cmpi .slt t 60000#32))
      ((u 4001 - lseN 4003 u) + (u2 (clip 20000#32 39999#32 t).toNat - lseN 40000 u2))
      (Scalar.select (IntOp.andi (IntOp.cmpi .sge t 4000#32) (IntOp.cmpi .slt t 20000#32))
        ((u 4000 - lseN 4003 u) + (u1 (clip 4000#32 15999#32 t).toNat - lseN 16000 u1))
        (u (clip 0#32 3999#32 t).toNat - lseN 4003 u)))

/-- The f32 pattern of 93. -/
theorem ofBits_93 : Ideal.ofBits .f32 0x42BA0000#32 = ((93 : ℝ) : EReal) := by
  simp [Ideal.ofBits, Ideal.ieee, -EReal.coe_mul]; norm_num

/-- The f32 pattern of 384. -/
theorem ofBits_384 : Ideal.ofBits .f32 0x43C00000#32 = ((384 : ℝ) : EReal) := by
  simp [Ideal.ofBits, Ideal.ieee, -EReal.coe_mul]; norm_num

/-- The f32 pattern of 960. -/
theorem ofBits_960 : Ideal.ofBits .f32 0x44700000#32 = ((960 : ℝ) : EReal) := by
  simp [Ideal.ofBits, Ideal.ieee, -EReal.coe_mul]; norm_num

/-- The f32 pattern of 8192. -/
theorem ofBits_8192 : Ideal.ofBits .f32 0x46000000#32 = ((8192 : ℝ) : EReal) := by
  simp [Ideal.ofBits, Ideal.ieee, -EReal.coe_mul]; norm_num

/-- The f32 pattern of minus one 8192nd. -/
theorem ofBits_neg_inv : Ideal.ofBits .f32 0xB9000000#32 = ((-(1 / 8192) : ℝ) : EReal) := by
  simp [Ideal.ofBits, Ideal.ieee, -EReal.coe_mul, -EReal.coe_neg]; norm_num

/-- Multiplying by minus one 8192nd is dividing by 8192 and changing the sign. -/
theorem mean_neg (x : EReal) :
    x * ((-(1 / 8192) : ℝ) : EReal) = -(Ideal.div x ((8192 : ℝ) : EReal)) := by
  have h : ((8192 : ℝ) : EReal) ≠ 0 := by
    exact_mod_cast (by norm_num : (8192 : ℝ) ≠ 0)
  unfold Ideal.div
  rw [if_neg h, ← EReal.coe_inv, EReal.coe_neg, mul_neg]
  norm_num

end Cert.Rows

end
-- ==== Proof.Value.Ref.lean ====
/-
  THE REFERENCE ROW BY ROW, over the extended reals: its per-row log-probability is `rowLoss` of the row, and its result is
  minus the mean of those.
-/
module

public import proofs.«01_k».proof.Proof.Value.Math
public import proofs.«01_k».proof.Proof.Gen.ReferenceIdeal.Run
public import Idealize.ShloMosaic.Lib.Tactic.CleanTypes

@[expose] public section

set_option maxRecDepth 16384

noncomputable section

namespace Cert.ReferenceIdeal.Rows

open Idealize.ShloMosaic Cert.ReferenceIdeal Cert.ReferenceIdeal.Gen Cert.ReferenceIdeal.Value Cert.Rows
open Idealize.ShloMosaic.StableHlo Idealize.ShloMosaic.TcCoe Idealize.ShloMosaic.Tactic

/-- The gather of one column per row, whatever the number of columns. -/
def rowGather (N : ℕ) (wf : GatherDims.WF ⟨2, ![8192, N]⟩ ⟨3, ![8192, 1, 1]⟩ ⟨2, ![8192, 1]⟩ [] [1] [0] [1] [0] 2 ![1, 1]) :
    GatherDims ⟨2, ![8192, N]⟩ ⟨3, ![8192, 1, 1]⟩ ⟨2, ![8192, 1]⟩ where
  offsetDims := []
  collapsedSliceDims := [1]
  operandBatchingDims := [0]
  startIndicesBatchingDims := [0]
  startIndexMap := [1]
  indexVectorDim := 2
  sliceSizes := ![1, 1]
  wf := wf

/-- A gather of one column per row reads, in each row, the column its index names, where that is in range. -/
theorem rowGather_apply {α : Type} (N : ℕ) (wf) (x : (⟨2, ![8192, N]⟩ : Shape).Idx → α)
    (idx : IVec (⟨3, ![8192, 1, 1]⟩ : Shape) 32) (r : Fin 8192) (h0 : (idx (ix3 r 0 0)).toNat < N) (h1 : N ≤ 2 ^ 31) :
    Host.gather (rowGather N wf) x idx (ix2 r 0) = x (ix2 r ⟨(idx (ix3 r 0 0)).toNat, h0⟩) := by
  unfold Host.gather
  congr 1
  funext a
  have hs : (rowGather N wf).siIdx (ix2 r 0) ⟨0, Nat.zero_lt_one⟩ = ix3 r 0 0 := by
    funext b
    fin_cases b
    · rfl
    · rfl
    · rfl
  have ht : (idx (ix3 r 0 0)).toInt.toNat = (idx (ix3 r 0 0)).toNat := by
    rw [BitVec.toInt_eq_toNat_cond, if_pos (by omega)]
    rfl
  apply Fin.ext
  fin_cases a
  · show (rowGather N wf).start (ix2 r 0) idx 0 + (rowGather N wf).batchCoord (ix2 r 0) 0 + (rowGather N wf).offCoord (ix2 r 0) 0 = r.val
    rw [(rowGather N wf).start_batching _ _ _ (List.mem_singleton.mpr rfl), (rowGather N wf).offCoord_eq_zero _ _ (by rw [GatherDims.mem_sKept]; simp [rowGather])]
    show 0 + r.val + 0 = r.val
    omega
  · show (rowGather N wf).start (ix2 r 0) idx 1 + (rowGather N wf).batchCoord (ix2 r 0) 1 + (rowGather N wf).offCoord (ix2 r 0) 1
      = (idx (ix3 r 0 0)).toNat
    rw [(rowGather N wf).batchCoord_eq_zero _ _ (by simp [rowGather]), (rowGather N wf).offCoord_eq_zero _ _ (by rw [GatherDims.mem_sKept]; simp [rowGather])]
    show min (idx ((rowGather N wf).siIdx (ix2 r 0) ⟨0, Nat.zero_lt_one⟩)).toInt.toNat (N - 1) + 0 + 0 = _
    rw [hs, ht]
    omega

/-- The test that a word lies from zero to `hi` holds of one that does. -/
theorem in_range (w hi : BitVec 32) (h : w.toNat ≤ hi.toNat) (hh : hi.toNat < 2 ^ 31) :
    IntOp.andi (IntOp.cmpi .sge w 0#32) (IntOp.cmpi .sle w hi) = 1#1 := by
  have hw : w.toInt = w.toNat := by rw [BitVec.toInt_eq_toNat_cond, if_pos (by omega)]
  have hhi : hi.toInt = hi.toNat := by rw [BitVec.toInt_eq_toNat_cond, if_pos (by omega)]
  have h1 : (0#32).sle w = true := by rw [BitVec.sle_iff_toInt_le, hw]; simp
  have h2 : w.sle hi = true := by rw [BitVec.sle_iff_toInt_le, hw, hhi]; exact_mod_cast h
  simp [IntOp.cmpi, IntOp.andi, h1, h2]

/-! ## Rows of 4003 columns -/

/-- Log-probabilities of 4003 columns, the row's log-sum-exp taken about `m`. -/
def lpAbout4003 (u : FVec Ideal S8192x4003 .f32) (m : FVec Ideal S8192x1 .f32) : FVec Ideal S8192x4003 .f32 :=
  subf u (broadcastInDim S8192x4003 ![0, 1] bcast_S8192x1_S8192x4003_0_1 (addf (Host.log (broadcastInDim S8192x1 ![0] bcast_S8192_S8192x1_0 (Host.reduceAdd (Host.exp (subf u (broadcastInDim S8192x4003 ![0, 1] bcast_S8192x1_S8192x4003_0_1 m))) (constant S_ .f32 0x00000000#32) reducesTo_S8192x4003_S8192_d1 h_S_))) m))

/-- Log-probabilities of 4003 columns, the row's log-sum-exp taken about a number, zero where that is infinite. -/
def lpFinite4003 (u : FVec Ideal S8192x4003 .f32) (M : FVec Ideal S8192x1 .f32) : FVec Ideal S8192x4003 .f32 :=
  lpAbout4003 u (select (cmpf .olt (Host.absf M) (broadcastInDim S8192x1 ![] bcast_S_S8192x1 (constant S_ .f32 0x7F800000#32))) M (broadcastInDim S8192x1 ![] bcast_S_S8192x1 (id (constant S_ .f32 0x00000000#32))))

/-- Log-probabilities of 4003 columns, the row's log-sum-exp taken about the row's maximum. -/
def lp4003 (u : FVec Ideal S8192x4003 .f32) : FVec Ideal S8192x4003 .f32 :=
  lpFinite4003 u (broadcastInDim S8192x1 ![0] bcast_S8192_S8192x1_0 (Host.reduce FloatOps.maximumf u (constant S_ .f32 0xFF800000#32) reducesTo_S8192x4003_S8192_d1 h_S_))

/-- A log-probability is the column less the row's log-sum-exp, about whatever number that is taken. -/
theorem lpFinite4003_apply (u : FVec Ideal S8192x4003 .f32) (M : FVec Ideal S8192x1 .f32) (r : Fin 8192) (c : Fin 4003) :
    lpFinite4003 u M (ix2 r c) = u (ix2 r c) - lse (fun c' : Fin 4003 => u (ix2 r c')) := by
  rw [← lse_ite _ (M (ix2 r 0)), ← ofBits_inf]
  pointwise [lpFinite4003, lpAbout4003, id]
  rfl

/-- The index of a picked column, as one picks it: a negative one counts from the end. -/
def wrap4003 (i : IVec S8192x1 32) : IVec S8192x1x1 32 :=
  shapeCast _ (select (cmpi .slt i (broadcastInDim S8192x1 ![] bcast_S_S8192x1 (constantI S_ 32 0#32))) (addi i (broadcastInDim S8192x1 ![] bcast_S_S8192x1 (constantI S_ 32 4003#32))) i) shapeCasts_S8192x1_S8192x1x1

/-- One column picked from each row, a stand-in where the index is out of range. -/
def pick4003 (u : FVec Ideal S8192x4003 .f32) (i : IVec S8192x1x1 32) : FVec Ideal S8192 .f32 :=
  shapeCast _ (select (Host.reduce IntOp.andi (andi (cmpi .sge i (broadcastInDim S8192x1x1 ![] bcast_S_S8192x1x1 (constantI S_ 32 0#32))) (cmpi .sle i (broadcastInDim S8192x1x1 ![0, 1, 2] bcast_S1x1x1_S8192x1x1_0_1_2 (broadcastInDim S1x1x1 ![2] bcast_S1_S1x1x1_2 (constantI S1 32 4002#32))))) (constantI S_ 1 1#1) reducesTo_S8192x1x1_S8192x1_d2 h_S_) (Host.gather gather_S8192x4003_S8192x1x1_S8192x1_n_1_0_0_1_2_11 u i) (broadcastInDim S8192x1 ![] bcast_S_S8192x1 (constant S_ .f32 0x7FC00000#32))) shapeCasts_S8192x1_S8192

/-- An index in range is its own. -/
theorem wrap4003_apply (i : IVec S8192x1 32) (r : Fin 8192) (h : (i (ix2 r 0)).toNat < 4003) :
    wrap4003 i (ix3 r 0 0) = i (ix2 r 0) := by
  pointwise [wrap4003]
  generalize i (ix2 r 0) = w at *
  simp only [Scalar.select, IntOp.cmpi]
  have : w.slt 0#32 = false := by
    rw [BitVec.slt_eq_decide, decide_eq_false_iff_not, BitVec.toInt_eq_toNat_cond, if_pos (by omega)]
    simp
  simp [this]

/-- A picked column whose index is in range. -/
theorem pick4003_apply (u : FVec Ideal S8192x4003 .f32) (i : IVec S8192x1x1 32) (r : Fin 8192) (h : (i (ix3 r 0 0)).toNat < 4003) :
    pick4003 u i (ix1 r) = u (ix2 r ⟨(i (ix3 r 0 0)).toNat, h⟩) := by
  rw [← rowGather_apply 4003 gather_S8192x4003_S8192x1x1_S8192x1_n_1_0_0_1_2_11_wf u i r h (by norm_num)]
  pointwise [pick4003]
  rw [Finset.univ_unique, Finset.fold_singleton, Fin.default_eq_zero, in_range _ 4002#32 (by simp; omega) (by simp)]
  rfl

/-! ## Rows of 16000 columns -/

/-- Log-probabilities of 16000 columns, the row's log-sum-exp taken about `m`. -/
def lpAbout16000 (u : FVec Ideal S8192x16000 .f32) (m : FVec Ideal S8192x1 .f32) : FVec Ideal S8192x16000 .f32 :=
  subf u (broadcastInDim S8192x16000 ![0, 1] bcast_S8192x1_S8192x16000_0_1 (addf (Host.log (broadcastInDim S8192x1 ![0] bcast_S8192_S8192x1_0 (Host.reduceAdd (Host.exp (subf u (broadcastInDim S8192x16000 ![0, 1] bcast_S8192x1_S8192x16000_0_1 m))) (constant S_ .f32 0x00000000#32) reducesTo_S8192x16000_S8192_d1 h_S_))) m))

/-- Log-probabilities of 16000 columns, the row's log-sum-exp taken about a number, zero where that is infinite. -/
def lpFinite16000 (u : FVec Ideal S8192x16000 .f32) (M : FVec Ideal S8192x1 .f32) : FVec Ideal S8192x16000 .f32 :=
  lpAbout16000 u (select (cmpf .olt (Host.absf M) (broadcastInDim S8192x1 ![] bcast_S_S8192x1 (constant S_ .f32 0x7F800000#32))) M (broadcastInDim S8192x1 ![] bcast_S_S8192x1 (id (constant S_ .f32 0x00000000#32))))

/-- Log-probabilities of 16000 columns, the row's log-sum-exp taken about the row's maximum. -/
def lp16000 (u : FVec Ideal S8192x16000 .f32) : FVec Ideal S8192x16000 .f32 :=
  lpFinite16000 u (broadcastInDim S8192x1 ![0] bcast_S8192_S8192x1_0 (Host.reduce FloatOps.maximumf u (constant S_ .f32 0xFF800000#32) reducesTo_S8192x16000_S8192_d1 h_S_))

/-- A log-probability is the column less the row's log-sum-exp, about whatever number that is taken. -/
theorem lpFinite16000_apply (u : FVec Ideal S8192x16000 .f32) (M : FVec Ideal S8192x1 .f32) (r : Fin 8192) (c : Fin 16000) :
    lpFinite16000 u M (ix2 r c) = u (ix2 r c) - lse (fun c' : Fin 16000 => u (ix2 r c')) := by
  rw [← lse_ite _ (M (ix2 r 0)), ← ofBits_inf]
  pointwise [lpFinite16000, lpAbout16000, id]
  rfl

/-- The index of a picked column, as one picks it: a negative one counts from the end. -/
def wrap16000 (i : IVec S8192x1 32) : IVec S8192x1x1 32 :=
  shapeCast _ (select (cmpi .slt i (broadcastInDim S8192x1 ![] bcast_S_S8192x1 (constantI S_ 32 0#32))) (addi i (broadcastInDim S8192x1 ![] bcast_S_S8192x1 (constantI S_ 32 16000#32))) i) shapeCasts_S8192x1_S8192x1x1

/-- One column picked from each row, a stand-in where the index is out of range. -/
def pick16000 (u : FVec Ideal S8192x16000 .f32) (i : IVec S8192x1x1 32) : FVec Ideal S8192 .f32 :=
  shapeCast _ (select (Host.reduce IntOp.andi (andi (cmpi .sge i (broadcastInDim S8192x1x1 ![] bcast_S_S8192x1x1 (constantI S_ 32 0#32))) (cmpi .sle i (broadcastInDim S8192x1x1 ![0, 1, 2] bcast_S1x1x1_S8192x1x1_0_1_2 (broadcastInDim S1x1x1 ![2] bcast_S1_S1x1x1_2 (constantI S1 32 15999#32))))) (constantI S_ 1 1#1) reducesTo_S8192x1x1_S8192x1_d2 h_S_) (Host.gather gather_S8192x16000_S8192x1x1_S8192x1_n_1_0_0_1_2_11 u i) (broadcastInDim S8192x1 ![] bcast_S_S8192x1 (constant S_ .f32 0x7FC00000#32))) shapeCasts_S8192x1_S8192

/-- An index in range is its own. -/
theorem wrap16000_apply (i : IVec S8192x1 32) (r : Fin 8192) (h : (i (ix2 r 0)).toNat < 16000) :
    wrap16000 i (ix3 r 0 0) = i (ix2 r 0) := by
  pointwise [wrap16000]
  generalize i (ix2 r 0) = w at *
  simp only [Scalar.select, IntOp.cmpi]
  have : w.slt 0#32 = false := by
    rw [BitVec.slt_eq_decide, decide_eq_false_iff_not, BitVec.toInt_eq_toNat_cond, if_pos (by omega)]
    simp
  simp [this]

/-- A picked column whose index is in range. -/
theorem pick16000_apply (u : FVec Ideal S8192x16000 .f32) (i : IVec S8192x1x1 32) (r : Fin 8192) (h : (i (ix3 r 0 0)).toNat < 16000) :
    pick16000 u i (ix1 r) = u (ix2 r ⟨(i (ix3 r 0 0)).toNat, h⟩) := by
  rw [← rowGather_apply 16000 gather_S8192x16000_S8192x1x1_S8192x1_n_1_0_0_1_2_11_wf u i r h (by norm_num)]
  pointwise [pick16000]
  rw [Finset.univ_unique, Finset.fold_singleton, Fin.default_eq_zero, in_range _ 15999#32 (by simp; omega) (by simp)]
  rfl

/-! ## Rows of 40000 columns -/

/-- Log-probabilities of 40000 columns, the row's log-sum-exp taken about `m`. -/
def lpAbout40000 (u : FVec Ideal S8192x40000 .f32) (m : FVec Ideal S8192x1 .f32) : FVec Ideal S8192x40000 .f32 :=
  subf u (broadcastInDim S8192x40000 ![0, 1] bcast_S8192x1_S8192x40000_0_1 (addf (Host.log (broadcastInDim S8192x1 ![0] bcast_S8192_S8192x1_0 (Host.reduceAdd (Host.exp (subf u (broadcastInDim S8192x40000 ![0, 1] bcast_S8192x1_S8192x40000_0_1 m))) (constant S_ .f32 0x00000000#32) reducesTo_S8192x40000_S8192_d1 h_S_))) m))

/-- Log-probabilities of 40000 columns, the row's log-sum-exp taken about a number, zero where that is infinite. -/
def lpFinite40000 (u : FVec Ideal S8192x40000 .f32) (M : FVec Ideal S8192x1 .f32) : FVec Ideal S8192x40000 .f32 :=
  lpAbout40000 u (select (cmpf .olt (Host.absf M) (broadcastInDim S8192x1 ![] bcast_S_S8192x1 (constant S_ .f32 0x7F800000#32))) M (broadcastInDim S8192x1 ![] bcast_S_S8192x1 (id (constant S_ .f32 0x00000000#32))))

/-- Log-probabilities of 40000 columns, the row's log-sum-exp taken about the row's maximum. -/
def lp40000 (u : FVec Ideal S8192x40000 .f32) : FVec Ideal S8192x40000 .f32 :=
  lpFinite40000 u (broadcastInDim S8192x1 ![0] bcast_S8192_S8192x1_0 (Host.reduce FloatOps.maximumf u (constant S_ .f32 0xFF800000#32) reducesTo_S8192x40000_S8192_d1 h_S_))

/-- A log-probability is the column less the row's log-sum-exp, about whatever number that is taken. -/
theorem lpFinite40000_apply (u : FVec Ideal S8192x40000 .f32) (M : FVec Ideal S8192x1 .f32) (r : Fin 8192) (c : Fin 40000) :
    lpFinite40000 u M (ix2 r c) = u (ix2 r c) - lse (fun c' : Fin 40000 => u (ix2 r c')) := by
  rw [← lse_ite _ (M (ix2 r 0)), ← ofBits_inf]
  pointwise [lpFinite40000, lpAbout40000, id]
  rfl

/-- The index of a picked column, as one picks it: a negative one counts from the end. -/
def wrap40000 (i : IVec S8192x1 32) : IVec S8192x1x1 32 :=
  shapeCast _ (select (cmpi .slt i (broadcastInDim S8192x1 ![] bcast_S_S8192x1 (constantI S_ 32 0#32))) (addi i (broadcastInDim S8192x1 ![] bcast_S_S8192x1 (constantI S_ 32 40000#32))) i) shapeCasts_S8192x1_S8192x1x1

/-- One column picked from each row, a stand-in where the index is out of range. -/
def pick40000 (u : FVec Ideal S8192x40000 .f32) (i : IVec S8192x1x1 32) : FVec Ideal S8192 .f32 :=
  shapeCast _ (select (Host.reduce IntOp.andi (andi (cmpi .sge i (broadcastInDim S8192x1x1 ![] bcast_S_S8192x1x1 (constantI S_ 32 0#32))) (cmpi .sle i (broadcastInDim S8192x1x1 ![0, 1, 2] bcast_S1x1x1_S8192x1x1_0_1_2 (broadcastInDim S1x1x1 ![2] bcast_S1_S1x1x1_2 (constantI S1 32 39999#32))))) (constantI S_ 1 1#1) reducesTo_S8192x1x1_S8192x1_d2 h_S_) (Host.gather gather_S8192x40000_S8192x1x1_S8192x1_n_1_0_0_1_2_11 u i) (broadcastInDim S8192x1 ![] bcast_S_S8192x1 (constant S_ .f32 0x7FC00000#32))) shapeCasts_S8192x1_S8192

/-- An index in range is its own. -/
theorem wrap40000_apply (i : IVec S8192x1 32) (r : Fin 8192) (h : (i (ix2 r 0)).toNat < 40000) :
    wrap40000 i (ix3 r 0 0) = i (ix2 r 0) := by
  pointwise [wrap40000]
  generalize i (ix2 r 0) = w at *
  simp only [Scalar.select, IntOp.cmpi]
  have : w.slt 0#32 = false := by
    rw [BitVec.slt_eq_decide, decide_eq_false_iff_not, BitVec.toInt_eq_toNat_cond, if_pos (by omega)]
    simp
  simp [this]

/-- A picked column whose index is in range. -/
theorem pick40000_apply (u : FVec Ideal S8192x40000 .f32) (i : IVec S8192x1x1 32) (r : Fin 8192) (h : (i (ix3 r 0 0)).toNat < 40000) :
    pick40000 u i (ix1 r) = u (ix2 r ⟨(i (ix3 r 0 0)).toNat, h⟩) := by
  rw [← rowGather_apply 40000 gather_S8192x40000_S8192x1x1_S8192x1_n_1_0_0_1_2_11_wf u i r h (by norm_num)]
  pointwise [pick40000]
  rw [Finset.univ_unique, Finset.fold_singleton, Fin.default_eq_zero, in_range _ 39999#32 (by simp; omega) (by simp)]
  rfl

/-! ## The whole reference -/

/-- The head's logits. -/
def headLogits (x : FVec Ideal S8192x1024 .f32) (wh : FVec Ideal S1024x4003 .f32) : FVec Ideal S8192x4003 .f32 :=
  Host.dotGeneral dot_S8192x1024_S1024x4003_S8192x4003_1_0_0_1_n_n none x wh

/-- The first cluster's logits. -/
def tailLogits1 (x : FVec Ideal S8192x1024 .f32) (p : FVec Ideal S1024x256 .f32) (w : FVec Ideal S256x16000 .f32) : FVec Ideal S8192x16000 .f32 :=
  Host.dotGeneral dot_S8192x256_S256x16000_S8192x16000_1_0_0_1_n_n none (Host.dotGeneral dot_S8192x1024_S1024x256_S8192x256_1_0_0_1_n_n none x p) w

/-- The second cluster's logits. -/
def tailLogits2 (x : FVec Ideal S8192x1024 .f32) (p : FVec Ideal S1024x64 .f32) (w : FVec Ideal S64x40000 .f32) : FVec Ideal S8192x40000 .f32 :=
  Host.dotGeneral dot_S8192x64_S64x40000_S8192x40000_1_0_0_1_n_n none (Host.dotGeneral dot_S8192x1024_S1024x64_S8192x64_1_0_0_1_n_n none x p) w

/-- The third cluster's logits. -/
def tailLogits3 (x : FVec Ideal S8192x1024 .f32) (p : FVec Ideal S1024x16 .f32) (w : FVec Ideal S16x40000 .f32) : FVec Ideal S8192x40000 .f32 :=
  Host.dotGeneral dot_S8192x16_S16x40000_S8192x40000_1_0_0_1_n_n none (Host.dotGeneral dot_S8192x1024_S1024x16_S8192x16_1_0_0_1_n_n none x p) w

/-- A target vector clipped to `0 … hi`, as a column of indices. -/
def clipAt (hi : BitVec 32) (t : IVec S8192 32) : IVec S8192x1 32 :=
  broadcastInDim S8192x1 ![0] bcast_S8192_S8192x1_0 (minsi (broadcastInDim S8192 ![] bcast_S_S8192 (id (constantI S_ 32 hi))) (maxsi (broadcastInDim S8192 ![] bcast_S_S8192 (id (constantI S_ 32 0#32))) t))

/-- A target vector moved down by `lo`. -/
def below (lo : BitVec 32) (t : IVec S8192 32) : IVec S8192 32 :=
  subi t (broadcastInDim S8192 ![] bcast_S_S8192 (constantI S_ 32 lo))

/-- The rows whose target lies from `lo` up to below `hi`. -/
def within (lo hi : BitVec 32) (t : IVec S8192 32) : IVec S8192 1 :=
  andi (cmpi .sge t (broadcastInDim S8192 ![] bcast_S_S8192 (constantI S_ 32 lo))) (cmpi .slt t (broadcastInDim S8192 ![] bcast_S_S8192 (constantI S_ 32 hi)))

/-- The reference's vector of log-probabilities, one per row. -/
def refVec (x : FVec Ideal S8192x1024 .f32) (t : IVec S8192 32) (wh : FVec Ideal S1024x4003 .f32)
    (p0 : FVec Ideal S1024x256 .f32) (s0 : FVec Ideal S256x16000 .f32) (p1 : FVec Ideal S1024x64 .f32) (s1 : FVec Ideal S64x40000 .f32)
    (p2 : FVec Ideal S1024x16 .f32) (s2 : FVec Ideal S16x40000 .f32) : FVec Ideal S8192 .f32 :=
  select (within 60000#32 100000#32 t)
    (addf (shapeCast _ (extractStridedSlice S8192x1 ![0, 4002] (lp4003 (headLogits x wh)) slices_S8192x4003_S8192x1_0_4002) shapeCasts_S8192x1_S8192)
      (pick40000 (lp40000 (tailLogits3 x p2 s2)) (wrap40000 (clipAt 39999#32 (below 60000#32 t)))))
    (select (within 20000#32 60000#32 t)
      (addf (shapeCast _ (extractStridedSlice S8192x1 ![0, 4001] (lp4003 (headLogits x wh)) slices_S8192x4003_S8192x1_0_4001) shapeCasts_S8192x1_S8192)
        (pick40000 (lp40000 (tailLogits2 x p1 s1)) (wrap40000 (clipAt 39999#32 (below 20000#32 t)))))
      (select (within 4000#32 20000#32 t)
        (addf (shapeCast _ (extractStridedSlice S8192x1 ![0, 4000] (lp4003 (headLogits x wh)) slices_S8192x4003_S8192x1_0_4000) shapeCasts_S8192x1_S8192)
          (pick16000 (lp16000 (tailLogits1 x p0 s0)) (wrap16000 (clipAt 15999#32 (below 4000#32 t)))))
        (pick4003 (lp4003 (headLogits x wh)) (wrap4003 (clipAt 3999#32 t)))))

/-- A head logit is the sum of products of a row of logits and a column of the head weights. -/
theorem headLogits_apply (x : FVec Ideal S8192x1024 .f32) (wh : FVec Ideal S1024x4003 .f32) (r : Fin 8192) (c : Fin 4003) :
    headLogits x wh (ix2 r c) = col (fun k => x (ix2 r k)) wh c.val := by
  rw [← col_eq _ wh c.val c.isLt]
  pointwise [headLogits]

/-- A logit of the first tail is the two products in a row, entry by entry. -/
theorem tailLogits1_apply (x : FVec Ideal S8192x1024 .f32) (p : FVec Ideal S1024x256 .f32) (w : FVec Ideal S256x16000 .f32) (r : Fin 8192) (c : Fin 16000) :
    tailLogits1 x p w (ix2 r c) = col (fun q : Fin 256 => ∑ k, x (ix2 r k) * p (ix2 k q)) w c.val := by
  rw [← col_eq _ w c.val c.isLt]
  pointwise [tailLogits1]

/-- A logit of the second tail is the two products in a row, entry by entry. -/
theorem tailLogits2_apply (x : FVec Ideal S8192x1024 .f32) (p : FVec Ideal S1024x64 .f32) (w : FVec Ideal S64x40000 .f32) (r : Fin 8192) (c : Fin 40000) :
    tailLogits2 x p w (ix2 r c) = col (fun q : Fin 64 => ∑ k, x (ix2 r k) * p (ix2 k q)) w c.val := by
  rw [← col_eq _ w c.val c.isLt]
  pointwise [tailLogits2]

/-- A logit of the third tail is the two products in a row, entry by entry. -/
theorem tailLogits3_apply (x : FVec Ideal S8192x1024 .f32) (p : FVec Ideal S1024x16 .f32) (w : FVec Ideal S16x40000 .f32) (r : Fin 8192) (c : Fin 40000) :
    tailLogits3 x p w (ix2 r c) = col (fun q : Fin 16 => ∑ k, x (ix2 r k) * p (ix2 k q)) w c.val := by
  rw [← col_eq _ w c.val c.isLt]
  pointwise [tailLogits3]

/-- A clipped target, row by row. -/
theorem clipAt_apply (hi : BitVec 32) (t : IVec S8192 32) (r : Fin 8192) :
    clipAt hi t (ix2 r 0) = IntOp.minsi hi (IntOp.maxsi 0#32 (t (ix1 r))) := by
  pointwise [clipAt, id]

/-- A target moved down and clipped, row by row. -/
theorem clipAt_below_apply (lo hi : BitVec 32) (t : IVec S8192 32) (r : Fin 8192) :
    clipAt hi (below lo t) (ix2 r 0) = clip lo hi (t (ix1 r)) := by
  rw [clipAt_apply]
  unfold clip
  pointwise [below]

/-- A target clipped without being moved, row by row. -/
theorem clipAt_zero_apply (hi : BitVec 32) (t : IVec S8192 32) (r : Fin 8192) :
    clipAt hi t (ix2 r 0) = clip 0#32 hi (t (ix1 r)) := by
  rw [clipAt_apply]
  unfold clip
  simp [IntOp.subi]

/-- The mask of a cluster, at a row: the target lies between the two bounds. -/
theorem within_apply (lo hi : BitVec 32) (t : IVec S8192 32) (r : Fin 8192) :
    within lo hi t (ix1 r) = IntOp.andi (IntOp.cmpi .sge (t (ix1 r)) lo) (IntOp.cmpi .slt (t (ix1 r)) hi) := by
  pointwise [within]

/-- A log-probability picked from the columns `f`. -/
theorem picked4003 (u : FVec Ideal S8192x4003 .f32) (i : IVec S8192x1 32) (r : Fin 8192) (f : ℕ → EReal)
    (hu : ∀ c : Fin 4003, u (ix2 r c) = f c.val) (w : BitVec 32) (hi : i (ix2 r 0) = w) (h : w.toNat < 4003) :
    pick4003 (lp4003 u) (wrap4003 i) (ix1 r) = f w.toNat - lseN 4003 f := by
  have hw : wrap4003 i (ix3 r 0 0) = w := by rw [wrap4003_apply i r (by rw [hi]; exact h), hi]
  rw [pick4003_apply _ _ r (by rw [hw]; exact h), lp4003, lpFinite4003_apply]
  simp only [hu, hw, lse_col]

/-- A log-probability picked from the columns `f`. -/
theorem picked16000 (u : FVec Ideal S8192x16000 .f32) (i : IVec S8192x1 32) (r : Fin 8192) (f : ℕ → EReal)
    (hu : ∀ c : Fin 16000, u (ix2 r c) = f c.val) (w : BitVec 32) (hi : i (ix2 r 0) = w) (h : w.toNat < 16000) :
    pick16000 (lp16000 u) (wrap16000 i) (ix1 r) = f w.toNat - lseN 16000 f := by
  have hw : wrap16000 i (ix3 r 0 0) = w := by rw [wrap16000_apply i r (by rw [hi]; exact h), hi]
  rw [pick16000_apply _ _ r (by rw [hw]; exact h), lp16000, lpFinite16000_apply]
  simp only [hu, hw, lse_col]

/-- A log-probability picked from the columns `f`. -/
theorem picked40000 (u : FVec Ideal S8192x40000 .f32) (i : IVec S8192x1 32) (r : Fin 8192) (f : ℕ → EReal)
    (hu : ∀ c : Fin 40000, u (ix2 r c) = f c.val) (w : BitVec 32) (hi : i (ix2 r 0) = w) (h : w.toNat < 40000) :
    pick40000 (lp40000 u) (wrap40000 i) (ix1 r) = f w.toNat - lseN 40000 f := by
  have hw : wrap40000 i (ix3 r 0 0) = w := by rw [wrap40000_apply i r (by rw [hi]; exact h), hi]
  rw [pick40000_apply _ _ r (by rw [hw]; exact h), lp40000, lpFinite40000_apply]
  simp only [hu, hw, lse_col]

/-- The head's log-probability of column 4000. -/
theorem headLp4000 (u : FVec Ideal S8192x4003 .f32) (r : Fin 8192) (f : ℕ → EReal) (hu : ∀ c : Fin 4003, u (ix2 r c) = f c.val) :
    shapeCast S8192 (extractStridedSlice S8192x1 ![0, 4000] (lp4003 u) slices_S8192x4003_S8192x1_0_4000) shapeCasts_S8192x1_S8192 (ix1 r)
      = f 4000 - lseN 4003 f := by
  have e : lp4003 u (ix2 r ⟨4000, by norm_num⟩) = f 4000 - lseN 4003 f := by
    rw [lp4003, lpFinite4003_apply]
    simp only [hu, lse_col]
  rw [← e]
  pointwise

/-- The head's log-probability of column 4001. -/
theorem headLp4001 (u : FVec Ideal S8192x4003 .f32) (r : Fin 8192) (f : ℕ → EReal) (hu : ∀ c : Fin 4003, u (ix2 r c) = f c.val) :
    shapeCast S8192 (extractStridedSlice S8192x1 ![0, 4001] (lp4003 u) slices_S8192x4003_S8192x1_0_4001) shapeCasts_S8192x1_S8192 (ix1 r)
      = f 4001 - lseN 4003 f := by
  have e : lp4003 u (ix2 r ⟨4001, by norm_num⟩) = f 4001 - lseN 4003 f := by
    rw [lp4003, lpFinite4003_apply]
    simp only [hu, lse_col]
  rw [← e]
  pointwise

/-- The head's log-probability of column 4002. -/
theorem headLp4002 (u : FVec Ideal S8192x4003 .f32) (r : Fin 8192) (f : ℕ → EReal) (hu : ∀ c : Fin 4003, u (ix2 r c) = f c.val) :
    shapeCast S8192 (extractStridedSlice S8192x1 ![0, 4002] (lp4003 u) slices_S8192x4003_S8192x1_0_4002) shapeCasts_S8192x1_S8192 (ix1 r)
      = f 4002 - lseN 4003 f := by
  have e : lp4003 u (ix2 r ⟨4002, by norm_num⟩) = f 4002 - lseN 4003 f := by
    rw [lp4003, lpFinite4003_apply]
    simp only [hu, lse_col]
  rw [← e]
  pointwise

/-- The reference's log-probability of a row is `rowLoss` of the row. -/
theorem refVec_apply (x : FVec Ideal S8192x1024 .f32) (t : IVec S8192 32) (wh : FVec Ideal S1024x4003 .f32)
    (p0 : FVec Ideal S1024x256 .f32) (s0 : FVec Ideal S256x16000 .f32) (p1 : FVec Ideal S1024x64 .f32) (s1 : FVec Ideal S64x40000 .f32)
    (p2 : FVec Ideal S1024x16 .f32) (s2 : FVec Ideal S16x40000 .f32) (r : Fin 8192) :
    refVec x t wh p0 s0 p1 s1 p2 s2 (ix1 r)
      = rowLoss (fun k => x (ix2 r k)) (t (ix1 r)) wh p0 s0 p1 s1 p2 s2 := by
  unfold refVec rowLoss
  have c3 := clip_le 60000#32 39999#32 (t (ix1 r)) (by decide)
  have c2 := clip_le 20000#32 39999#32 (t (ix1 r)) (by decide)
  have c1 := clip_le 4000#32 15999#32 (t (ix1 r)) (by decide)
  have c0 := clip_le 0#32 3999#32 (t (ix1 r)) (by decide)
  have sel : ∀ (b : IVec S8192 1) (u v : FVec Ideal S8192 .f32), select b u v (ix1 r) = Scalar.select (b (ix1 r)) (u (ix1 r)) (v (ix1 r)) := fun _ _ _ => rfl
  have add : ∀ (u v : FVec Ideal S8192 .f32), addf u v (ix1 r) = u (ix1 r) + v (ix1 r) := fun _ _ => rfl
  rw [sel, sel, sel, add, add, add, within_apply, within_apply, within_apply, headLp4002 _ r _ (headLogits_apply x wh r), headLp4001 _ r _ (headLogits_apply x wh r), headLp4000 _ r _ (headLogits_apply x wh r),
    picked40000 _ _ r _ (tailLogits3_apply x p2 s2 r) _ (clipAt_below_apply 60000#32 39999#32 t r) (lt_of_le_of_lt c3 (by decide)),
    picked40000 _ _ r _ (tailLogits2_apply x p1 s1 r) _ (clipAt_below_apply 20000#32 39999#32 t r) (lt_of_le_of_lt c2 (by decide)),
    picked16000 _ _ r _ (tailLogits1_apply x p0 s0 r) _ (clipAt_below_apply 4000#32 15999#32 t r) (lt_of_le_of_lt c1 (by decide)),
    picked4003 _ _ r _ (headLogits_apply x wh r) _ (clipAt_zero_apply 3999#32 t r) (lt_of_le_of_lt c0 (by decide))]

/-- The reference's result from its vector of log-probabilities. -/
def refOut (v : FVec Ideal S8192 .f32) : FVec Ideal S_ .f32 :=
  Host.negf (Host.divf (Host.reduceAdd v (constant S_ .f32 0x00000000#32) reducesTo_S8192_S_d0 h_S_) (constant S_ .f32 0x46000000#32))

/-- The loss is minus the sum of the log-probabilities divided by 8192. -/
theorem refOut_apply (v : FVec Ideal S8192 .f32) (i : S_.Idx) :
    refOut v i = -(Ideal.div (∑ r : Fin 8192, v (ix1 r)) ((8192 : ℝ) : EReal)) := by
  rw [← ofBits_8192]
  pointwise [refOut]

/-- The printed reference's vector of log-probabilities is that vector. -/
theorem v115_eq (V0 : Valuation τ sig (Elt Ideal)) :
    res_main_v115 V0 = refVec (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) := rfl

end Cert.ReferenceIdeal.Rows

end
-- ==== Proof.Value.Steps.lean ====
/-
  THE KERNEL'S PAYLOADS ENTRY BY ENTRY, over the extended reals: what one grid point's step adds to the two accumulators,
  and what the first region stores of a row block.
-/
module

public import proofs.«01_k».proof.Proof.Value.Math
public import proofs.«01_k».proof.Proof.RunI.Spec
public import proofs.«01_k».proof.Proof.RunI.Body1

@[expose] public section

set_option maxRecDepth 16384

noncomputable section

namespace Cert.KernelIdeal.Own

open Idealize.ShloMosaic Cert.KernelIdeal Cert.KernelIdeal.Gen Cert.Rows

/-- Sixteen terms summed from the left are a sum over the sixteen groups of lanes. -/
theorem sum_groups (f : ℕ → EReal) (l : ℕ) :
    ∑ c : Fin 16, f (c.val * 128 + l)
      = f l + f (128 + l) + f (256 + l) + f (384 + l) + f (512 + l) + f (640 + l) + f (768 + l) + f (896 + l)
        + f (1024 + l) + f (1152 + l) + f (1280 + l) + f (1408 + l) + f (1536 + l) + f (1664 + l) + f (1792 + l)
        + f (1920 + l) := by
  rw [Fin.sum_univ_eq_sum_range (fun c => f (c * 128 + l)) 16]
  simp only [Finset.sum_range_succ, Finset.sum_range_zero, zero_add, zero_mul, one_mul, Nat.reduceMul]

/-- What a step of cluster 1 leaves in a lane of the exponential sums. -/
theorem stepS1_apply (a : BitVec 32) (w : Vec Ideal S256x2048 .bf16) (t : Vec Ideal S256x256 .bf16)
    (old : Vec Ideal S1x256x128 .f32) (i : Fin 256) (l : Fin 128) :
    stepS1 a w t old (ix3 0 i l)
      = Scalar.select (IntOp.cmpi .eq a 0#32) 0 (old (ix3 0 i l))
        + ∑ c : Fin 16, Ideal.exp (col (fun p => t (ix2 i p)) w (c.val * 128 + l.val)) := by
  rw [sum_groups (fun n => Ideal.exp (col (fun p => t (ix2 i p)) w n))]
  pointwise [stepS1, k1_pay2, k1_pay18, k1_pay14, k1_pay1, k1_pay13]
  simp only [col_eq (fun p => t (ix2 i p)) w]
  congr 1

/-- What a step of cluster 1 leaves in a lane of the picked values. -/
theorem stepT1_apply (a : BitVec 32) (w : Vec Ideal S256x2048 .bf16) (t : Vec Ideal S256x256 .bf16)
    (tg : Vec Ideal S1x256 .i32) (old : Vec Ideal S1x256x128 .f32) (i : Fin 256) (l : Fin 128) :
    stepT1 lanes (Scalar.muli a 2048#32) a w t tg old (ix3 0 i l)
      = Scalar.select (IntOp.cmpi .eq a 0#32) 0 (old (ix3 0 i l))
        + ∑ c : Fin 16, Scalar.select
            (IntOp.cmpi .eq (BitVec.ofNat 32 (c.val * 128 + l.val))
              (IntOp.subi (clip 4000#32 15999#32 (tg (ix2 0 i))) (Scalar.muli a 2048#32)))
            (col (fun p => t (ix2 i p)) w (c.val * 128 + l.val)) 0 := by
  rw [sum_groups (fun n => Scalar.select
    (IntOp.cmpi .eq (BitVec.ofNat 32 n) (IntOp.subi (clip 4000#32 15999#32 (tg (ix2 0 i))) (Scalar.muli a 2048#32)))
    (col (fun p => t (ix2 i p)) w n) 0)]
  unfold lanes clip
  pointwise [stepT1, k1_pay3, k1_pay16, k1_pay13, k1_pay15, k1_pay17, k1_pay1]
  simp only [col_eq (fun p => t (ix2 i p)) w]
  congr 1

/-- What a step of cluster 2 leaves in a lane of the exponential sums. -/
theorem stepS2_apply (a : BitVec 32) (w : Vec Ideal S64x2048 .bf16) (t : Vec Ideal S256x64 .bf16)
    (old : Vec Ideal S1x256x128 .f32) (i : Fin 256) (l : Fin 128) :
    stepS2 a w t old (ix3 0 i l)
      = Scalar.select (IntOp.cmpi .eq a 0#32) 0 (old (ix3 0 i l))
        + ∑ c : Fin 16, Ideal.exp (col (fun p => t (ix2 i p)) w (c.val * 128 + l.val)) := by
  rw [sum_groups (fun n => Ideal.exp (col (fun p => t (ix2 i p)) w n))]
  pointwise [stepS2, k1_pay5, k1_pay24, k1_pay20, k1_pay4, k1_pay19]
  simp only [col_eq (fun p => t (ix2 i p)) w]
  congr 1

/-- What a step of cluster 2 leaves in a lane of the picked values. -/
theorem stepT2_apply (a : BitVec 32) (w : Vec Ideal S64x2048 .bf16) (t : Vec Ideal S256x64 .bf16)
    (tg : Vec Ideal S1x256 .i32) (old : Vec Ideal S1x256x128 .f32) (i : Fin 256) (l : Fin 128) :
    stepT2 lanes (Scalar.muli a 2048#32) a w t tg old (ix3 0 i l)
      = Scalar.select (IntOp.cmpi .eq a 0#32) 0 (old (ix3 0 i l))
        + ∑ c : Fin 16, Scalar.select
            (IntOp.cmpi .eq (BitVec.ofNat 32 (c.val * 128 + l.val))
              (IntOp.subi (clip 20000#32 39999#32 (tg (ix2 0 i))) (Scalar.muli a 2048#32)))
            (col (fun p => t (ix2 i p)) w (c.val * 128 + l.val)) 0 := by
  rw [sum_groups (fun n => Scalar.select
    (IntOp.cmpi .eq (BitVec.ofNat 32 n) (IntOp.subi (clip 20000#32 39999#32 (tg (ix2 0 i))) (Scalar.muli a 2048#32)))
    (col (fun p => t (ix2 i p)) w n) 0)]
  unfold lanes clip
  pointwise [stepT2, k1_pay6, k1_pay22, k1_pay19, k1_pay21, k1_pay23, k1_pay4]
  simp only [col_eq (fun p => t (ix2 i p)) w]
  congr 1

/-- What a step of cluster 3 leaves in a lane of the exponential sums. -/
theorem stepS3_apply (a : BitVec 32) (w : Vec Ideal S16x2048 .bf16) (t : Vec Ideal S256x16 .bf16)
    (old : Vec Ideal S1x256x128 .f32) (i : Fin 256) (l : Fin 128) :
    stepS3 a w t old (ix3 0 i l)
      = Scalar.select (IntOp.cmpi .eq a 0#32) 0 (old (ix3 0 i l))
        + ∑ c : Fin 16, Ideal.exp (col (fun p => t (ix2 i p)) w (c.val * 128 + l.val)) := by
  rw [sum_groups (fun n => Ideal.exp (col (fun p => t (ix2 i p)) w n))]
  pointwise [stepS3, k1_pay8, k1_pay30, k1_pay26, k1_pay7, k1_pay25]
  simp only [col_eq (fun p => t (ix2 i p)) w]
  congr 1

/-- What a step of cluster 3 leaves in a lane of the picked values. -/
theorem stepT3_apply (a : BitVec 32) (w : Vec Ideal S16x2048 .bf16) (t : Vec Ideal S256x16 .bf16)
    (tg : Vec Ideal S1x256 .i32) (old : Vec Ideal S1x256x128 .f32) (i : Fin 256) (l : Fin 128) :
    stepT3 lanes (Scalar.muli a 2048#32) a w t tg old (ix3 0 i l)
      = Scalar.select (IntOp.cmpi .eq a 0#32) 0 (old (ix3 0 i l))
        + ∑ c : Fin 16, Scalar.select
            (IntOp.cmpi .eq (BitVec.ofNat 32 (c.val * 128 + l.val))
              (IntOp.subi (clip 60000#32 39999#32 (tg (ix2 0 i))) (Scalar.muli a 2048#32)))
            (col (fun p => t (ix2 i p)) w (c.val * 128 + l.val)) 0 := by
  rw [sum_groups (fun n => Scalar.select
    (IntOp.cmpi .eq (BitVec.ofNat 32 n) (IntOp.subi (clip 60000#32 39999#32 (tg (ix2 0 i))) (Scalar.muli a 2048#32)))
    (col (fun p => t (ix2 i p)) w n) 0)]
  unfold lanes clip
  pointwise [stepT3, k1_pay9, k1_pay28, k1_pay25, k1_pay27, k1_pay29, k1_pay7]
  simp only [col_eq (fun p => t (ix2 i p)) w]
  congr 1

/-- The first region's first row: the head's log-sum-exp, before the 93 added columns are taken off. -/
theorem pay6_apply (x : Vec Ideal S256x1024 .f32) (w : Vec Ideal S1024x4096 .bf16) (i : Fin 256) :
    k0_pay6 x w (ix3 0 0 i)
      = Ideal.log (∑ n ∈ Finset.range 4096, Ideal.exp (col (fun k => x (ix2 i k)) w n) - ((93 : ℝ) : EReal)) := by
  rw [← ofBits_93, ← Fin.sum_univ_eq_sum_range (fun n => Ideal.exp (col (fun k => x (ix2 i k)) w n))]
  pointwise [k0_pay6, k0_pay5, k0_pay4]
  rfl

/-- The first region's second row: the head's value at the clipped target. -/
theorem pay7_apply (x : Vec Ideal S256x1024 .f32) (w : Vec Ideal S1024x4096 .bf16) (tg : Vec Ideal S1x1x256 .i32)
    (i : Fin 256) :
    k0_pay7 x w tg (ix3 0 0 i)
      = ∑ n ∈ Finset.range 4096, Scalar.select
          (IntOp.cmpi .eq (BitVec.ofNat 32 n) (IntOp.minsi 3999#32 (IntOp.maxsi 0#32 (tg (ix3 0 0 i)))))
          (col (fun k => x (ix2 i k)) w n) 0 := by
  rw [← Fin.sum_univ_eq_sum_range (fun n => Scalar.select
    (IntOp.cmpi .eq (BitVec.ofNat 32 n) (IntOp.minsi 3999#32 (IntOp.maxsi 0#32 (tg (ix3 0 0 i)))))
    (col (fun k => x (ix2 i k)) w n) 0)]
  pointwise [k0_pay7, k0_pay5, k0_pay4]
  refine Finset.sum_congr rfl fun c _ => ?_
  rw [← col_eq _ w c.val c.isLt]

/-- The first region's third row: the head's value at the first cluster. -/
theorem pay9_apply (x : Vec Ideal S256x1024 .f32) (w : Vec Ideal S1024x4096 .bf16) (i : Fin 256) :
    k0_pay9 (k0_pay8 x w) (ix3 0 0 i) = col (fun k => x (ix2 i k)) w 4000 := by
  rw [← col_eq _ w 4000 (by decide)]
  pointwise [k0_pay9, k0_pay8, k0_pay5, k0_pay4]

/-- The first region's fourth row: the head's value at the second cluster. -/
theorem pay10_apply (x : Vec Ideal S256x1024 .f32) (w : Vec Ideal S1024x4096 .bf16) (i : Fin 256) :
    k0_pay10 (k0_pay5 x w) (ix3 0 0 i) = col (fun k => x (ix2 i k)) w 4001 := by
  rw [← col_eq _ w 4001 (by decide)]
  pointwise [k0_pay10, k0_pay5, k0_pay4]

/-- The first region's fifth row: the head's value at the third cluster. -/
theorem pay11_apply (x : Vec Ideal S256x1024 .f32) (w : Vec Ideal S1024x4096 .bf16) (i : Fin 256) :
    k0_pay11 (k0_pay5 x w) (ix3 0 0 i) = col (fun k => x (ix2 i k)) w 4002 := by
  rw [← col_eq _ w 4002 (by decide)]
  pointwise [k0_pay11, k0_pay5, k0_pay4]

/-- The rows projected for cluster 1. -/
theorem proj1_apply (x : Vec Ideal S256x1024 .f32) (p : Vec Ideal S1024x256 .bf16) (i : Fin 256) (j : Fin 256) :
    k0_pay1 (k0_pay16 (k0_pay4 x) p) (ix2 i j) = ∑ k, x (ix2 i k) * p (ix2 k j) := by
  pointwise [k0_pay1, k0_pay16, k0_pay4]

/-- The rows projected for cluster 2. -/
theorem proj2_apply (x : Vec Ideal S256x1024 .f32) (p : Vec Ideal S1024x64 .bf16) (i : Fin 256) (j : Fin 64) :
    k0_pay2 (k0_pay17 (k0_pay4 x) p) (ix2 i j) = ∑ k, x (ix2 i k) * p (ix2 k j) := by
  pointwise [k0_pay2, k0_pay17, k0_pay4]

/-- The rows projected for cluster 3. -/
theorem proj3_apply (x : Vec Ideal S256x1024 .f32) (p : Vec Ideal S1024x16 .bf16) (i : Fin 256) (j : Fin 16) :
    k0_pay3 (k0_pay4 x) (k0_pay18 p) (constant S256x16 FTy.f32 0#32) (ix2 i j) = ∑ k, x (ix2 i k) * p (ix2 k j) := by
  pointwise [k0_pay3, k0_pay18, k0_pay4]

end Cert.KernelIdeal.Own

end
-- ==== Proof.Value.Reads.lean ====
/-
  WHERE THE BLOCKS LIE: each block a region reads or leaves, entry by entry, in the array it is cut from.
-/
module

public import proofs.«01_k».proof.Proof.RunI.Launch
public import Idealize.ShloMosaic.Lib.Pointwise

@[expose] public section

set_option maxRecDepth 16384

noncomputable section

namespace Cert.KernelIdeal.Own

open Idealize.ShloMosaic Cert.KernelIdeal Cert.KernelIdeal.Gen

variable {c : Dev nD} (V : Vals (F := Ideal) c)

/-- The column block of cluster 1's weight each grid point reads, -/
theorem tr3 : ∀ t : Fin cfg1.N, cc1_transform_3 (grid1.coords t) = ![0, if t.val < 8 then t.val else if t.val < 20 then 7 else 0] := by decide +kernel
/-- of cluster 2's, -/
theorem tr4 : ∀ t : Fin cfg1.N, cc1_transform_4 (grid1.coords t) = ![0, if 20 ≤ t.val ∧ t.val < 40 then t.val - 20 else 0] := by decide +kernel
/-- of cluster 3's. -/
theorem tr5 : ∀ t : Fin cfg1.N, cc1_transform_5 (grid1.coords t) = ![0, if 40 ≤ t.val then t.val - 40 else 0] := by decide +kernel

/-- Entry by entry, the weight block of the cluster's step `n`. -/
theorem blk1_3_apply (n : ℕ) (hn : n < 8) (p : Fin 256) (q : Fin 2048) :
    blk1_3 V (ptOf (0 + n)) (ix2 p q) = (V main_v6 : S256x16384.Idx → EReal) (ix2 p ⟨n * 2048 + q.val, by omega⟩) := by
  unfold blk1_3
  refine congrArg (V (Pipeline.arrRef spec1 3)) ?_
  have ht : (ptOf (0 + n)).val = 0 + n := Nat.mod_eq_of_lt (by omega)
  funext a; apply Fin.ext
  fin_cases a
  · show cc1_transform_3 (grid1.coords (ptOf (0 + n))) 0 * 256 + 1 * p.val = p.val
    rw [tr3]; simp
  · show cc1_transform_3 (grid1.coords (ptOf (0 + n))) 1 * 2048 + 1 * q.val = n * 2048 + q.val
    rw [tr3, ht]
    simp [hn]

/-- Entry by entry, the weight block of the cluster's step `n`. -/
theorem blk1_4_apply (n : ℕ) (hn : n < 20) (p : Fin 64) (q : Fin 2048) :
    blk1_4 V (ptOf (20 + n)) (ix2 p q) = (V main_v8 : S64x40960.Idx → EReal) (ix2 p ⟨n * 2048 + q.val, by omega⟩) := by
  unfold blk1_4
  refine congrArg (V (Pipeline.arrRef spec1 4)) ?_
  have ht : (ptOf (20 + n)).val = 20 + n := Nat.mod_eq_of_lt (by omega)
  funext a; apply Fin.ext
  fin_cases a
  · show cc1_transform_4 (grid1.coords (ptOf (20 + n))) 0 * 64 + 1 * p.val = p.val
    rw [tr4]; simp
  · show cc1_transform_4 (grid1.coords (ptOf (20 + n))) 1 * 2048 + 1 * q.val = n * 2048 + q.val
    rw [tr4, ht]
    have h1 : 20 ≤ 20 + n ∧ 20 + n < 20 + 20 := by omega
    simp [hn]
    intro h; omega

/-- Entry by entry, the weight block of the cluster's step `n`. -/
theorem blk1_5_apply (n : ℕ) (hn : n < 20) (p : Fin 16) (q : Fin 2048) :
    blk1_5 V (ptOf (40 + n)) (ix2 p q) = (V main_v10 : S16x40960.Idx → EReal) (ix2 p ⟨n * 2048 + q.val, by omega⟩) := by
  unfold blk1_5
  refine congrArg (V (Pipeline.arrRef spec1 5)) ?_
  have ht : (ptOf (40 + n)).val = 40 + n := Nat.mod_eq_of_lt (by omega)
  funext a; apply Fin.ext
  fin_cases a
  · show cc1_transform_5 (grid1.coords (ptOf (40 + n))) 0 * 16 + 1 * p.val = p.val
    rw [tr5]; simp
  · show cc1_transform_5 (grid1.coords (ptOf (40 + n))) 1 * 2048 + 1 * q.val = n * 2048 + q.val
    rw [tr5, ht]
    simp

/-- The block of window 0 of region 1 is its whole array. -/
theorem blk1_0_whole (t : Fin cfg1.N) : blk1_0 V t = (V main_v11 : S32x256.Idx → BitVec 32) := by
  unfold blk1_0
  funext y
  refine congrArg (V (Pipeline.arrRef spec1 0)) ?_
  funext a; apply Fin.ext
  fin_cases a
  · exact (show 0 * 32 + 1 * (y 0).val = (y 0).val by omega)
  · exact (show 0 * 256 + 1 * (y 1).val = (y 1).val by omega)

/-- The block of window 1 of region 1 is its whole array. -/
theorem blk1_1_whole (t : Fin cfg1.N) : blk1_1 V t = (V main_v13_1 : S32x8x256.Idx → EReal) := by
  unfold blk1_1
  funext y
  refine congrArg (V (Pipeline.arrRef spec1 1)) ?_
  funext a; apply Fin.ext
  fin_cases a
  · exact (show 0 * 32 + 1 * (y 0).val = (y 0).val by omega)
  · exact (show 0 * 8 + 1 * (y 1).val = (y 1).val by omega)
  · exact (show 0 * 256 + 1 * (y 2).val = (y 2).val by omega)

/-- The block of window 2 of region 1 is its whole array. -/
theorem blk1_2_whole (t : Fin cfg1.N) : blk1_2 V t = (V main_v13_0 : S8192x512.Idx → EReal) := by
  unfold blk1_2
  funext y
  refine congrArg (V (Pipeline.arrRef spec1 2)) ?_
  funext a; apply Fin.ext
  fin_cases a
  · exact (show 0 * 8192 + 1 * (y 0).val = (y 0).val by omega)
  · exact (show 0 * 512 + 1 * (y 1).val = (y 1).val by omega)

/-- The block of window 1 of region 0 is its whole array. -/
theorem blk0_1_whole (t : Fin cfg0.N) : blk0_1 V t = (V main_v1 : S1024x4096.Idx → EReal) := by
  unfold blk0_1
  funext y
  refine congrArg (V (Pipeline.arrRef spec0 1)) ?_
  funext a; apply Fin.ext
  fin_cases a
  · exact (show 0 * 1024 + 1 * (y 0).val = (y 0).val by omega)
  · exact (show 0 * 4096 + 1 * (y 1).val = (y 1).val by omega)

/-- The block of window 2 of region 0 is its whole array. -/
theorem blk0_2_whole (t : Fin cfg0.N) : blk0_2 V t = (V main_v2 : S1024x256.Idx → EReal) := by
  unfold blk0_2
  funext y
  refine congrArg (V (Pipeline.arrRef spec0 2)) ?_
  funext a; apply Fin.ext
  fin_cases a
  · exact (show 0 * 1024 + 1 * (y 0).val = (y 0).val by omega)
  · exact (show 0 * 256 + 1 * (y 1).val = (y 1).val by omega)

/-- The block of window 3 of region 0 is its whole array. -/
theorem blk0_3_whole (t : Fin cfg0.N) : blk0_3 V t = (V main_v3 : S1024x64.Idx → EReal) := by
  unfold blk0_3
  funext y
  refine congrArg (V (Pipeline.arrRef spec0 3)) ?_
  funext a; apply Fin.ext
  fin_cases a
  · exact (show 0 * 1024 + 1 * (y 0).val = (y 0).val by omega)
  · exact (show 0 * 64 + 1 * (y 1).val = (y 1).val by omega)

/-- The block of window 4 of region 0 is its whole array. -/
theorem blk0_4_whole (t : Fin cfg0.N) : blk0_4 V t = (V main_v4 : S1024x16.Idx → EReal) := by
  unfold blk0_4
  funext y
  refine congrArg (V (Pipeline.arrRef spec0 4)) ?_
  funext a; apply Fin.ext
  fin_cases a
  · exact (show 0 * 1024 + 1 * (y 0).val = (y 0).val by omega)
  · exact (show 0 * 16 + 1 * (y 1).val = (y 1).val by omega)

/-- The row blocks region 0 reads and leaves are taken in order. -/
theorem coord0 : ∀ t : Fin cfg0.N, cc0_transform_0 (grid0.coords t) = ![t.val, 0] ∧ cc0_transform_5 (grid0.coords t) = ![t.val, 0, 0]
    ∧ cc0_transform_6 (grid0.coords t) = ![t.val, 0] ∧ cc0_transform_7 (grid0.coords t) = ![t.val, 0, 0] := by decide +kernel

/-- Region 0's points are the 32 row blocks. -/
abbrev rowPt (r : Fin 32) : Fin cfg0.N := ⟨r.val, lt_of_lt_of_eq r.isLt N_0.symm⟩

/-- Entry by entry, the inputs' row block `r`. -/
theorem blk0_0_apply (r : Fin 32) (i : Fin 256) (k : Fin 1024) :
    blk0_0 V (rowPt r) (ix2 i k) = (V main_arg0 : S8192x1024.Idx → EReal) (ix2 ⟨256 * r.val + i.val, by omega⟩ k) := by
  unfold blk0_0
  refine congrArg (V (Pipeline.arrRef spec0 0)) ?_
  funext a; apply Fin.ext
  fin_cases a
  · show cc0_transform_0 (grid0.coords (rowPt r)) 0 * 256 + 1 * i.val = 256 * r.val + i.val
    rw [(coord0 _).1]
    show r.val * 256 + 1 * i.val = 256 * r.val + i.val
    omega
  · show cc0_transform_0 (grid0.coords (rowPt r)) 1 * 1024 + 1 * k.val = k.val
    rw [(coord0 _).1]
    show 0 * 1024 + 1 * k.val = k.val
    omega

/-- Entry by entry, the targets' row block `r`. -/
theorem blk0_5_apply (r : Fin 32) (i : Fin 256) :
    blk0_5 V (rowPt r) (ix3 0 0 i) = (V main_v12 : S32x1x256.Idx → BitVec 32) (ix3 r 0 i) := by
  unfold blk0_5
  refine congrArg (V (Pipeline.arrRef spec0 5)) ?_
  funext a; apply Fin.ext
  fin_cases a
  · show cc0_transform_5 (grid0.coords (rowPt r)) 0 * 1 + 1 * 0 = r.val
    rw [(coord0 _).2.1]
    show r.val * 1 + 1 * 0 = r.val
    omega
  · show cc0_transform_5 (grid0.coords (rowPt r)) 1 * 1 + 1 * 0 = 0
    rw [(coord0 _).2.1]
    rfl
  · show cc0_transform_5 (grid0.coords (rowPt r)) 2 * 256 + 1 * i.val = i.val
    rw [(coord0 _).2.1]
    show 0 * 256 + 1 * i.val = i.val
    omega

/-- Entry by entry, the projected row block `r` region 0 leaves. -/
theorem blk0_6_apply (G : S8192x512.Idx → EReal) (r : Fin 32) (i : Fin 256) (j : Fin 512) :
    (((cfg0.win 6).blk (rowPt r)).view.read (Elt Ideal) G : S256x512.Idx → EReal) (ix2 i j) = G (ix2 ⟨256 * r.val + i.val, by omega⟩ j) := by
  refine congrArg G ?_
  funext a; apply Fin.ext
  fin_cases a
  · show cc0_transform_6 (grid0.coords (rowPt r)) 0 * 256 + 1 * i.val = 256 * r.val + i.val
    rw [(coord0 _).2.2.1]
    show r.val * 256 + 1 * i.val = 256 * r.val + i.val
    omega
  · show cc0_transform_6 (grid0.coords (rowPt r)) 1 * 512 + 1 * j.val = j.val
    rw [(coord0 _).2.2.1]
    show 0 * 512 + 1 * j.val = j.val
    omega

/-- Entry by entry, the head row block `r` region 0 leaves. -/
theorem blk0_7_apply (G : S32x8x256.Idx → EReal) (r : Fin 32) (j : Fin 8) (i : Fin 256) :
    (((cfg0.win 7).blk (rowPt r)).view.read (Elt Ideal) G : S1x8x256.Idx → EReal) (ix3 0 j i) = G (ix3 r j i) := by
  refine congrArg G ?_
  funext a; apply Fin.ext
  fin_cases a
  · show cc0_transform_7 (grid0.coords (rowPt r)) 0 * 1 + 1 * 0 = r.val
    rw [(coord0 _).2.2.2]
    show r.val * 1 + 1 * 0 = r.val
    omega
  · show cc0_transform_7 (grid0.coords (rowPt r)) 1 * 8 + 1 * j.val = j.val
    rw [(coord0 _).2.2.2]
    show 0 * 8 + 1 * j.val = j.val
    omega
  · show cc0_transform_7 (grid0.coords (rowPt r)) 2 * 256 + 1 * i.val = i.val
    rw [(coord0 _).2.2.2]
    show 0 * 256 + 1 * i.val = i.val
    omega

/-! ## The row blocks the inner loops read -/

/-- Where trip `k` of cluster 1's loop reads the projected rows and the targets. -/
theorem off_tb1 : ∀ k : Fin k1_t1_loop.trips, k1_off1 k = ![256 * k.val, 0] ∧ k1_off2 k = ![k.val, 0] := by decide +kernel

/-- Entry by entry, the projected rows trip `k` of cluster 1's loop reads, -/
theorem tb1_apply (X : S8192x512.Idx → EReal) (k : Fin 32) (i : Fin 256) (j : Fin 256) :
    (tb1 (F := Ideal) X k : S256x256.Idx → EReal) (ix2 i j) = X (ix2 ⟨256 * k.val + i.val, by omega⟩ ⟨0 + j.val, by omega⟩) := by
  refine congrArg X ?_
  funext a; apply Fin.ext
  fin_cases a
  · show k1_off1 k 0 + 1 * i.val = 256 * k.val + i.val
    rw [(off_tb1 k).1]
    show 256 * k.val + 1 * i.val = 256 * k.val + i.val
    omega
  · show k1_off1 k 1 + 1 * j.val = 0 + j.val
    rw [(off_tb1 k).1]
    show 0 + 1 * j.val = 0 + j.val
    omega

/-- and its targets. -/
theorem tgb1_apply (X : S32x256.Idx → BitVec 32) (k : Fin 32) (i : Fin 256) :
    (tgb1 (F := Ideal) X k : S1x256.Idx → BitVec 32) (ix2 0 i) = X (ix2 k i) := by
  refine congrArg X ?_
  funext a; apply Fin.ext
  fin_cases a
  · show k1_off2 k 0 + 1 * 0 = k.val
    rw [(off_tb1 k).2]
    rfl
  · show k1_off2 k 1 + 1 * i.val = i.val
    rw [(off_tb1 k).2]
    show 0 + 1 * i.val = i.val
    omega

/-- Where trip `k` of cluster 2's loop reads the projected rows and the targets. -/
theorem off_tb2 : ∀ k : Fin k1_t2_loop.trips, k1_off4 k = ![256 * k.val, 256] ∧ k1_off5 k = ![k.val, 0] := by decide +kernel

/-- Entry by entry, the projected rows trip `k` of cluster 2's loop reads, -/
theorem tb2_apply (X : S8192x512.Idx → EReal) (k : Fin 32) (i : Fin 256) (j : Fin 64) :
    (tb2 (F := Ideal) X k : S256x64.Idx → EReal) (ix2 i j) = X (ix2 ⟨256 * k.val + i.val, by omega⟩ ⟨256 + j.val, by omega⟩) := by
  refine congrArg X ?_
  funext a; apply Fin.ext
  fin_cases a
  · show k1_off4 k 0 + 1 * i.val = 256 * k.val + i.val
    rw [(off_tb2 k).1]
    show 256 * k.val + 1 * i.val = 256 * k.val + i.val
    omega
  · show k1_off4 k 1 + 1 * j.val = 256 + j.val
    rw [(off_tb2 k).1]
    show 256 + 1 * j.val = 256 + j.val
    omega

/-- and its targets. -/
theorem tgb2_apply (X : S32x256.Idx → BitVec 32) (k : Fin 32) (i : Fin 256) :
    (tgb2 (F := Ideal) X k : S1x256.Idx → BitVec 32) (ix2 0 i) = X (ix2 k i) := by
  refine congrArg X ?_
  funext a; apply Fin.ext
  fin_cases a
  · show k1_off5 k 0 + 1 * 0 = k.val
    rw [(off_tb2 k).2]
    rfl
  · show k1_off5 k 1 + 1 * i.val = i.val
    rw [(off_tb2 k).2]
    show 0 + 1 * i.val = i.val
    omega

/-- Where trip `k` of cluster 3's loop reads the projected rows and the targets. -/
theorem off_tb3 : ∀ k : Fin k1_t3_loop.trips, k1_off7 k = ![256 * k.val, 384] ∧ k1_off8 k = ![k.val, 0] := by decide +kernel

/-- Entry by entry, the projected rows trip `k` of cluster 3's loop reads, -/
theorem tb3_apply (X : S8192x512.Idx → EReal) (k : Fin 32) (i : Fin 256) (j : Fin 16) :
    (tb3 (F := Ideal) X k : S256x16.Idx → EReal) (ix2 i j) = X (ix2 ⟨256 * k.val + i.val, by omega⟩ ⟨384 + j.val, by omega⟩) := by
  refine congrArg X ?_
  funext a; apply Fin.ext
  fin_cases a
  · show k1_off7 k 0 + 1 * i.val = 256 * k.val + i.val
    rw [(off_tb3 k).1]
    show 256 * k.val + 1 * i.val = 256 * k.val + i.val
    omega
  · show k1_off7 k 1 + 1 * j.val = 384 + j.val
    rw [(off_tb3 k).1]
    show 384 + 1 * j.val = 384 + j.val
    omega

/-- and its targets. -/
theorem tgb3_apply (X : S32x256.Idx → BitVec 32) (k : Fin 32) (i : Fin 256) :
    (tgb3 (F := Ideal) X k : S1x256.Idx → BitVec 32) (ix2 0 i) = X (ix2 k i) := by
  refine congrArg X ?_
  funext a; apply Fin.ext
  fin_cases a
  · show k1_off8 k 0 + 1 * 0 = k.val
    rw [(off_tb3 k).2]
    rfl
  · show k1_off8 k 1 + 1 * i.val = i.val
    rw [(off_tb3 k).2]
    show 0 + 1 * i.val = i.val
    omega

/-- Where trip `k` of the last loop reads the targets and the head rows. -/
theorem off_loss : ∀ k : Fin k1_t4_loop.trips, k1_off10 k = ![k.val, 0] ∧ k1_off11 k = ![k.val, 0, 0] ∧ k1_off12 k = ![k.val, 1, 0]
    ∧ k1_off14 k = ![k.val, 2, 0] ∧ k1_off16 k = ![k.val, 3, 0] ∧ k1_off18 k = ![k.val, 4, 0] := by decide +kernel
/-- Where it reads the accumulators. -/
theorem off_acc : ∀ k : Fin k1_t4_loop.trips, k1_off13 k = ![0, 256 * k.val, 0] ∧ k1_off15 k = ![1, 256 * k.val, 0]
    ∧ k1_off17 k = ![2, 256 * k.val, 0] := by decide +kernel

/-- A row of the head block. -/
theorem row_hq (X : S32x8x256.Idx → EReal) (k : Fin 32) (j : Fin 8) (off : Fin 3 → ℕ) (h : off = ![k.val, j.val, 0])
    (inb : ∀ a, off a + S1x1x256.size a ≤ S32x8x256.size a) (i : Fin 256) :
    (View.ld (Val := Elt Ideal) (e' := .f32) X (Rect.unit (s := S32x8x256) off S1x1x256.size inb) : S1x1x256.Idx → EReal) (ix3 0 0 i) = X (ix3 k j i) := by
  subst h
  refine congrArg X ?_
  funext a; apply Fin.ext
  fin_cases a
  · exact (show k.val + 1 * 0 = k.val by omega)
  · exact (show j.val + 1 * 0 = j.val by omega)
  · exact (show 0 + 1 * i.val = i.val by omega)

/-- A row of the targets. -/
theorem row_tg (X : S32x256.Idx → BitVec 32) (k : Fin 32) (off : Fin 2 → ℕ) (h : off = ![k.val, 0])
    (inb : ∀ a, off a + S1x256.size a ≤ S32x256.size a) (i : Fin 256) :
    (View.ld (Val := Elt Ideal) (e' := .i32) X (Rect.unit (s := S32x256) off S1x256.size inb) : S1x256.Idx → BitVec 32) (ix2 0 i) = X (ix2 k i) := by
  subst h
  refine congrArg X ?_
  funext a; apply Fin.ext
  fin_cases a
  · exact (show k.val + 1 * 0 = k.val by omega)
  · exact (show 0 + 1 * i.val = i.val by omega)

end Cert.KernelIdeal.Own
-- ==== Proof.Value.Acc.lean ====
/-
  THE TWO ACCUMULATORS AFTER A CLUSTER'S STEPS, entry by entry over the extended reals: sums over the columns of the
  cluster's padded weight, and with them a row's sum of exponentials and its gathered column.
-/
module

public import proofs.«01_k».proof.Proof.Value.Steps
public import proofs.«01_k».proof.Proof.Value.Reads

@[expose] public section

set_option maxRecDepth 16384

noncomputable section

namespace Cert.KernelIdeal.Own

open Idealize.ShloMosaic Cert.KernelIdeal Cert.KernelIdeal.Gen Cert.Rows

/-- Whether column `n` is the column `m` looked for. -/
def hit (m n : ℕ) : BitVec 1 := if n = m then 1#1 else 0#1

/-- The kernel's mask, a lane's number against the clipped target less the step's first column, marks the column that
    is the target's. -/
theorem mask_eq (v : BitVec 32) (k n : ℕ) (hv : v.toNat < 2 ^ 31) (hk : k < 20) (hn : n < 2048) :
    IntOp.cmpi .eq (BitVec.ofNat 32 n) (IntOp.subi v (Scalar.muli (BitVec.ofNat 32 k) 2048#32)) = hit v.toNat (k * 2048 + n) := by
  have hm : (Scalar.muli (BitVec.ofNat 32 k) 2048#32) = BitVec.ofNat 32 (k * 2048) := by
    show BitVec.ofNat 32 k * 2048#32 = _
    apply BitVec.eq_of_toNat_eq
    simp
  rw [hm]
  have key : (BitVec.ofNat 32 n = v - BitVec.ofNat 32 (k * 2048)) ↔ k * 2048 + n = v.toNat := by
    rw [← BitVec.toNat_inj]
    simp only [BitVec.toNat_ofNat, BitVec.toNat_sub]
    omega
  show BitVec.ofBool (BitVec.ofNat 32 n == v - BitVec.ofNat 32 (k * 2048)) = _
  unfold hit
  by_cases h : k * 2048 + n = v.toNat
  · rw [if_pos h, key.mpr h]
    simp
  · rw [if_neg h, beq_eq_false_iff_ne.mpr fun e => h (key.mp e)]
    rfl

/-- A step's test for being the first keeps a value that is zero at the first. -/
theorem first_keep (k : ℕ) (hk : k < 20) (x : EReal) (h : k = 0 → x = 0) :
    Scalar.select (IntOp.cmpi .eq (BitVec.ofNat 32 k) 0#32) 0 x = x := by
  rcases Nat.eq_zero_or_pos k with h0 | h0
  · rw [h h0]
    unfold Scalar.select
    split <;> rfl
  · have hne : ¬ (BitVec.ofNat 32 k = 0#32) := fun e => by
      have := congrArg BitVec.toNat e
      simp at this
      omega
    have hb : IntOp.cmpi .eq (BitVec.ofNat 32 k) 0#32 = 0#1 := by
      show BitVec.ofBool (BitVec.ofNat 32 k == 0#32) = 0#1
      rw [beq_eq_false_iff_ne.mpr hne]
      rfl
    rw [hb]
    rfl

variable {c : Dev nD} (V : Vals (F := Ideal) c)

/-- The projected row `i` of row block `r`, cluster 1's columns. -/
abbrev prow1 (r : Fin 32) (i : Fin 256) : Fin 256 → EReal := fun p =>
  (V main_v13_0 : S8192x512.Idx → EReal) (ix2 ⟨256 * r.val + i.val, by omega⟩ ⟨0 + p.val, by omega⟩)

/-- A column of cluster 1's weight block at its step `k`. -/
theorem colblk1 (k : ℕ) (hk : k < 8) (r : Fin 32) (i : Fin 256) (n : ℕ) (hn : n < 2048) :
    col (fun p : Fin 256 => (tb1 (F := Ideal) (blk1_2 V (ptOf (0 + k))) r : S256x256.Idx → EReal) (ix2 i p)) (blk1_3 V (ptOf (0 + k))) n
      = col (prow1 V r i) (V main_v6 : S256x16384.Idx → EReal) (k * 2048 + n) := by
  rw [blk1_2_whole]
  simp only [tb1_apply]
  exact col_run _ _ _ _ _ hn (by omega) fun p => blk1_3_apply V k hk p ⟨n, hn⟩

/-- The first accumulator after `k` steps of cluster 1. -/
theorem accS1 (r : Fin 32) (i : Fin 256) (l : Fin 128) : ∀ k, k ≤ 8 →
    (accOf (newS V) 0 r k : S1x256x128.Idx → EReal) (ix3 0 i l)
      = ∑ q ∈ Finset.range k, ∑ g : Fin 16, Ideal.exp (col (prow1 V r i) (V main_v6 : S256x16384.Idx → EReal) (q * 2048 + (g.val * 128 + l.val)))
  | 0, _ => by
    show Ideal.ofBits .f32 0#32 = _
    simp
  | k + 1, hk => by
    rw [Finset.sum_range_succ, ← accS1 r i l k (by omega)]
    show (newS V (20 * 0 + k) r (accOf (newS V) 0 r k) : S1x256x128.Idx → EReal) (ix3 0 i l) = _
    unfold newS
    rw [if_pos (by omega)]
    refine (stepS1_apply _ _ _ _ i l).trans ?_
    have hw : word (20 * 0 + k) = BitVec.ofNat 32 k := by
      unfold word
      rw [show (20 * 0 + k) % 20 = k by omega]
    rw [hw, first_keep k (by omega) _ (fun h => by subst h; show Ideal.ofBits .f32 0#32 = 0; simp)]
    refine congrArg₂ (· + ·) rfl (Finset.sum_congr rfl fun g _ => ?_)
    rw [colblk1 V k (by omega) r i _ (by omega)]

/-- The second accumulator after `k` steps of cluster 1. -/
theorem accT1 (r : Fin 32) (i : Fin 256) (l : Fin 128) : ∀ k, k ≤ 8 →
    (accOf (newT V) 0 r k : S1x256x128.Idx → EReal) (ix3 0 i l)
      = ∑ q ∈ Finset.range k, ∑ g : Fin 16, Scalar.select
          (hit (clip 4000#32 15999#32 ((V main_v11 : S32x256.Idx → BitVec 32) (ix2 r i))).toNat (q * 2048 + (g.val * 128 + l.val)))
          (col (prow1 V r i) (V main_v6 : S256x16384.Idx → EReal) (q * 2048 + (g.val * 128 + l.val))) 0
  | 0, _ => by
    show Ideal.ofBits .f32 0#32 = _
    simp
  | k + 1, hk => by
    rw [Finset.sum_range_succ, ← accT1 r i l k (by omega)]
    show (newT V (20 * 0 + k) r (accOf (newT V) 0 r k) : S1x256x128.Idx → EReal) (ix3 0 i l) = _
    unfold newT
    rw [if_pos (by omega)]
    refine (stepT1_apply _ _ _ _ _ i l).trans ?_
    have hw : word (20 * 0 + k) = BitVec.ofNat 32 k := by
      unfold word
      rw [show (20 * 0 + k) % 20 = k by omega]
    rw [hw, first_keep k (by omega) _ (fun h => by subst h; show Ideal.ofBits .f32 0#32 = 0; simp)]
    refine congrArg₂ (· + ·) rfl (Finset.sum_congr rfl fun g _ => ?_)
    rw [colblk1 V k (by omega) r i _ (by omega), tgb1_apply, blk1_0_whole,
      mask_eq _ k _ (lt_of_le_of_lt (clip_le _ _ _ (by decide)) (by decide)) (by omega) (by omega)]

/-- The projected row `i` of row block `r`, cluster 2's columns. -/
abbrev prow2 (r : Fin 32) (i : Fin 256) : Fin 64 → EReal := fun p =>
  (V main_v13_0 : S8192x512.Idx → EReal) (ix2 ⟨256 * r.val + i.val, by omega⟩ ⟨256 + p.val, by omega⟩)

/-- A column of cluster 2's weight block at its step `k`. -/
theorem colblk2 (k : ℕ) (hk : k < 20) (r : Fin 32) (i : Fin 256) (n : ℕ) (hn : n < 2048) :
    col (fun p : Fin 64 => (tb2 (F := Ideal) (blk1_2 V (ptOf (20 + k))) r : S256x64.Idx → EReal) (ix2 i p)) (blk1_4 V (ptOf (20 + k))) n
      = col (prow2 V r i) (V main_v8 : S64x40960.Idx → EReal) (k * 2048 + n) := by
  rw [blk1_2_whole]
  simp only [tb2_apply]
  exact col_run _ _ _ _ _ hn (by omega) fun p => blk1_4_apply V k hk p ⟨n, hn⟩

/-- The first accumulator after `k` steps of cluster 2. -/
theorem accS2 (r : Fin 32) (i : Fin 256) (l : Fin 128) : ∀ k, k ≤ 20 →
    (accOf (newS V) 1 r k : S1x256x128.Idx → EReal) (ix3 0 i l)
      = ∑ q ∈ Finset.range k, ∑ g : Fin 16, Ideal.exp (col (prow2 V r i) (V main_v8 : S64x40960.Idx → EReal) (q * 2048 + (g.val * 128 + l.val)))
  | 0, _ => by
    show Ideal.ofBits .f32 0#32 = _
    simp
  | k + 1, hk => by
    rw [Finset.sum_range_succ, ← accS2 r i l k (by omega)]
    show (newS V (20 * 1 + k) r (accOf (newS V) 1 r k) : S1x256x128.Idx → EReal) (ix3 0 i l) = _
    unfold newS
    rw [if_neg (by omega), if_pos (by omega)]
    refine (stepS2_apply _ _ _ _ i l).trans ?_
    have hw : word (20 * 1 + k) = BitVec.ofNat 32 k := by
      unfold word
      rw [show (20 * 1 + k) % 20 = k by omega]
    rw [hw, first_keep k (by omega) _ (fun h => by subst h; show Ideal.ofBits .f32 0#32 = 0; simp)]
    refine congrArg₂ (· + ·) rfl (Finset.sum_congr rfl fun g _ => ?_)
    rw [colblk2 V k (by omega) r i _ (by omega)]

/-- The second accumulator after `k` steps of cluster 2. -/
theorem accT2 (r : Fin 32) (i : Fin 256) (l : Fin 128) : ∀ k, k ≤ 20 →
    (accOf (newT V) 1 r k : S1x256x128.Idx → EReal) (ix3 0 i l)
      = ∑ q ∈ Finset.range k, ∑ g : Fin 16, Scalar.select
          (hit (clip 20000#32 39999#32 ((V main_v11 : S32x256.Idx → BitVec 32) (ix2 r i))).toNat (q * 2048 + (g.val * 128 + l.val)))
          (col (prow2 V r i) (V main_v8 : S64x40960.Idx → EReal) (q * 2048 + (g.val * 128 + l.val))) 0
  | 0, _ => by
    show Ideal.ofBits .f32 0#32 = _
    simp
  | k + 1, hk => by
    rw [Finset.sum_range_succ, ← accT2 r i l k (by omega)]
    show (newT V (20 * 1 + k) r (accOf (newT V) 1 r k) : S1x256x128.Idx → EReal) (ix3 0 i l) = _
    unfold newT
    rw [if_neg (by omega), if_pos (by omega)]
    refine (stepT2_apply _ _ _ _ _ i l).trans ?_
    have hw : word (20 * 1 + k) = BitVec.ofNat 32 k := by
      unfold word
      rw [show (20 * 1 + k) % 20 = k by omega]
    rw [hw, first_keep k (by omega) _ (fun h => by subst h; show Ideal.ofBits .f32 0#32 = 0; simp)]
    refine congrArg₂ (· + ·) rfl (Finset.sum_congr rfl fun g _ => ?_)
    rw [colblk2 V k (by omega) r i _ (by omega), tgb2_apply, blk1_0_whole,
      mask_eq _ k _ (lt_of_le_of_lt (clip_le _ _ _ (by decide)) (by decide)) (by omega) (by omega)]

/-- The projected row `i` of row block `r`, cluster 3's columns. -/
abbrev prow3 (r : Fin 32) (i : Fin 256) : Fin 16 → EReal := fun p =>
  (V main_v13_0 : S8192x512.Idx → EReal) (ix2 ⟨256 * r.val + i.val, by omega⟩ ⟨384 + p.val, by omega⟩)

/-- A column of cluster 3's weight block at its step `k`. -/
theorem colblk3 (k : ℕ) (hk : k < 20) (r : Fin 32) (i : Fin 256) (n : ℕ) (hn : n < 2048) :
    col (fun p : Fin 16 => (tb3 (F := Ideal) (blk1_2 V (ptOf (40 + k))) r : S256x16.Idx → EReal) (ix2 i p)) (blk1_5 V (ptOf (40 + k))) n
      = col (prow3 V r i) (V main_v10 : S16x40960.Idx → EReal) (k * 2048 + n) := by
  rw [blk1_2_whole]
  simp only [tb3_apply]
  exact col_run _ _ _ _ _ hn (by omega) fun p => blk1_5_apply V k hk p ⟨n, hn⟩

/-- The first accumulator after `k` steps of cluster 3. -/
theorem accS3 (r : Fin 32) (i : Fin 256) (l : Fin 128) : ∀ k, k ≤ 20 →
    (accOf (newS V) 2 r k : S1x256x128.Idx → EReal) (ix3 0 i l)
      = ∑ q ∈ Finset.range k, ∑ g : Fin 16, Ideal.exp (col (prow3 V r i) (V main_v10 : S16x40960.Idx → EReal) (q * 2048 + (g.val * 128 + l.val)))
  | 0, _ => by
    show Ideal.ofBits .f32 0#32 = _
    simp
  | k + 1, hk => by
    rw [Finset.sum_range_succ, ← accS3 r i l k (by omega)]
    show (newS V (20 * 2 + k) r (accOf (newS V) 2 r k) : S1x256x128.Idx → EReal) (ix3 0 i l) = _
    unfold newS
    rw [if_neg (by omega), if_neg (by omega)]
    refine (stepS3_apply _ _ _ _ i l).trans ?_
    have hw : word (20 * 2 + k) = BitVec.ofNat 32 k := by
      unfold word
      rw [show (20 * 2 + k) % 20 = k by omega]
    rw [hw, first_keep k (by omega) _ (fun h => by subst h; show Ideal.ofBits .f32 0#32 = 0; simp)]
    refine congrArg₂ (· + ·) rfl (Finset.sum_congr rfl fun g _ => ?_)
    rw [colblk3 V k (by omega) r i _ (by omega)]

/-- The second accumulator after `k` steps of cluster 3. -/
theorem accT3 (r : Fin 32) (i : Fin 256) (l : Fin 128) : ∀ k, k ≤ 20 →
    (accOf (newT V) 2 r k : S1x256x128.Idx → EReal) (ix3 0 i l)
      = ∑ q ∈ Finset.range k, ∑ g : Fin 16, Scalar.select
          (hit (clip 60000#32 39999#32 ((V main_v11 : S32x256.Idx → BitVec 32) (ix2 r i))).toNat (q * 2048 + (g.val * 128 + l.val)))
          (col (prow3 V r i) (V main_v10 : S16x40960.Idx → EReal) (q * 2048 + (g.val * 128 + l.val))) 0
  | 0, _ => by
    show Ideal.ofBits .f32 0#32 = _
    simp
  | k + 1, hk => by
    rw [Finset.sum_range_succ, ← accT3 r i l k (by omega)]
    show (newT V (20 * 2 + k) r (accOf (newT V) 2 r k) : S1x256x128.Idx → EReal) (ix3 0 i l) = _
    unfold newT
    rw [if_neg (by omega), if_neg (by omega)]
    refine (stepT3_apply _ _ _ _ _ i l).trans ?_
    have hw : word (20 * 2 + k) = BitVec.ofNat 32 k := by
      unfold word
      rw [show (20 * 2 + k) % 20 = k by omega]
    rw [hw, first_keep k (by omega) _ (fun h => by subst h; show Ideal.ofBits .f32 0#32 = 0; simp)]
    refine congrArg₂ (· + ·) rfl (Finset.sum_congr rfl fun g _ => ?_)
    rw [colblk3 V k (by omega) r i _ (by omega), tgb3_apply, blk1_0_whole,
      mask_eq _ k _ (lt_of_le_of_lt (clip_le _ _ _ (by decide)) (by decide)) (by omega) (by omega)]

/-- Over the lanes, cluster 1's exponentials less the padding's are the row's sum of exponentials. -/
theorem sumS1 (s : S256x16000.Idx → EReal)
    (hs : ∀ p (n : Fin 16384), (V main_v6 : S256x16384.Idx → EReal) (ix2 p n) = (if h : n.val < 16000 then s (ix2 p ⟨n.val, h⟩) else 0 : EReal))
    (r : Fin 32) (i : Fin 256) :
    ∑ l : Fin 128, (pl (accAll (newS V)) 0 r : S1x256x128.Idx → EReal) (ix3 0 i l) - ((384 : ℝ) : EReal)
      = ∑ n ∈ Finset.range 16000, Ideal.exp (col (prow1 V r i) s n) := by
  rw [pl_accAll]
  simp only [show lim 0 = 8 from rfl, accS1 V r i _ 8 le_rfl]
  rw [sum_lanes (fun n => Ideal.exp (col (prow1 V r i) (V main_v6 : S256x16384.Idx → EReal) n)) 8]
  simp only [col_pad (prow1 V r i) s (V main_v6 : S256x16384.Idx → EReal) (by omega) hs]
  exact sum_pad (fun n => col (prow1 V r i) s n) 16000 384 fun n hn => by unfold col; rw [dif_neg (by omega)]

/-- Over the lanes, cluster 1's gathered values are the target's column. -/
theorem sumT1 (s : S256x16000.Idx → EReal)
    (hs : ∀ p (n : Fin 16384), (V main_v6 : S256x16384.Idx → EReal) (ix2 p n) = (if h : n.val < 16000 then s (ix2 p ⟨n.val, h⟩) else 0 : EReal))
    (r : Fin 32) (i : Fin 256) :
    ∑ l : Fin 128, (pl (accAll (newT V)) 0 r : S1x256x128.Idx → EReal) (ix3 0 i l)
      = col (prow1 V r i) s (clip 4000#32 15999#32 ((V main_v11 : S32x256.Idx → BitVec 32) (ix2 r i))).toNat := by
  have hc := clip_le 4000#32 15999#32 ((V main_v11 : S32x256.Idx → BitVec 32) (ix2 r i)) (by decide)
  have hc' : (clip 4000#32 15999#32 ((V main_v11 : S32x256.Idx → BitVec 32) (ix2 r i))).toNat ≤ 15999 := hc
  rw [pl_accAll]
  simp only [show lim 0 = 8 from rfl, accT1 V r i _ 8 le_rfl]
  rw [sum_lanes (fun n => Scalar.select (hit (clip 4000#32 15999#32 ((V main_v11 : S32x256.Idx → BitVec 32) (ix2 r i))).toNat n)
    (col (prow1 V r i) (V main_v6 : S256x16384.Idx → EReal) n) (0 : EReal)) 8]
  simp only [col_pad (prow1 V r i) s (V main_v6 : S256x16384.Idx → EReal) (by omega) hs]
  exact sum_pick (fun n => col (prow1 V r i) s n) _ _ (by omega) _ fun n _ => by unfold hit; split <;> simp_all

/-- Over the lanes, cluster 2's exponentials less the padding's are the row's sum of exponentials. -/
theorem sumS2 (s : S64x40000.Idx → EReal)
    (hs : ∀ p (n : Fin 40960), (V main_v8 : S64x40960.Idx → EReal) (ix2 p n) = (if h : n.val < 40000 then s (ix2 p ⟨n.val, h⟩) else 0 : EReal))
    (r : Fin 32) (i : Fin 256) :
    ∑ l : Fin 128, (pl (accAll (newS V)) 1 r : S1x256x128.Idx → EReal) (ix3 0 i l) - ((960 : ℝ) : EReal)
      = ∑ n ∈ Finset.range 40000, Ideal.exp (col (prow2 V r i) s n) := by
  rw [pl_accAll]
  simp only [show lim 1 = 20 from rfl, accS2 V r i _ 20 le_rfl]
  rw [sum_lanes (fun n => Ideal.exp (col (prow2 V r i) (V main_v8 : S64x40960.Idx → EReal) n)) 20]
  simp only [col_pad (prow2 V r i) s (V main_v8 : S64x40960.Idx → EReal) (by omega) hs]
  exact sum_pad (fun n => col (prow2 V r i) s n) 40000 960 fun n hn => by unfold col; rw [dif_neg (by omega)]

/-- Over the lanes, cluster 2's gathered values are the target's column. -/
theorem sumT2 (s : S64x40000.Idx → EReal)
    (hs : ∀ p (n : Fin 40960), (V main_v8 : S64x40960.Idx → EReal) (ix2 p n) = (if h : n.val < 40000 then s (ix2 p ⟨n.val, h⟩) else 0 : EReal))
    (r : Fin 32) (i : Fin 256) :
    ∑ l : Fin 128, (pl (accAll (newT V)) 1 r : S1x256x128.Idx → EReal) (ix3 0 i l)
      = col (prow2 V r i) s (clip 20000#32 39999#32 ((V main_v11 : S32x256.Idx → BitVec 32) (ix2 r i))).toNat := by
  have hc := clip_le 20000#32 39999#32 ((V main_v11 : S32x256.Idx → BitVec 32) (ix2 r i)) (by decide)
  have hc' : (clip 20000#32 39999#32 ((V main_v11 : S32x256.Idx → BitVec 32) (ix2 r i))).toNat ≤ 39999 := hc
  rw [pl_accAll]
  simp only [show lim 1 = 20 from rfl, accT2 V r i _ 20 le_rfl]
  rw [sum_lanes (fun n => Scalar.select (hit (clip 20000#32 39999#32 ((V main_v11 : S32x256.Idx → BitVec 32) (ix2 r i))).toNat n)
    (col (prow2 V r i) (V main_v8 : S64x40960.Idx → EReal) n) (0 : EReal)) 20]
  simp only [col_pad (prow2 V r i) s (V main_v8 : S64x40960.Idx → EReal) (by omega) hs]
  exact sum_pick (fun n => col (prow2 V r i) s n) _ _ (by omega) _ fun n _ => by unfold hit; split <;> simp_all

/-- Over the lanes, cluster 3's exponentials less the padding's are the row's sum of exponentials. -/
theorem sumS3 (s : S16x40000.Idx → EReal)
    (hs : ∀ p (n : Fin 40960), (V main_v10 : S16x40960.Idx → EReal) (ix2 p n) = (if h : n.val < 40000 then s (ix2 p ⟨n.val, h⟩) else 0 : EReal))
    (r : Fin 32) (i : Fin 256) :
    ∑ l : Fin 128, (pl (accAll (newS V)) 2 r : S1x256x128.Idx → EReal) (ix3 0 i l) - ((960 : ℝ) : EReal)
      = ∑ n ∈ Finset.range 40000, Ideal.exp (col (prow3 V r i) s n) := by
  rw [pl_accAll]
  simp only [show lim 2 = 20 from rfl, accS3 V r i _ 20 le_rfl]
  rw [sum_lanes (fun n => Ideal.exp (col (prow3 V r i) (V main_v10 : S16x40960.Idx → EReal) n)) 20]
  simp only [col_pad (prow3 V r i) s (V main_v10 : S16x40960.Idx → EReal) (by omega) hs]
  exact sum_pad (fun n => col (prow3 V r i) s n) 40000 960 fun n hn => by unfold col; rw [dif_neg (by omega)]

/-- Over the lanes, cluster 3's gathered values are the target's column. -/
theorem sumT3 (s : S16x40000.Idx → EReal)
    (hs : ∀ p (n : Fin 40960), (V main_v10 : S16x40960.Idx → EReal) (ix2 p n) = (if h : n.val < 40000 then s (ix2 p ⟨n.val, h⟩) else 0 : EReal))
    (r : Fin 32) (i : Fin 256) :
    ∑ l : Fin 128, (pl (accAll (newT V)) 2 r : S1x256x128.Idx → EReal) (ix3 0 i l)
      = col (prow3 V r i) s (clip 60000#32 39999#32 ((V main_v11 : S32x256.Idx → BitVec 32) (ix2 r i))).toNat := by
  have hc := clip_le 60000#32 39999#32 ((V main_v11 : S32x256.Idx → BitVec 32) (ix2 r i)) (by decide)
  have hc' : (clip 60000#32 39999#32 ((V main_v11 : S32x256.Idx → BitVec 32) (ix2 r i))).toNat ≤ 39999 := hc
  rw [pl_accAll]
  simp only [show lim 2 = 20 from rfl, accT3 V r i _ 20 le_rfl]
  rw [sum_lanes (fun n => Scalar.select (hit (clip 60000#32 39999#32 ((V main_v11 : S32x256.Idx → BitVec 32) (ix2 r i))).toNat n)
    (col (prow3 V r i) (V main_v10 : S16x40960.Idx → EReal) n) (0 : EReal)) 20]
  simp only [col_pad (prow3 V r i) s (V main_v10 : S16x40960.Idx → EReal) (by omega) hs]
  exact sum_pick (fun n => col (prow3 V r i) s n) _ _ (by omega) _ fun n _ => by unfold hit; split <;> simp_all

end Cert.KernelIdeal.Own

end
-- ==== Proof.Value.Loss.lean ====
/-
  THE LAST LOOP ENTRY BY ENTRY, over the extended reals: a row's loss from the head rows and the accumulators, the
  running lane sums, and the scalar stored.
-/
module

public import proofs.«01_k».proof.Proof.Value.Math
public import proofs.«01_k».proof.Proof.Value.Reads

@[expose] public section

set_option maxRecDepth 16384

noncomputable section

namespace Cert.KernelIdeal.Own

open Idealize.ShloMosaic Cert.KernelIdeal Cert.KernelIdeal.Gen Cert.Rows

/-- The arithmetic of a row's loss, from the vectors read. -/
theorem lossPay_apply (tg : Vec Ideal S1x256 .i32) (h0 h1 h2 h3 h4 : Vec Ideal S1x1x256 .f32)
    (s0 t0 s1 t1 s2 t2 : Vec Ideal S1x256x128 .f32) (i : Fin 256) :
    (k1_pay35 (k1_pay31 tg) (k1_pay32 h0) (k1_pay33 tg h0 h1 s0 t0 h2) (k1_pay34 s1) (FloatOps.ofBits FTy.f32 0x44700000#32) t1 h3 s2 t2 h4 : FVec Ideal S256 .f32) (ix1 i)
      = Scalar.select (IntOp.andi (IntOp.cmpi .sge (tg (ix2 0 i)) 60000#32) (IntOp.cmpi .slt (tg (ix2 0 i)) 100000#32))
          ((h4 (ix3 0 0 i) - h0 (ix3 0 0 i) + ∑ l : Fin 128, t2 (ix3 0 i l)) - Ideal.log (∑ l : Fin 128, s2 (ix3 0 i l) - ((960 : ℝ) : EReal)))
          (Scalar.select (IntOp.andi (IntOp.cmpi .sge (tg (ix2 0 i)) 20000#32) (IntOp.cmpi .slt (tg (ix2 0 i)) 60000#32))
            ((h3 (ix3 0 0 i) - h0 (ix3 0 0 i) + ∑ l : Fin 128, t1 (ix3 0 i l)) - Ideal.log (∑ l : Fin 128, s1 (ix3 0 i l) - ((960 : ℝ) : EReal)))
            (Scalar.select (IntOp.andi (IntOp.cmpi .sge (tg (ix2 0 i)) 4000#32) (IntOp.cmpi .slt (tg (ix2 0 i)) 20000#32))
              ((h2 (ix3 0 0 i) - h0 (ix3 0 0 i) + ∑ l : Fin 128, t0 (ix3 0 i l)) - Ideal.log (∑ l : Fin 128, s0 (ix3 0 i l) - ((384 : ℝ) : EReal)))
              (h1 (ix3 0 0 i) - h0 (ix3 0 0 i)))) := by
  rw [← ofBits_960, ← ofBits_384]
  pointwise [k1_pay35, k1_pay34, k1_pay33, k1_pay32, k1_pay31]

/-- A row's loss, from the arrays read. -/
theorem lossRow_apply (X2 : S32x256.Idx → BitVec 32) (X3 : S32x8x256.Idx → EReal) (X9 X10 : Acc Ideal) (k : Fin 32) (i : Fin 256) :
    (lossRow (F := Ideal) X2 X3 X9 X10 k : S256.Idx → EReal) (ix1 i)
      = Scalar.select (IntOp.andi (IntOp.cmpi .sge (X2 (ix2 k i)) 60000#32) (IntOp.cmpi .slt (X2 (ix2 k i)) 100000#32))
          ((X3 (ix3 k 4 i) - X3 (ix3 k 0 i) + ∑ l : Fin 128, (pl X10 2 k : S1x256x128.Idx → EReal) (ix3 0 i l)) - Ideal.log (∑ l : Fin 128, (pl X9 2 k : S1x256x128.Idx → EReal) (ix3 0 i l) - ((960 : ℝ) : EReal)))
          (Scalar.select (IntOp.andi (IntOp.cmpi .sge (X2 (ix2 k i)) 20000#32) (IntOp.cmpi .slt (X2 (ix2 k i)) 60000#32))
            ((X3 (ix3 k 3 i) - X3 (ix3 k 0 i) + ∑ l : Fin 128, (pl X10 1 k : S1x256x128.Idx → EReal) (ix3 0 i l)) - Ideal.log (∑ l : Fin 128, (pl X9 1 k : S1x256x128.Idx → EReal) (ix3 0 i l) - ((960 : ℝ) : EReal)))
            (Scalar.select (IntOp.andi (IntOp.cmpi .sge (X2 (ix2 k i)) 4000#32) (IntOp.cmpi .slt (X2 (ix2 k i)) 20000#32))
              ((X3 (ix3 k 2 i) - X3 (ix3 k 0 i) + ∑ l : Fin 128, (pl X10 0 k : S1x256x128.Idx → EReal) (ix3 0 i l)) - Ideal.log (∑ l : Fin 128, (pl X9 0 k : S1x256x128.Idx → EReal) (ix3 0 i l) - ((384 : ℝ) : EReal)))
              (X3 (ix3 k 1 i) - X3 (ix3 k 0 i)))) := by
  obtain ⟨o10, o11, o12, o14, o16, o18⟩ := off_loss k
  obtain ⟨o13, o15, o17⟩ := off_acc k
  unfold lossRow
  rw [lossPay_apply]
  rw [ld_off X9 o13 (inb13 k) (inbP 0 k), ld_off X10 o13 (inb13 k) (inbP 0 k), ld_off X9 o15 (inb15 k) (inbP 1 k), ld_off X10 o15 (inb15 k) (inbP 1 k),
    ld_off X9 o17 (inb17 k) (inbP 2 k), ld_off X10 o17 (inb17 k) (inbP 2 k)]
  rw [row_tg X2 k _ o10 (inb10 k) i, row_hq X3 k 0 _ o11 (inb11 k) i, row_hq X3 k 1 _ o12 (inb12 k) i, row_hq X3 k 2 _ o14 (inb14 k) i,
    row_hq X3 k 3 _ o16 (inb16 k) i, row_hq X3 k 4 _ o18 (inb18 k) i]
  rfl

/-- What a trip adds to a lane. -/
theorem pay11_lane (acc : FVec Ideal S128 .f32) (v : FVec Ideal S256 .f32) (l : Fin 128) :
    (k1_pay11 acc v : FVec Ideal S128 .f32) (ix1 l) = acc (ix1 l) + (v (ix1 ⟨l.val, by omega⟩) + v (ix1 ⟨128 + l.val, by omega⟩)) := by
  pointwise [k1_pay11]
  rw [Fin.sum_univ_two]
  simp only [Fin.val_zero, Fin.val_one, zero_mul, one_mul, zero_add]

/-- The lane sums after `k` trips. -/
theorem lossAcc_apply (X2 : S32x256.Idx → BitVec 32) (X3 : S32x8x256.Idx → EReal) (X9 X10 : Acc Ideal) (f : ℕ → EReal)
    (hf : ∀ (k : Fin 32) (i : Fin 256), (lossRow (F := Ideal) X2 X3 X9 X10 k : S256.Idx → EReal) (ix1 i) = f (256 * k.val + i.val)) (l : Fin 128) :
    ∀ k, k ≤ 32 → (lossAcc (F := Ideal) X2 X3 X9 X10 k : S128.Idx → EReal) (ix1 l)
      = ∑ q ∈ Finset.range k, (f (256 * q + l.val) + f (256 * q + (128 + l.val)))
  | 0, _ => by
    show Ideal.ofBits .f32 0#32 = _
    simp
  | k + 1, hk => by
    rw [Finset.sum_range_succ, ← lossAcc_apply X2 X3 X9 X10 f hf l k (by omega)]
    have h : k < k1_t4_loop.trips := lt_of_lt_of_eq (show k < 32 by omega) (by decide +kernel)
    show (if h : k < k1_t4_loop.trips then k1_pay11 (lossAcc (F := Ideal) X2 X3 X9 X10 k) (lossRow X2 X3 X9 X10 ⟨k, h⟩) else lossAcc X2 X3 X9 X10 k : FVec Ideal S128 .f32) (ix1 l) = _
    rw [dif_pos h, pay11_lane]
    congr 2
    · exact hf ⟨k, by omega⟩ ⟨l.val, by omega⟩
    · exact hf ⟨k, by omega⟩ ⟨128 + l.val, by omega⟩

/-- Rows in 32 blocks of two runs of 128 lanes. -/
theorem sum_rows (f : ℕ → EReal) :
    ∑ l : Fin 128, ∑ q ∈ Finset.range 32, (f (256 * q + l.val) + f (256 * q + (128 + l.val))) = ∑ n ∈ Finset.range 8192, f n := by
  rw [Finset.sum_comm, show (8192 : ℕ) = 32 * 256 from rfl, sum_runs]
  refine Finset.sum_congr rfl fun q _ => ?_
  rw [Finset.sum_add_distrib, Fin.sum_univ_eq_sum_range (fun l => f (256 * q + l)) 128,
    Fin.sum_univ_eq_sum_range (fun l => f (256 * q + (128 + l))) 128, show (256 : ℕ) = 128 + 128 from rfl, Finset.sum_range_add]
  simp only [Nat.mul_comm q]

/-- The scalar stored: minus the mean of the lanes' sums. -/
theorem pay12_apply (v : FVec Ideal S128 .f32) (l : Fin 128) :
    (k1_pay12 v : FVec Ideal S1x128 .f32) (ix2 0 l) = -(Ideal.div (∑ l : Fin 128, v (ix1 l)) ((8192 : ℝ) : EReal)) := by
  rw [← mean_neg, ← ofBits_neg_inv]
  pointwise [k1_pay12]

end Cert.KernelIdeal.Own

end
-- ==== Proof.Value.Host.lean ====
/-
  WHAT THE HOST PREPARES BEFORE THE FIRST REGION, entry by entry over the extended reals: the weights padded with zero
  columns, the projections and inputs unchanged, the targets in rows of 256.
-/
module

public import proofs.«01_k».proof.Proof.RunI.Launch
public import Idealize.ShloMosaic.Lib.Pointwise
public import Idealize.ShloMosaic.Lib.KernelVsHost

@[expose] public section

set_option maxRecDepth 16384

noncomputable section

namespace Cert.KernelIdeal.Own

open Idealize.ShloMosaic Cert.KernelIdeal Cert.KernelIdeal.Gen
open Idealize.ShloMosaic.StableHlo Idealize.ShloMosaic.TcCoe Idealize.ShloMosaic.Tactic

variable (m : (ℓ : Loc nD τ sig) → Buf (Elt Ideal) ℓ) (c : Dev nD)

/-- The inputs are the launch's. -/
theorem V9_arg0 : V9 m c main_arg0 = m ((c.tc : Thread nD τ).loc main_arg0) := by
  rw [V9_of m c main_arg0 (by decide), V8_of m c main_arg0 (by decide), V7_of m c main_arg0 (by decide), V6_of m c main_arg0 (by decide), V5_of m c main_arg0 (by decide), V4_of m c main_arg0 (by decide), V3_of m c main_arg0 (by decide), V2_of m c main_arg0 (by decide), V1_of m c main_arg0 (by decide)]

/-- A projection is the launch's. -/
theorem V9_v2 : V9 m c main_v2 = (truncf .bf16 (m ((c.tc : Thread nD τ).loc main_arg3) : FVec Ideal S1024x256 .f32) bitsLt_bf16_f32 : FVec Ideal S1024x256 .bf16) := by
  rw [V9_of m c main_v2 (by decide), V8_of m c main_v2 (by decide), V7_of m c main_v2 (by decide), V6_of m c main_v2 (by decide), V5_of m c main_v2 (by decide), V4_of m c main_v2 (by decide)]
  after_results_simp

/-- A projection is the launch's. -/
theorem V9_v3 : V9 m c main_v3 = (truncf .bf16 (m ((c.tc : Thread nD τ).loc main_arg5) : FVec Ideal S1024x64 .f32) bitsLt_bf16_f32 : FVec Ideal S1024x64 .bf16) := by
  rw [V9_of m c main_v3 (by decide), V8_of m c main_v3 (by decide), V7_of m c main_v3 (by decide), V6_of m c main_v3 (by decide), V5_of m c main_v3 (by decide), V4_of m c main_v3 (by decide)]
  after_results_simp

/-- A projection is the launch's. -/
theorem V9_v4 : V9 m c main_v4 = (truncf .bf16 (m ((c.tc : Thread nD τ).loc main_arg7) : FVec Ideal S1024x16 .f32) bitsLt_bf16_f32 : FVec Ideal S1024x16 .bf16) := by
  rw [V9_of m c main_v4 (by decide), V8_of m c main_v4 (by decide), V7_of m c main_v4 (by decide), V6_of m c main_v4 (by decide), V5_of m c main_v4 (by decide), V4_of m c main_v4 (by decide)]
  after_results_simp

/-- A weight is the launch's, 93 columns added. -/
theorem V9_v1 : V9 m c main_v1 = (truncf .bf16 (pad S1024x4096 ![0, 0] ![0, 93] ![0, 0] (m ((c.tc : Thread nD τ).loc main_arg2) : FVec Ideal S1024x4003 .f32) (sitofp .f32 (constantI S_ 32 0#32)) pads_S1024x4003_S1024x4096_000_0930 h_S_ : FVec Ideal S1024x4096 .f32) bitsLt_bf16_f32 : FVec Ideal S1024x4096 .bf16) := by
  rw [V9_of m c main_v1 (by decide), V8_of m c main_v1 (by decide), V7_of m c main_v1 (by decide), V6_of m c main_v1 (by decide), V5_of m c main_v1 (by decide), V4_of m c main_v1 (by decide)]
  after_results_simp
  simp only [TRef.toBuf, TRef.ofBuf, cast_eq]
  try rfl

/-- A weight is the launch's, 384 columns added. -/
theorem V9_v6 : V9 m c main_v6 = (truncf .bf16 (pad S256x16384 ![0, 0] ![0, 384] ![0, 0] (m ((c.tc : Thread nD τ).loc main_arg4) : FVec Ideal S256x16000 .f32) (sitofp .f32 (constantI S_ 32 0#32)) pads_S256x16000_S256x16384_000_03840 h_S_ : FVec Ideal S256x16384 .f32) bitsLt_bf16_f32 : FVec Ideal S256x16384 .bf16) := by
  rw [V9_of m c main_v6 (by decide), V8_of m c main_v6 (by decide), V7_of m c main_v6 (by decide), V6_of m c main_v6 (by decide)]
  after_results_simp
  simp only [TRef.toBuf, TRef.ofBuf, cast_eq]
  try rfl

/-- A weight is the launch's, 960 columns added. -/
theorem V9_v8 : V9 m c main_v8 = (truncf .bf16 (pad S64x40960 ![0, 0] ![0, 960] ![0, 0] (m ((c.tc : Thread nD τ).loc main_arg6) : FVec Ideal S64x40000 .f32) (sitofp .f32 (constantI S_ 32 0#32)) pads_S64x40000_S64x40960_000_09600 h_S_ : FVec Ideal S64x40960 .f32) bitsLt_bf16_f32 : FVec Ideal S64x40960 .bf16) := by
  rw [V9_of m c main_v8 (by decide), V8_of m c main_v8 (by decide)]
  after_results_simp
  simp only [TRef.toBuf, TRef.ofBuf, cast_eq]
  try rfl

/-- A weight is the launch's, 960 columns added. -/
theorem V9_v10 : V9 m c main_v10 = (truncf .bf16 (pad S16x40960 ![0, 0] ![0, 960] ![0, 0] (m ((c.tc : Thread nD τ).loc main_arg8) : FVec Ideal S16x40000 .f32) (sitofp .f32 (constantI S_ 32 0#32)) pads_S16x40000_S16x40960_000_09600 h_S_ : FVec Ideal S16x40960 .f32) bitsLt_bf16_f32 : FVec Ideal S16x40960 .bf16) := by
  after_results_simp
  simp only [TRef.toBuf, TRef.ofBuf, cast_eq]
  try rfl

/-- The targets in rows of 256. -/
theorem V9_v11 : V9 m c main_v11 = (shapeCast S32x256 (m ((c.tc : Thread nD τ).loc main_arg1) : IVec S8192 32) shapeCasts_S8192_S32x256 : IVec S32x256 32) := by
  after_results_simp
  try rfl

/-- The targets in rows of 256, a block to a row. -/
theorem V9_v12 : V9 m c main_v12 = (shapeCast S32x1x256 (shapeCast S32x256 (m ((c.tc : Thread nD τ).loc main_arg1) : IVec S8192 32) shapeCasts_S8192_S32x256 : IVec S32x256 32) shapeCasts_S32x256_S32x1x256 : IVec S32x1x256 32) := by
  after_results_simp
  try rfl

/-- Columns padded on the right with zeros: the operand's entry inside, zero outside. -/
theorem pad_cols {A K P N : ℕ} (x : (⟨2, ![A, K]⟩ : Shape).Idx → EReal) {u : Shape} (v : u.Idx → EReal) (hv : ∀ y, v y = 0)
    (h : Shape.Pads ⟨2, ![A, K]⟩ ![0, 0] ![0, P] ![0, 0] ⟨2, ![A, N]⟩) (hu : 0 < u.numel) (k : Fin A) (n : Fin N) :
    pad ⟨2, ![A, N]⟩ ![0, 0] ![0, P] ![0, 0] x v h hu (ix2 k n) = if hc : n.val < K then x (ix2 k ⟨n.val, hc⟩) else 0 := by
  by_cases hc : n.val < K
  · rw [dif_pos hc]
    refine pad_apply_of_inside _ _ _ x v h hu _ (ix2 k ⟨n.val, hc⟩) fun a => ?_
    fin_cases a
    · show k.val = 0 + k.val * (0 + 1)
      omega
    · show n.val = 0 + n.val * (0 + 1)
      omega
  · rw [dif_neg hc, pad_apply_of_not_inside _ _ _ x v h hu _ (1 : Fin 2), hv]
    rintro ⟨-, -, h3⟩
    refine hc ?_
    have : (n.val - 0) / (0 + 1) < K := h3
    simpa using this

/-- The padding value is zero. -/
theorem pad_zero (y : S_.Idx) : (sitofp .f32 (constantI S_ 32 0#32) : FVec Ideal S_ .f32) y = 0 := by
  show (((0#32 : BitVec 32).toInt : ℝ) : EReal) = 0
  simp

/-- A padded weight, entry by entry. -/
theorem V9_v1_apply (k : Fin 1024) (n : Fin 4096) : (V9 m c main_v1 : S1024x4096.Idx → EReal) (ix2 k n)
    = (if hc : n.val < 4003 then (m ((c.tc : Thread nD τ).loc main_arg2) : S1024x4003.Idx → EReal) (ix2 k ⟨n.val, hc⟩) else 0 : EReal) := by
  rw [V9_v1]
  exact pad_cols (P := 93) (m ((c.tc : Thread nD τ).loc main_arg2) : S1024x4003.Idx → EReal) _ pad_zero pads_S1024x4003_S1024x4096_000_0930 h_S_ k n

/-- A padded weight, entry by entry. -/
theorem V9_v6_apply (k : Fin 256) (n : Fin 16384) : (V9 m c main_v6 : S256x16384.Idx → EReal) (ix2 k n)
    = (if hc : n.val < 16000 then (m ((c.tc : Thread nD τ).loc main_arg4) : S256x16000.Idx → EReal) (ix2 k ⟨n.val, hc⟩) else 0 : EReal) := by
  rw [V9_v6]
  exact pad_cols (P := 384) (m ((c.tc : Thread nD τ).loc main_arg4) : S256x16000.Idx → EReal) _ pad_zero pads_S256x16000_S256x16384_000_03840 h_S_ k n

/-- A padded weight, entry by entry. -/
theorem V9_v8_apply (k : Fin 64) (n : Fin 40960) : (V9 m c main_v8 : S64x40960.Idx → EReal) (ix2 k n)
    = (if hc : n.val < 40000 then (m ((c.tc : Thread nD τ).loc main_arg6) : S64x40000.Idx → EReal) (ix2 k ⟨n.val, hc⟩) else 0 : EReal) := by
  rw [V9_v8]
  exact pad_cols (P := 960) (m ((c.tc : Thread nD τ).loc main_arg6) : S64x40000.Idx → EReal) _ pad_zero pads_S64x40000_S64x40960_000_09600 h_S_ k n

/-- A padded weight, entry by entry. -/
theorem V9_v10_apply (k : Fin 16) (n : Fin 40960) : (V9 m c main_v10 : S16x40960.Idx → EReal) (ix2 k n)
    = (if hc : n.val < 40000 then (m ((c.tc : Thread nD τ).loc main_arg8) : S16x40000.Idx → EReal) (ix2 k ⟨n.val, hc⟩) else 0 : EReal) := by
  rw [V9_v10]
  exact pad_cols (P := 960) (m ((c.tc : Thread nD τ).loc main_arg8) : S16x40000.Idx → EReal) _ pad_zero pads_S16x40000_S16x40960_000_09600 h_S_ k n

/-- A projection, entry by entry. -/
theorem V9_v2_apply (y : S1024x256.Idx) : (V9 m c main_v2 : S1024x256.Idx → EReal) y = (m ((c.tc : Thread nD τ).loc main_arg3) : S1024x256.Idx → EReal) y := by
  rw [V9_v2]
  rfl

/-- A projection, entry by entry. -/
theorem V9_v3_apply (y : S1024x64.Idx) : (V9 m c main_v3 : S1024x64.Idx → EReal) y = (m ((c.tc : Thread nD τ).loc main_arg5) : S1024x64.Idx → EReal) y := by
  rw [V9_v3]
  rfl

/-- A projection, entry by entry. -/
theorem V9_v4_apply (y : S1024x16.Idx) : (V9 m c main_v4 : S1024x16.Idx → EReal) y = (m ((c.tc : Thread nD τ).loc main_arg7) : S1024x16.Idx → EReal) y := by
  rw [V9_v4]
  rfl

/-- The targets of row block `r`. -/
theorem V9_v11_apply (r : Fin 32) (i : Fin 256) : (V9 m c main_v11 : S32x256.Idx → BitVec 32) (ix2 r i)
    = (m ((c.tc : Thread nD τ).loc main_arg1) : S8192.Idx → BitVec 32) (ix1 ⟨256 * r.val + i.val, by omega⟩) := by
  rw [V9_v11]
  refine shapeCast_apply _ _ _ _ ?_
  show (S8192.rowMajor (ix1 (⟨256 * r.val + i.val, _⟩ : Fin 8192))).val = _
  rw [Shape.rowMajor_val_one, Shape.rowMajor_val_two]
  show 256 * r.val + i.val = r.val * 256 + i.val
  omega

/-- The targets of row block `r`, as the first region is given them. -/
theorem V9_v12_apply (r : Fin 32) (i : Fin 256) : (V9 m c main_v12 : S32x1x256.Idx → BitVec 32) (ix3 r 0 i)
    = (m ((c.tc : Thread nD τ).loc main_arg1) : S8192.Idx → BitVec 32) (ix1 ⟨256 * r.val + i.val, by omega⟩) := by
  rw [V9_v12, ← V9_v11_apply m c r i, V9_v11]
  refine shapeCast_apply _ _ _ _ ?_
  rw [Shape.rowMajor_val_two, Shape.rowMajor_val_three]
  show r.val * 256 + i.val = (r.val * 1 + 0) * 256 + i.val
  omega

end Cert.KernelIdeal.Own
-- ==== Proof.Value.Final.lean ====
/-
  THE KERNEL'S RESULT, over the extended reals: what the two regions leave is minus the mean over the 8192 rows of the
  log-probability of the row's target.
-/
module

public import proofs.«01_k».proof.Proof.Value.Acc
public import proofs.«01_k».proof.Proof.Value.Loss
public import proofs.«01_k».proof.Proof.Value.Host

@[expose] public section

set_option maxRecDepth 16384

noncomputable section

namespace Cert.KernelIdeal.Own

open Idealize.ShloMosaic Cert.KernelIdeal Cert.KernelIdeal.Gen Cert.Rows
open Idealize.ShloMosaic.StableHlo Idealize.ShloMosaic.TcCoe Idealize.ShloMosaic.Tactic

/-! ## The head block's rows -/

/-- A stored row does not touch another row. -/
theorem canon_skip (a : ℕ) (inb : ∀ x, (![0, a, 0] : Fin 3 → ℕ) x + S1x1x256.size x ≤ S1x8x256.size x) (w : S1x1x256.Idx → Elt Ideal .f32)
    (L : List (View.Piece (Elt Ideal) S1x8x256 .f32)) (j : Fin 8) (i : Fin 256) (h : j.val ≠ a) :
    View.canon ((⟨Rect.unit (s := S1x8x256) ![0, a, 0] S1x1x256.size inb, w⟩ : View.Piece (Elt Ideal) S1x8x256 .f32) :: L) (ix3 0 j i) = View.canon L (ix3 0 j i) := by
  refine View.canon_cons_of_not_mem _ L ?_
  intro hm
  have h1 : a ≤ j.val ∧ j.val < a + 1 := (Rect.mem_set_unit (inb := inb)).mp hm (1 : Fin 3)
  omega

/-- The last stored row is its payload. -/
theorem canon_take (a : ℕ) (inb : ∀ x, (![0, a, 0] : Fin 3 → ℕ) x + S1x1x256.size x ≤ S1x8x256.size x) (w : S1x1x256.Idx → Elt Ideal .f32)
    (L : List (View.Piece (Elt Ideal) S1x8x256 .f32)) (j : Fin 8) (i : Fin 256) (h : j.val = a) :
    View.canon ((⟨Rect.unit (s := S1x8x256) ![0, a, 0] S1x1x256.size inb, w⟩ : View.Piece (Elt Ideal) S1x8x256 .f32) :: L) (ix3 0 j i) = w (ix3 0 0 i) := by
  have he : (Rect.unit (s := S1x8x256) ![0, a, 0] S1x1x256.size inb).emb (ix3 (0 : Fin 1) (0 : Fin 1) i) = ix3 (0 : Fin 1) j i := by
    funext x; apply Fin.ext
    fin_cases x
    · exact (show 0 + 1 * 0 = 0 by omega)
    · exact (show a + 1 * 0 = j.val by omega)
    · exact (show 0 + 1 * i.val = i.val by omega)
  rw [← he]
  exact View.canon_cons_emb (Rect.unit (s := S1x8x256) ![0, a, 0] S1x1x256.size inb) w L (ix3 (0 : Fin 1) (0 : Fin 1) i)

/-- Row 0 of the head block. -/
theorem hq_row0 (x : Vec Ideal S256x1024 .f32) (w : Vec Ideal S1024x4096 .bf16) (tg : Vec Ideal S1x1x256 .i32) (i : Fin 256) :
    (hqOf x w tg : S1x8x256.Idx → EReal) (ix3 0 0 i) = (k0_pay6 x w : S1x1x256.Idx → EReal) (ix3 0 0 i) := by
  unfold hqOf hqPieces
  rw [canon_skip 7 _ _ _ 0 i (by decide), canon_skip 6 _ _ _ 0 i (by decide), canon_skip 5 _ _ _ 0 i (by decide), canon_skip 4 _ _ _ 0 i (by decide), canon_skip 3 _ _ _ 0 i (by decide), canon_skip 2 _ _ _ 0 i (by decide), canon_skip 1 _ _ _ 0 i (by decide)]
  exact canon_take 0 _ _ _ 0 i rfl

/-- Row 1 of the head block. -/
theorem hq_row1 (x : Vec Ideal S256x1024 .f32) (w : Vec Ideal S1024x4096 .bf16) (tg : Vec Ideal S1x1x256 .i32) (i : Fin 256) :
    (hqOf x w tg : S1x8x256.Idx → EReal) (ix3 0 1 i) = (k0_pay7 x w tg : S1x1x256.Idx → EReal) (ix3 0 0 i) := by
  unfold hqOf hqPieces
  rw [canon_skip 7 _ _ _ 1 i (by decide), canon_skip 6 _ _ _ 1 i (by decide), canon_skip 5 _ _ _ 1 i (by decide), canon_skip 4 _ _ _ 1 i (by decide), canon_skip 3 _ _ _ 1 i (by decide), canon_skip 2 _ _ _ 1 i (by decide)]
  exact canon_take 1 _ _ _ 1 i rfl

/-- Row 2 of the head block. -/
theorem hq_row2 (x : Vec Ideal S256x1024 .f32) (w : Vec Ideal S1024x4096 .bf16) (tg : Vec Ideal S1x1x256 .i32) (i : Fin 256) :
    (hqOf x w tg : S1x8x256.Idx → EReal) (ix3 0 2 i) = (k0_pay9 (k0_pay8 x w) : S1x1x256.Idx → EReal) (ix3 0 0 i) := by
  unfold hqOf hqPieces
  rw [canon_skip 7 _ _ _ 2 i (by decide), canon_skip 6 _ _ _ 2 i (by decide), canon_skip 5 _ _ _ 2 i (by decide), canon_skip 4 _ _ _ 2 i (by decide), canon_skip 3 _ _ _ 2 i (by decide)]
  exact canon_take 2 _ _ _ 2 i rfl

/-- Row 3 of the head block. -/
theorem hq_row3 (x : Vec Ideal S256x1024 .f32) (w : Vec Ideal S1024x4096 .bf16) (tg : Vec Ideal S1x1x256 .i32) (i : Fin 256) :
    (hqOf x w tg : S1x8x256.Idx → EReal) (ix3 0 3 i) = (k0_pay10 (k0_pay5 x w) : S1x1x256.Idx → EReal) (ix3 0 0 i) := by
  unfold hqOf hqPieces
  rw [canon_skip 7 _ _ _ 3 i (by decide), canon_skip 6 _ _ _ 3 i (by decide), canon_skip 5 _ _ _ 3 i (by decide), canon_skip 4 _ _ _ 3 i (by decide)]
  exact canon_take 3 _ _ _ 3 i rfl

/-- Row 4 of the head block. -/
theorem hq_row4 (x : Vec Ideal S256x1024 .f32) (w : Vec Ideal S1024x4096 .bf16) (tg : Vec Ideal S1x1x256 .i32) (i : Fin 256) :
    (hqOf x w tg : S1x8x256.Idx → EReal) (ix3 0 4 i) = (k0_pay11 (k0_pay5 x w) : S1x1x256.Idx → EReal) (ix3 0 0 i) := by
  unfold hqOf hqPieces
  rw [canon_skip 7 _ _ _ 4 i (by decide), canon_skip 6 _ _ _ 4 i (by decide), canon_skip 5 _ _ _ 4 i (by decide)]
  exact canon_take 4 _ _ _ 4 i rfl

/-! ## What region 0 leaves -/

section

variable {c : Dev nD} (V : Vals (F := Ideal) c) (G6 : Buf (Elt Ideal) ((c : Thread nD τ).loc main_v13_0)) (G7 : Buf (Elt Ideal) ((c : Thread nD τ).loc main_v13_1))

/-- Row `i` of the inputs' row block `r`. -/
abbrev xrow (r : Fin 32) (i : Fin 256) : Fin 1024 → EReal := fun k =>
  (V main_arg0 : S8192x1024.Idx → EReal) (ix2 ⟨256 * r.val + i.val, by omega⟩ k)

/-- The projected columns of cluster 1 that region 0 leaves. -/
theorem left_proj1 (hG : Left0 V G6 G7) (r : Fin 32) (i : Fin 256) (p : Fin 256) :
    (G6 : S8192x512.Idx → EReal) (ix2 ⟨256 * r.val + i.val, by omega⟩ ⟨0 + p.val, by omega⟩)
      = ∑ k, xrow V r i k * (V main_v2 : S1024x256.Idx → EReal) (ix2 k p) := by
  have h := congrFun (hG (rowPt r)).1.1 (ix2 i p)
  rw [proj1_apply] at h
  simp only [blk0_0_apply, blk0_2_whole] at h
  rw [← h, ← blk0_6_apply G6 r i ⟨0 + p.val, by omega⟩]
  refine congrArg _ ?_
  funext a; apply Fin.ext
  fin_cases a
  · exact (show i.val = 0 + 1 * i.val by omega)
  · exact (show 0 + p.val = 0 + 1 * p.val by omega)

/-- The projected columns of cluster 2 that region 0 leaves. -/
theorem left_proj2 (hG : Left0 V G6 G7) (r : Fin 32) (i : Fin 256) (p : Fin 64) :
    (G6 : S8192x512.Idx → EReal) (ix2 ⟨256 * r.val + i.val, by omega⟩ ⟨256 + p.val, by omega⟩)
      = ∑ k, xrow V r i k * (V main_v3 : S1024x64.Idx → EReal) (ix2 k p) := by
  have h := congrFun (hG (rowPt r)).1.2.1 (ix2 i p)
  rw [proj2_apply] at h
  simp only [blk0_0_apply, blk0_3_whole] at h
  rw [← h, ← blk0_6_apply G6 r i ⟨256 + p.val, by omega⟩]
  refine congrArg _ ?_
  funext a; apply Fin.ext
  fin_cases a
  · exact (show i.val = 0 + 1 * i.val by omega)
  · exact (show 256 + p.val = 256 + 1 * p.val by omega)

/-- The projected columns of cluster 3 that region 0 leaves. -/
theorem left_proj3 (hG : Left0 V G6 G7) (r : Fin 32) (i : Fin 256) (p : Fin 16) :
    (G6 : S8192x512.Idx → EReal) (ix2 ⟨256 * r.val + i.val, by omega⟩ ⟨384 + p.val, by omega⟩)
      = ∑ k, xrow V r i k * (V main_v4 : S1024x16.Idx → EReal) (ix2 k p) := by
  have h := congrFun (hG (rowPt r)).1.2.2 (ix2 i p)
  rw [proj3_apply] at h
  simp only [blk0_0_apply, blk0_4_whole] at h
  rw [← h, ← blk0_6_apply G6 r i ⟨384 + p.val, by omega⟩]
  refine congrArg _ ?_
  funext a; apply Fin.ext
  fin_cases a
  · exact (show i.val = 0 + 1 * i.val by omega)
  · exact (show 384 + p.val = 384 + 1 * p.val by omega)

/-- Row 0 of the head block that region 0 leaves. -/
theorem left_head0 (hG : Left0 V G6 G7) (r : Fin 32) (i : Fin 256) :
    (G7 : S32x8x256.Idx → EReal) (ix3 r 0 i) = Ideal.log (∑ n ∈ Finset.range 4096, Ideal.exp (col (xrow V r i) (V main_v1 : S1024x4096.Idx → EReal) n) - ((93 : ℝ) : EReal)) := by
  have h := congrFun (hG (rowPt r)).2 (ix3 0 0 i)
  rw [hq_row0, pay6_apply] at h
  simp only [blk0_0_apply, blk0_1_whole, blk0_5_apply] at h
  rw [← h]
  exact (blk0_7_apply G7 r 0 i).symm

/-- Row 1 of the head block that region 0 leaves. -/
theorem left_head1 (hG : Left0 V G6 G7) (r : Fin 32) (i : Fin 256) :
    (G7 : S32x8x256.Idx → EReal) (ix3 r 1 i) = ∑ n ∈ Finset.range 4096, Scalar.select
          (IntOp.cmpi .eq (BitVec.ofNat 32 n) (IntOp.minsi 3999#32 (IntOp.maxsi 0#32 ((V main_v12 : S32x1x256.Idx → BitVec 32) (ix3 r 0 i)))))
          (col (xrow V r i) (V main_v1 : S1024x4096.Idx → EReal) n) 0 := by
  have h := congrFun (hG (rowPt r)).2 (ix3 0 1 i)
  rw [hq_row1, pay7_apply] at h
  simp only [blk0_0_apply, blk0_1_whole, blk0_5_apply] at h
  rw [← h]
  exact (blk0_7_apply G7 r 1 i).symm

/-- Row 2 of the head block that region 0 leaves. -/
theorem left_head2 (hG : Left0 V G6 G7) (r : Fin 32) (i : Fin 256) :
    (G7 : S32x8x256.Idx → EReal) (ix3 r 2 i) = col (xrow V r i) (V main_v1 : S1024x4096.Idx → EReal) 4000 := by
  have h := congrFun (hG (rowPt r)).2 (ix3 0 2 i)
  rw [hq_row2, pay9_apply] at h
  simp only [blk0_0_apply, blk0_1_whole, blk0_5_apply] at h
  rw [← h]
  exact (blk0_7_apply G7 r 2 i).symm

/-- Row 3 of the head block that region 0 leaves. -/
theorem left_head3 (hG : Left0 V G6 G7) (r : Fin 32) (i : Fin 256) :
    (G7 : S32x8x256.Idx → EReal) (ix3 r 3 i) = col (xrow V r i) (V main_v1 : S1024x4096.Idx → EReal) 4001 := by
  have h := congrFun (hG (rowPt r)).2 (ix3 0 3 i)
  rw [hq_row3, pay10_apply] at h
  simp only [blk0_0_apply, blk0_1_whole, blk0_5_apply] at h
  rw [← h]
  exact (blk0_7_apply G7 r 3 i).symm

/-- Row 4 of the head block that region 0 leaves. -/
theorem left_head4 (hG : Left0 V G6 G7) (r : Fin 32) (i : Fin 256) :
    (G7 : S32x8x256.Idx → EReal) (ix3 r 4 i) = col (xrow V r i) (V main_v1 : S1024x4096.Idx → EReal) 4002 := by
  have h := congrFun (hG (rowPt r)).2 (ix3 0 4 i)
  rw [hq_row4, pay11_apply] at h
  simp only [blk0_0_apply, blk0_1_whole, blk0_5_apply] at h
  rw [← h]
  exact (blk0_7_apply G7 r 4 i).symm

end

/-- The program's result is the first lane of the row region 1 leaves. -/
theorem tail_value (W : Valuation τ sig (Elt Ideal)) (i : S_.Idx) :
    (StableHlo.after hostOps2 W main_v16 : S_.Idx → EReal) i = (W main_v14 : S1x128.Idx → EReal) (ix2 0 0) := by
  have h : StableHlo.after hostOps2 W main_v16
      = (shapeCast S_ (extractStridedSlice S1x1 ![0, 0] (W main_v14 : FVec Ideal S1x128 .f32) slices_S1x128_S1x1_0_0) shapeCasts_S1x1_S_ : FVec Ideal S_ .f32) := by
    after_results_simp
    rfl
  rw [h]
  generalize (W main_v14 : FVec Ideal S1x128 .f32) = v
  pointwise

/-! ## The kernel's row -/

variable (m : (ℓ : Loc nD τ sig) → Buf (Elt Ideal) ℓ) (c : Dev nD)
  (G6 : Buf (Elt Ideal) ((c : Thread nD τ).loc main_v13_0)) (G7 : Buf (Elt Ideal) ((c : Thread nD τ).loc main_v13_1))

/-- The buffers region 0 does not write are as the host left them. -/
theorem W10_other (b : Ref sig .tc) (h6 : b ≠ main_v13_0) (h7 : b ≠ main_v13_1) :
    asVals c (W10 (V9 m c) G6 G7) b = V9 m c b := by
  show W10 (V9 m c) G6 G7 b = V9 m c b
  rw [W10, Function.update_of_ne (fun h => h7 (Proc.devRef_injective _ h)), Function.update_of_ne (fun h => h6 (Proc.devRef_injective _ h))]

/-- After the first call, its first result buffer holds the contents `G6`. -/
theorem W10_G6 : asVals c (W10 (V9 m c) G6 G7) main_v13_0 = G6 := by
  show W10 (V9 m c) G6 G7 main_v13_0 = G6
  rw [W10, Function.update_of_ne (by decide), Function.update_self]

/-- After the first call, its second result buffer holds the contents `G7`. -/
theorem W10_G7 : asVals c (W10 (V9 m c) G6 G7) main_v13_1 = G7 := by
  show W10 (V9 m c) G6 G7 main_v13_1 = G7
  rw [W10, Function.update_self]

/-- The log-probability of row `n`'s target, of the launch's arguments. -/
def lossAt (n : ℕ) : EReal :=
  if h : n < 8192 then
    rowLoss (fun k => (m ((c.tc : Thread nD τ).loc main_arg0) : S8192x1024.Idx → EReal) (ix2 ⟨n, h⟩ k))
      ((m ((c.tc : Thread nD τ).loc main_arg1) : S8192.Idx → BitVec 32) (ix1 ⟨n, h⟩))
      (m ((c.tc : Thread nD τ).loc main_arg2) : S1024x4003.Idx → EReal)
      (m ((c.tc : Thread nD τ).loc main_arg3) : S1024x256.Idx → EReal) (m ((c.tc : Thread nD τ).loc main_arg4) : S256x16000.Idx → EReal)
      (m ((c.tc : Thread nD τ).loc main_arg5) : S1024x64.Idx → EReal) (m ((c.tc : Thread nD τ).loc main_arg6) : S64x40000.Idx → EReal)
      (m ((c.tc : Thread nD τ).loc main_arg7) : S1024x16.Idx → EReal) (m ((c.tc : Thread nD τ).loc main_arg8) : S16x40000.Idx → EReal)
  else 0

/-- The row of the launch's inputs. -/
abbrev arow (r : Fin 32) (i : Fin 256) : Fin 1024 → EReal := fun k =>
  (m ((c.tc : Thread nD τ).loc main_arg0) : S8192x1024.Idx → EReal) (ix2 ⟨256 * r.val + i.val, by omega⟩ k)

/-- The target of the row. -/
abbrev atgt (r : Fin 32) (i : Fin 256) : BitVec 32 :=
  (m ((c.tc : Thread nD τ).loc main_arg1) : S8192.Idx → BitVec 32) (ix1 ⟨256 * r.val + i.val, by omega⟩)

/-- Row `i` of the `r`-th block of logits is that row of the argument. -/
theorem xrow_eq (r : Fin 32) (i : Fin 256) : xrow (asVals c (V9 m c)) r i = arow m c r i := by
  funext k
  show (V9 m c main_arg0 : S8192x1024.Idx → EReal) _ = _
  rw [V9_arg0]

/-- A column of the padded head weight. -/
theorem head_col (t : Fin 1024 → EReal) (n : ℕ) :
    col t (asVals c (V9 m c) main_v1 : S1024x4096.Idx → EReal) n = col t (m ((c.tc : Thread nD τ).loc main_arg2) : S1024x4003.Idx → EReal) n :=
  col_pad t _ _ (by omega) (V9_v1_apply m c) n

variable (hG : Left0 (asVals c (V9 m c)) G6 G7)
include hG

/-- The head's log-sum-exp. -/
theorem head0 (r : Fin 32) (i : Fin 256) : (G7 : S32x8x256.Idx → EReal) (ix3 r 0 i)
    = lseN 4003 (col (arow m c r i) (m ((c.tc : Thread nD τ).loc main_arg2) : S1024x4003.Idx → EReal)) := by
  rw [left_head0 _ G6 G7 hG r i, xrow_eq, funext (head_col m c (arow m c r i))]
  unfold lseN
  rw [← sum_pad (col (arow m c r i) (m ((c.tc : Thread nD τ).loc main_arg2) : S1024x4003.Idx → EReal)) 4003 93
    fun n hn => by unfold col; rw [dif_neg (by omega)]]
  norm_num

/-- The head's value at the target. -/
theorem head1 (r : Fin 32) (i : Fin 256) : (G7 : S32x8x256.Idx → EReal) (ix3 r 1 i)
    = col (arow m c r i) (m ((c.tc : Thread nD τ).loc main_arg2) : S1024x4003.Idx → EReal) (clip 0#32 3999#32 (atgt m c r i)).toNat := by
  rw [left_head1 _ G6 G7 hG r i, xrow_eq, funext (head_col m c (arow m c r i))]
  have ht : (asVals c (V9 m c) main_v12 : S32x1x256.Idx → BitVec 32) (ix3 r 0 i) = atgt m c r i := V9_v12_apply m c r i
  rw [ht]
  have hc := clip_le 0#32 3999#32 (atgt m c r i) (by decide)
  have hc' : (clip 0#32 3999#32 (atgt m c r i)).toNat ≤ 3999 := hc
  have he : IntOp.minsi 3999#32 (IntOp.maxsi 0#32 (atgt m c r i)) = clip 0#32 3999#32 (atgt m c r i) := by
    unfold clip
    rw [show IntOp.subi (atgt m c r i) 0#32 = atgt m c r i from BitVec.sub_zero _]
  rw [he]
  refine sum_pick (fun n => col (arow m c r i) (m ((c.tc : Thread nD τ).loc main_arg2) : S1024x4003.Idx → EReal) n) 4096 _ (by omega) _ fun n hn => ?_
  generalize clip 0#32 3999#32 (atgt m c r i) = v at hc'
  have key : BitVec.ofNat 32 n = v ↔ n = v.toNat := by
    rw [← BitVec.toNat_inj]
    simp only [BitVec.toNat_ofNat]
    omega
  rw [← key]
  show BitVec.ofBool (BitVec.ofNat 32 n == v) = 1#1 ↔ _
  by_cases h : BitVec.ofNat 32 n = v
  · simp [h]
  · rw [beq_eq_false_iff_ne.mpr h]
    simp [h]

/-- The head's value at cluster 1. -/
theorem head2 (r : Fin 32) (i : Fin 256) : (G7 : S32x8x256.Idx → EReal) (ix3 r 2 i)
    = col (arow m c r i) (m ((c.tc : Thread nD τ).loc main_arg2) : S1024x4003.Idx → EReal) 4000 := by
  rw [left_head2 _ G6 G7 hG r i, xrow_eq, head_col]

/-- The head's value at cluster 2. -/
theorem head3 (r : Fin 32) (i : Fin 256) : (G7 : S32x8x256.Idx → EReal) (ix3 r 3 i)
    = col (arow m c r i) (m ((c.tc : Thread nD τ).loc main_arg2) : S1024x4003.Idx → EReal) 4001 := by
  rw [left_head3 _ G6 G7 hG r i, xrow_eq, head_col]

/-- The head's value at cluster 3. -/
theorem head4 (r : Fin 32) (i : Fin 256) : (G7 : S32x8x256.Idx → EReal) (ix3 r 4 i)
    = col (arow m c r i) (m ((c.tc : Thread nD τ).loc main_arg2) : S1024x4003.Idx → EReal) 4002 := by
  rw [left_head4 _ G6 G7 hG r i, xrow_eq, head_col]

/-- The projected row of cluster 1. -/
theorem prow1_eq (r : Fin 32) (i : Fin 256) : prow1 (asVals c (W10 (V9 m c) G6 G7)) r i
    = fun p => ∑ k, arow m c r i k * (m ((c.tc : Thread nD τ).loc main_arg3) : S1024x256.Idx → EReal) (ix2 k p) := by
  funext p
  unfold prow1
  rw [W10_G6, left_proj1 _ G6 G7 hG r i p, xrow_eq]
  refine Finset.sum_congr rfl fun k _ => ?_
  rw [show (asVals c (V9 m c) main_v2 : S1024x256.Idx → EReal) (ix2 k p) = _ from V9_v2_apply m c (ix2 k p)]

/-- The projected row of cluster 2. -/
theorem prow2_eq (r : Fin 32) (i : Fin 256) : prow2 (asVals c (W10 (V9 m c) G6 G7)) r i
    = fun p => ∑ k, arow m c r i k * (m ((c.tc : Thread nD τ).loc main_arg5) : S1024x64.Idx → EReal) (ix2 k p) := by
  funext p
  unfold prow2
  rw [W10_G6, left_proj2 _ G6 G7 hG r i p, xrow_eq]
  refine Finset.sum_congr rfl fun k _ => ?_
  rw [show (asVals c (V9 m c) main_v3 : S1024x64.Idx → EReal) (ix2 k p) = _ from V9_v3_apply m c (ix2 k p)]

/-- The projected row of cluster 3. -/
theorem prow3_eq (r : Fin 32) (i : Fin 256) : prow3 (asVals c (W10 (V9 m c) G6 G7)) r i
    = fun p => ∑ k, arow m c r i k * (m ((c.tc : Thread nD τ).loc main_arg7) : S1024x16.Idx → EReal) (ix2 k p) := by
  funext p
  unfold prow3
  rw [W10_G6, left_proj3 _ G6 G7 hG r i p, xrow_eq]
  refine Finset.sum_congr rfl fun k _ => ?_
  rw [show (asVals c (V9 m c) main_v4 : S1024x16.Idx → EReal) (ix2 k p) = _ from V9_v4_apply m c (ix2 k p)]

omit hG in
/-- Cluster 1's weight as region 1 finds it. -/
theorem weight1 (p : Fin 256) (n : Fin 16384) : (asVals c (W10 (V9 m c) G6 G7) main_v6 : S256x16384.Idx → EReal) (ix2 p n)
    = (if h : n.val < 16000 then (m ((c.tc : Thread nD τ).loc main_arg4) : S256x16000.Idx → EReal) (ix2 p ⟨n.val, h⟩) else 0 : EReal) := by
  rw [W10_other m c G6 G7 main_v6 (by decide) (by decide)]
  exact V9_v6_apply m c p n

omit hG in
/-- Cluster 2's weight as region 1 finds it. -/
theorem weight2 (p : Fin 64) (n : Fin 40960) : (asVals c (W10 (V9 m c) G6 G7) main_v8 : S64x40960.Idx → EReal) (ix2 p n)
    = (if h : n.val < 40000 then (m ((c.tc : Thread nD τ).loc main_arg6) : S64x40000.Idx → EReal) (ix2 p ⟨n.val, h⟩) else 0 : EReal) := by
  rw [W10_other m c G6 G7 main_v8 (by decide) (by decide)]
  exact V9_v8_apply m c p n

omit hG in
/-- Cluster 3's weight as region 1 finds it. -/
theorem weight3 (p : Fin 16) (n : Fin 40960) : (asVals c (W10 (V9 m c) G6 G7) main_v10 : S16x40960.Idx → EReal) (ix2 p n)
    = (if h : n.val < 40000 then (m ((c.tc : Thread nD τ).loc main_arg8) : S16x40000.Idx → EReal) (ix2 p ⟨n.val, h⟩) else 0 : EReal) := by
  rw [W10_other m c G6 G7 main_v10 (by decide) (by decide)]
  exact V9_v10_apply m c p n

omit hG in
/-- The targets as region 1 finds them. -/
theorem target_eq (r : Fin 32) (i : Fin 256) : (asVals c (W10 (V9 m c) G6 G7) main_v11 : S32x256.Idx → BitVec 32) (ix2 r i) = atgt m c r i := by
  rw [W10_other m c G6 G7 main_v11 (by decide) (by decide)]
  exact V9_v11_apply m c r i

/-- The kernel's loss of a row is the log-probability of its target. -/
theorem kernel_row (r : Fin 32) (i : Fin 256) :
    (lossRow (F := Ideal) (blk1_0 (asVals c (W10 (V9 m c) G6 G7)) (ptOf 59)) (blk1_1 (asVals c (W10 (V9 m c) G6 G7)) (ptOf 59))
      (accAll (newS (asVals c (W10 (V9 m c) G6 G7)))) (accAll (newT (asVals c (W10 (V9 m c) G6 G7)))) r : S256.Idx → EReal) (ix1 i)
      = lossAt m c (256 * r.val + i.val) := by
  rw [lossRow_apply, blk1_0_whole, blk1_1_whole, W10_G7,
    sumS1 _ (m ((c.tc : Thread nD τ).loc main_arg4) : S256x16000.Idx → EReal) (weight1 m c G6 G7) r i,
    sumS2 _ (m ((c.tc : Thread nD τ).loc main_arg6) : S64x40000.Idx → EReal) (weight2 m c G6 G7) r i,
    sumS3 _ (m ((c.tc : Thread nD τ).loc main_arg8) : S16x40000.Idx → EReal) (weight3 m c G6 G7) r i,
    sumT1 _ (m ((c.tc : Thread nD τ).loc main_arg4) : S256x16000.Idx → EReal) (weight1 m c G6 G7) r i,
    sumT2 _ (m ((c.tc : Thread nD τ).loc main_arg6) : S64x40000.Idx → EReal) (weight2 m c G6 G7) r i,
    sumT3 _ (m ((c.tc : Thread nD τ).loc main_arg8) : S16x40000.Idx → EReal) (weight3 m c G6 G7) r i,
    prow1_eq m c G6 G7 hG r i, prow2_eq m c G6 G7 hG r i, prow3_eq m c G6 G7 hG r i, target_eq m c G6 G7 r i,
    head0 m c G6 G7 hG r i, head1 m c G6 G7 hG r i, head2 m c G6 G7 hG r i, head3 m c G6 G7 hG r i, head4 m c G6 G7 hG r i]
  unfold lossAt
  rw [dif_pos (by omega)]
  unfold rowLoss lseN
  simp only [sub_eq_add_neg, add_assoc]

/-- The kernel's result. -/
theorem kernel_value (i : S_.Idx) :
    (StableHlo.after hostOps2 (Wfin m c G6 G7) main_v16 : S_.Idx → EReal) i
      = -(Ideal.div (∑ n ∈ Finset.range 8192, lossAt m c n) ((8192 : ℝ) : EReal)) := by
  have h1 : (StableHlo.after hostOps2 (Wfin m c G6 G7) main_v16 : S_.Idx → EReal) i
      = (out1 (asVals c (W10 (V9 m c) G6 G7)) : S1x128.Idx → EReal) (ix2 0 0) := by
    rw [tail_value, Wfin, W11, Function.update_self]
  rw [h1]
  unfold out1
  rw [pay12_apply]
  simp only [lossAcc_apply _ _ _ _ (lossAt m c) (kernel_row m c G6 G7 hG) _ 32 le_rfl]
  rw [sum_rows]

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunI.Launch
public import proofs.«01_k».proof.Proof.RunP.Launch
public import proofs.«01_k».proof.Proof.Value.Ref
public import proofs.«01_k».proof.Proof.Value.Final
public import Idealize.ShloMosaic.Adequacy
public import Idealize.ShloMosaic.Init

@[expose] public section

noncomputable section

namespace Cert.Proof

open Idealize.ShloMosaic Idealize.SL.Sem Cert.Kernel

/-- The kernel, over bits: every run ends, the arguments are unchanged and every semaphore is at zero. -/
theorem frame_P : Cert.quiescent_Kernel (hKernel := Cert.Kernel.Gen.facts) := fun m g _ =>
  (θ_run Cert.Kernel.defs _ _).mono (fun _ h => ⟨fun c => (h.1 c).2, h.2⟩) (Cert.Kernel.Own.run_main (F := Bits) m g)

/-- The kernel, over extended reals: every run ends, the arguments are unchanged and every semaphore is at zero. -/
theorem frame_PI : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Own.run_main (F := Ideal) m g)

/-- The reference, over extended reals: every run ends, the arguments are unchanged and every semaphore is at zero. -/
theorem frame_RI : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

/-- The idealized text is the kernel's own text. -/
theorem preserves : Cert.preserves_Kernel_KernelIdeal := trivial

/-- The reference's result is minus the mean of the kernel's rows, where the arguments agree. -/
theorem refOut_eq (m : (ℓ : Loc Cert.KernelIdeal.nD Cert.KernelIdeal.τ Cert.KernelIdeal.sig) → Buf (Elt Ideal) ℓ) (c : Dev Cert.KernelIdeal.nD)
    (i : Cert.ReferenceIdeal.S_.Idx) :
    Cert.ReferenceIdeal.Rows.refOut (Cert.ReferenceIdeal.Rows.refVec
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8))) i
      = -(Ideal.div (∑ n ∈ Finset.range 8192, Cert.KernelIdeal.Own.lossAt m c n) ((8192 : ℝ) : EReal)) := by
  rw [Cert.ReferenceIdeal.Rows.refOut_apply, Finset.sum_range]
  refine congrArg (fun z => -(Ideal.div z ((8192 : ℝ) : EReal))) (Finset.sum_congr rfl fun r _ => ?_)
  rw [Cert.ReferenceIdeal.Rows.refVec_apply]
  unfold Cert.KernelIdeal.Own.lossAt
  rw [dif_pos r.isLt]

/-- The reference's vector of log-probabilities depends on its arguments only. -/
theorem refVec_congr {x x' : FVec Ideal Cert.ReferenceIdeal.S8192x1024 .f32} {t t' : IVec Cert.ReferenceIdeal.S8192 32}
    {wh wh' : FVec Ideal Cert.ReferenceIdeal.S1024x4003 .f32}
    {p0 p0' : FVec Ideal Cert.ReferenceIdeal.S1024x256 .f32} {s0 s0' : FVec Ideal Cert.ReferenceIdeal.S256x16000 .f32}
    {p1 p1' : FVec Ideal Cert.ReferenceIdeal.S1024x64 .f32} {s1 s1' : FVec Ideal Cert.ReferenceIdeal.S64x40000 .f32}
    {p2 p2' : FVec Ideal Cert.ReferenceIdeal.S1024x16 .f32} {s2 s2' : FVec Ideal Cert.ReferenceIdeal.S16x40000 .f32}
    (h0 : x = x') (h1 : t = t') (h2 : wh = wh') (h3 : p0 = p0') (h4 : s0 = s0') (h5 : p1 = p1') (h6 : s1 = s1') (h7 : p2 = p2') (h8 : s2 = s2') :
    Cert.ReferenceIdeal.Rows.refVec x t wh p0 s0 p1 s1 p2 s2 = Cert.ReferenceIdeal.Rows.refVec x' t' wh' p0' s0' p1' s1' p2' s2' := by
  subst h0 h1 h2 h3 h4 h5 h6 h7 h8
  rfl

/-- The kernel and the reference, over extended reals, from the same arguments end with the same result. -/
theorem algebraic : Cert.algebraic_KernelIdeal_ReferenceIdeal (hKernelIdeal := Cert.KernelIdeal.Gen.facts) (hReferenceIdeal := Cert.ReferenceIdeal.Gen.facts) :=
  fun m g m' g' _ hag => by
    refine ⟨fun c => Cert.ReferenceIdeal.Rows.refOut (Cert.ReferenceIdeal.Rows.refVec
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8))), ?_, ?_⟩
    · refine (θ_run Cert.KernelIdeal.defs _ _).mono (fun r h c => ⟨?_, (h.1 c).2⟩) (Cert.KernelIdeal.Own.run_main (F := Ideal) m g)
      obtain ⟨⟨G6, G7, hG, he⟩, -⟩ := h.1 c
      rw [he]
      funext i
      exact (Cert.KernelIdeal.Own.kernel_value m c G6 G7 hG i).trans (refOut_eq m c i).symm
    · refine (θ_run Cert.ReferenceIdeal.defs _ _).mono (fun r h c => ⟨(h c).1.trans ?_, (h c).2⟩) (Cert.ReferenceIdeal.Value.run (F := Ideal) m' g')
      obtain ⟨a0, a1, a2, a3, a4, a5, a6, a7, a8⟩ := hag c
      exact congrArg Cert.ReferenceIdeal.Rows.refOut ((Cert.ReferenceIdeal.Rows.v115_eq _).trans (refVec_congr a0 a1 a2 a3 a4 a5 a6 a7 a8))

/-- Every claim of this certificate. -/
theorem claim : Cert.Claim := ⟨Cert.Kernel.Gen.facts, Cert.KernelIdeal.Gen.facts, Cert.ReferenceIdeal.Gen.facts, frame_P, frame_PI, frame_RI, preserves, algebraic⟩

end Cert.Proof

end
